-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v3_2)) (v3 : (c : Dev Cert.KernelIdeal.nD) → Buf (Elt Ideal) ((c.tc : Thread Cert.KernelIdeal.nD Cert.KernelIdeal.τ).loc Cert.KernelIdeal.main_v3_3)) (v4 : (c : Dev Cert.KernelIdeal.nD) → Buf (Elt Ideal) ((c.tc : Thread Cert.KernelIdeal.nD Cert.KernelIdeal.τ).loc Cert.KernelIdeal.main_v3_4)) (v5 : (c : Dev Cert.KernelIdeal.nD) → Buf (Elt Ideal) ((c.tc : Thread Cert.KernelIdeal.nD Cert.KernelIdeal.τ).loc Cert.KernelIdeal.main_v3_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_v3_2) = v2 c
          ∧ r.2.mem ((c.tc : Thread Cert.KernelIdeal.nD Cert.KernelIdeal.τ).loc Cert.KernelIdeal.main_v3_3) = v3 c
          ∧ r.2.mem ((c.tc : Thread Cert.KernelIdeal.nD Cert.KernelIdeal.τ).loc Cert.KernelIdeal.main_v3_4) = v4 c
          ∧ r.2.mem ((c.tc : Thread Cert.KernelIdeal.nD Cert.KernelIdeal.τ).loc Cert.KernelIdeal.main_v3_5) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3_0) = v0 c
          ∧ r.2.mem ((c.tc : Thread Cert.ReferenceIdeal.nD Cert.ReferenceIdeal.τ).loc Cert.ReferenceIdeal.main_v3_1) = v1 c
          ∧ r.2.mem ((c.tc : Thread Cert.ReferenceIdeal.nD Cert.ReferenceIdeal.τ).loc Cert.ReferenceIdeal.main_v3_2) = v2 c
          ∧ r.2.mem ((c.tc : Thread Cert.ReferenceIdeal.nD Cert.ReferenceIdeal.τ).loc Cert.ReferenceIdeal.main_v3_3) = v3 c
          ∧ r.2.mem ((c.tc : Thread Cert.ReferenceIdeal.nD Cert.ReferenceIdeal.τ).loc Cert.ReferenceIdeal.main_v3_4) = v4 c
          ∧ r.2.mem ((c.tc : Thread Cert.ReferenceIdeal.nD Cert.ReferenceIdeal.τ).loc Cert.ReferenceIdeal.main_v3_5) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel)
    ∧ quiescent_KernelIdeal (hKernelIdeal := hKernelIdeal)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal_pre_in_range (hKernelIdeal := hKernelIdeal) (hReferenceIdeal := hReferenceIdeal) (hPre_in_range := hPre_in_range)
-- ==== Pre_in_range.lean ====
abbrev S1x256x3584 : Shape := ⟨3, ![1, 256, 3584]⟩
abbrev S3584x18944 : Shape := ⟨2, ![3584, 18944]⟩
abbrev S18944 : Shape := ⟨1, ![18944]⟩
abbrev S_ : Shape := ⟨0, ![]⟩

class Facts : Prop where
  bcast_S_S1x256x3584 : S_.BroadcastsInDim S1x256x3584 (![] : Fin 0 → Fin S1x256x3584.rank)

variable [Facts]

def fn {F : FTy → Type} [FloatOps F] (main_arg0 : IVec S1x256x3584 32) (main_arg1 : IVec S3584x18944 8) (main_arg2 : IVec S3584x18944 8) (main_arg3 : IVec S18944 32) (main_arg4 : IVec S18944 32) : IVec S1x256x3584 1 :=
  let main_c : IVec S_ 32 := constantI S_ 32 4286578688#32
  let main_v0 : IVec S1x256x3584 32 := broadcastInDim S1x256x3584 ![] bcast_S_S1x256x3584 main_c
  let main_v1 : IVec S1x256x3584 1 := cmpi .sgt main_arg0 main_v0
  let main_c_0 : IVec S_ 32 := constantI S_ 32 8388608#32
  let main_v2 : IVec S1x256x3584 32 := broadcastInDim S1x256x3584 ![] bcast_S_S1x256x3584 main_c_0
  let main_v3 : IVec S1x256x3584 1 := cmpi .slt main_arg0 main_v2
  let main_v4 : IVec S1x256x3584 1 := andi main_v1 main_v3
  main_v4
-- ==== Kernel.lean ====
abbrev S1x256x3584 : Shape := ⟨3, ![1, 256, 3584]⟩
abbrev S3584x18944 : Shape := ⟨2, ![3584, 18944]⟩
abbrev S18944 : Shape := ⟨1, ![18944]⟩
abbrev S256x3584 : Shape := ⟨2, ![256, 3584]⟩
abbrev S1x18944 : Shape := ⟨2, ![1, 18944]⟩
abbrev S256x18944 : Shape := ⟨2, ![256, 18944]⟩
abbrev S1x256 : Shape := ⟨2, ![1, 256]⟩
abbrev S3584x512 : Shape := ⟨2, ![3584, 512]⟩
abbrev S1x512 : Shape := ⟨2, ![1, 512]⟩
abbrev S37x256x512 : Shape := ⟨3, ![37, 256, 512]⟩
abbrev S256x128 : Shape := ⟨2, ![256, 128]⟩
abbrev S32x3584 : Shape := ⟨2, ![32, 3584]⟩
abbrev S32 : Shape := ⟨1, ![32]⟩
abbrev S32x1 : Shape := ⟨2, ![32, 1]⟩
abbrev S32x128 : Shape := ⟨2, ![32, 128]⟩
abbrev S128x128 : Shape := ⟨2, ![128, 128]⟩
abbrev S128 : Shape := ⟨1, ![128]⟩
abbrev S1x128 : Shape := ⟨2, ![1, 128]⟩
abbrev S256x1 : Shape := ⟨2, ![256, 1]⟩
abbrev S256x1024 : Shape := ⟨2, ![256, 1024]⟩
abbrev S1024x512 : Shape := ⟨2, ![1024, 512]⟩
abbrev S256x512 : Shape := ⟨2, ![256, 512]⟩
abbrev S256x768 : Shape := ⟨2, ![256, 768]⟩
abbrev S768x512 : Shape := ⟨2, ![768, 512]⟩
abbrev S1x256x512 : Shape := ⟨3, ![1, 256, 512]⟩
abbrev S256 : Shape := ⟨1, ![256]⟩

abbrev nBuf : Space → Nat
  | .hbm => 14
  | .vmem => 20
  | .smem => 0
  | _ => 0

abbrev bufTy : (tb : Table) → Fin (tcTables nBuf tb) → BufTy
  | .hbm, ⟨0, _⟩ => ⟨S1x256x3584, .i32⟩
  | .hbm, ⟨1, _⟩ => ⟨S3584x18944, .i8⟩
  | .hbm, ⟨2, _⟩ => ⟨S3584x18944, .i8⟩
  | .hbm, ⟨3, _⟩ => ⟨S18944, .i32⟩
  | .hbm, ⟨4, _⟩ => ⟨S18944, .i32⟩
  | .hbm, ⟨5, _⟩ => ⟨S256x3584, .i32⟩
  | .hbm, ⟨6, _⟩ => ⟨S1x18944, .i32⟩
  | .hbm, ⟨7, _⟩ => ⟨S1x18944, .i32⟩
  | .hbm, ⟨8, _⟩ => ⟨S256x18944, .i8⟩
  | .hbm, ⟨9, _⟩ => ⟨S1x256, .i32⟩
  | .hbm, ⟨10, _⟩ => ⟨S1x256, .i32⟩
  | .hbm, ⟨11, _⟩ => ⟨S256x3584, .i8⟩
  | .hbm, ⟨12, _⟩ => ⟨S1x256, .i32⟩
  | .hbm, ⟨13, _⟩ => ⟨S1x256, .i32⟩
  | .local _ .vmem, ⟨0, _⟩ => ⟨S256x3584, .i32⟩
  | .local _ .vmem, ⟨1, _⟩ => ⟨S3584x512, .i8⟩
  | .local _ .vmem, ⟨2, _⟩ => ⟨S3584x512, .i8⟩
  | .local _ .vmem, ⟨3, _⟩ => ⟨S3584x512, .i8⟩
  | .local _ .vmem, ⟨4, _⟩ => ⟨S3584x512, .i8⟩
  | .local _ .vmem, ⟨5, _⟩ => ⟨S1x512, .i32⟩
  | .local _ .vmem, ⟨6, _⟩ => ⟨S1x512, .i32⟩
  | .local _ .vmem, ⟨7, _⟩ => ⟨S1x512, .i32⟩
  | .local _ .vmem, ⟨8, _⟩ => ⟨S1x512, .i32⟩
  | .local _ .vmem, ⟨9, _⟩ => ⟨S256x18944, .i8⟩
  | .local _ .vmem, ⟨10, _⟩ => ⟨S1x256, .i32⟩
  | .local _ .vmem, ⟨11, _⟩ => ⟨S1x256, .i32⟩
  | .local _ .vmem, ⟨12, _⟩ => ⟨S256x3584, .i8⟩
  | .local _ .vmem, ⟨13, _⟩ => ⟨S1x256, .i32⟩
  | .local _ .vmem, ⟨14, _⟩ => ⟨S1x256, .i32⟩
  | .local _ .vmem, ⟨15, _⟩ => ⟨S256x3584, .bf16⟩
  | .local _ .vmem, ⟨16, _⟩ => ⟨S37x256x512, .f32⟩
  | .local _ .vmem, ⟨17, _⟩ => ⟨S256x128, .i32⟩
  | .local _ .vmem, ⟨18, _⟩ => ⟨S256x128, .i32⟩
  | .local _ .vmem, ⟨19, _⟩ => ⟨S256x128, .f32⟩
  | _, _ => ⟨S1x256x3584, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev main_v3_4 : Ref sig .tc := ⟨.hbm, 12, rfl⟩
abbrev main_v3_5 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_scratch3 : Ref sig .tc := ⟨.vmem, 18, rfl⟩
abbrev cc0_scratch4 : Ref sig .tc := ⟨.vmem, 19, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14

abbrev nD : Nat := 1
abbrev τ : Topo := Topo.v7x

variable {F : FTy → Type} [FloatOps F]

abbrev grid0 : Pipeline.Grid := ⟨1, ![37], ![false]⟩

def k0_off1 (i : grid0.Coords) : Fin 3 → Nat :=
  let arg0 : BitVec 32 := BitVec.ofNat 32 (i 0).val
  let v141 : Index := Scalar.indexCast arg0
  let c0_59 : Index := 0#32
  let c0_60 : Index := 0#32
  ![v141.toNat, 0, 0]
def k0_cond2 (i : grid0.Coords) : BitVec 1 :=
  let arg0 : BitVec 32 := BitVec.ofNat 32 (i 0).val
  let c36_i32 : BitVec 32 := 36#32
  let v161 : BitVec 1 := Scalar.cmpi .eq arg0 c36_i32
  let v162 : BitVec 32 := Scalar.extui v161
  let c0_i32_65 : BitVec 32 := 0#32
  let v163 : BitVec 1 := Scalar.cmpi .ne v162 c0_i32_65
  v163

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x3584 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S3584x512 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S3584x512 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x512 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S256x18944 .i8 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .i32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .i32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x3584 .i8 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x256 .i32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x256 .i32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== ReferenceIdeal.lean ====
abbrev S1x256x3584 : Shape := ⟨3, ![1, 256, 3584]⟩
abbrev S3584x18944 : Shape := ⟨2, ![3584, 18944]⟩
abbrev S18944 : Shape := ⟨1, ![18944]⟩
abbrev S256x3584 : Shape := ⟨2, ![256, 3584]⟩
abbrev S1x18944 : Shape := ⟨2, ![1, 18944]⟩
abbrev S256x18944 : Shape := ⟨2, ![256, 18944]⟩
abbrev S1x256 : Shape := ⟨2, ![1, 256]⟩
abbrev S256 : Shape := ⟨1, ![256]⟩
abbrev S256x1 : Shape := ⟨2, ![256, 1]⟩

abbrev nBuf : Space → Nat
  | .hbm => 14
  | .vmem => 11
  | .smem => 0
  | _ => 0

abbrev bufTy : (tb : Table) → Fin (tcTables nBuf tb) → BufTy
  | .hbm, ⟨0, _⟩ => ⟨S1x256x3584, .i32⟩
  | .hbm, ⟨1, _⟩ => ⟨S3584x18944, .i8⟩
  | .hbm, ⟨2, _⟩ => ⟨S3584x18944, .i8⟩
  | .hbm, ⟨3, _⟩ => ⟨S18944, .i32⟩
  | .hbm, ⟨4, _⟩ => ⟨S18944, .i32⟩
  | .hbm, ⟨5, _⟩ => ⟨S256x3584, .i32⟩
  | .hbm, ⟨6, _⟩ => ⟨S1x18944, .i32⟩
  | .hbm, ⟨7, _⟩ => ⟨S1x18944, .i32⟩
  | .hbm, ⟨8, _⟩ => ⟨S256x18944, .i8⟩
  | .hbm, ⟨9, _⟩ => ⟨S1x256, .i32⟩
  | .hbm, ⟨10, _⟩ => ⟨S1x256, .i32⟩
  | .hbm, ⟨11, _⟩ => ⟨S256x3584, .i8⟩
  | .hbm, ⟨12, _⟩ => ⟨S1x256, .i32⟩
  | .hbm, ⟨13, _⟩ => ⟨S1x256, .i32⟩
  | .local _ .vmem, ⟨0, _⟩ => ⟨S256x3584, .i32⟩
  | .local _ .vmem, ⟨1, _⟩ => ⟨S3584x18944, .i8⟩
  | .local _ .vmem, ⟨2, _⟩ => ⟨S3584x18944, .i8⟩
  | .local _ .vmem, ⟨3, _⟩ => ⟨S1x18944, .i32⟩
  | .local _ .vmem, ⟨4, _⟩ => ⟨S1x18944, .i32⟩
  | .local _ .vmem, ⟨5, _⟩ => ⟨S256x18944, .i8⟩
  | .local _ .vmem, ⟨6, _⟩ => ⟨S1x256, .i32⟩
  | .local _ .vmem, ⟨7, _⟩ => ⟨S1x256, .i32⟩
  | .local _ .vmem, ⟨8, _⟩ => ⟨S256x3584, .i8⟩
  | .local _ .vmem, ⟨9, _⟩ => ⟨S1x256, .i32⟩
  | .local _ .vmem, ⟨10, _⟩ => ⟨S1x256, .i32⟩
  | _, _ => ⟨S1x256x3584, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev main_v3_4 : Ref sig .tc := ⟨.hbm, 12, rfl⟩
abbrev main_v3_5 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := .none

abbrev stage0_0 : Fin 1 → Memref sig .tc .vmem S256x3584 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3584x18944 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3584x18944 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x18944 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x18944 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S256x18944 .i8 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x256 .i32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x256 .i32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S256x3584 .i8 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x256 .i32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x256 .i32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
-- ==== Proof.Kernel.Points.lean ====
/- The grid points: which of the body's branches a point takes, and the buffers the body is called with. -/
module

public import proofs.«01_k».proof.Proof.Gen.Kernel.Frame
public import proofs.«01_k».proof.Proof.Gen.Kernel.Skeleton
public import Idealize.ShloMosaic.Lib.Tactic

@[expose] public section

set_option maxRecDepth 16384

noncomputable section

namespace Cert.Kernel.Val

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 37 = 0 :=
  (fun t => by
    have ht : t.val < 37 := Nat.lt_of_lt_of_eq t.isLt N_0
    have e0 : (grid0.coords t 0).val = t.val / 1 % 37 := Pipeline.Grid.coords_val t 0 (by decide) rfl
    simp only [cond0_0, k0_cond1, e0]
    word_cmp
   : ∀ t : Fin grid0.N, cond0_0 (grid0.coords t) ↔ t.val % 37 = 0)

/-- The condition of the body's `scf.if` 1 (`k0_h2`), from the grid coordinates (the skeleton's scalar
    chain substituted). -/
abbrev cond0_1 (i : grid0.Coords) : Prop := k0_cond2 i = 1#1
/-- It holds at the last point only — by arithmetic of the point. -/
theorem hcond0_1 : ∀ t : Fin cfg0.N, cond0_1 (grid0.coords t) ↔ t.val % 37 = 36 :=
  (fun t => by
    have ht : t.val < 37 := Nat.lt_of_lt_of_eq t.isLt N_0
    have e0 : (grid0.coords t 0).val = t.val / 1 % 37 := Pipeline.Grid.coords_val t 0 (by decide) rfl
    simp only [cond0_1, k0_cond2, e0]
    word_cmp
   : ∀ t : Fin grid0.N, cond0_1 (grid0.coords t) ↔ t.val % 37 = 36)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S256x3584 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S3584x512 .i8 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S3584x512 .i8 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x512 .i32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x512 .i32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S256x18944 .i8 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x256 .i32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x256 .i32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S256x3584 .i8 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x256 .i32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x256 .i32 := win0_10.stage (cfg0.slots t 10)
abbrev hs0_10 (t : Fin cfg0.N) : (ms0_10 t).IsWhole := hstage0_10 ((cfg0.slots t 10).cast nbuf0_10)
/-- The scratch operands: whole scoped buffers of the kernel's own, passed beside the windows. -/
abbrev scM0_0 : Memref sig .tc .vmem S256x3584 .bf16 := Memref.whole cc0_scratch0
abbrev scM0_1 : Memref sig .tc .vmem S37x256x512 .f32 := Memref.whole cc0_scratch1
abbrev scM0_2 : Memref sig .tc .vmem S256x128 .i32 := Memref.whole cc0_scratch2
abbrev scM0_3 : Memref sig .tc .vmem S256x128 .i32 := Memref.whole cc0_scratch3
abbrev scM0_4 : Memref sig .tc .vmem S256x128 .f32 := Memref.whole cc0_scratch4
/-- The scratch `arg12` the kernel carries between points, as a view: what it holds is stated through it. -/
abbrev VS0_0 : View sig .tc .vmem S256x3584 .bf16 := scM0_0.view
/-- The scratch `arg14` the kernel carries between points, as a view: what it holds is stated through it. -/
abbrev VS0_2 : View sig .tc .vmem S256x128 .i32 := scM0_2.view
/-- The scratch `arg15` the kernel carries between points, as a view: what it holds is stated through it. -/
abbrev VS0_3 : View sig .tc .vmem S256x128 .i32 := scM0_3.view
/-- The scratch `arg16` the kernel carries between points, as a view: what it holds is stated through it. -/
abbrev VS0_4 : View sig .tc .vmem S256x128 .f32 := scM0_4.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d)) ∗ (∃ r, prngReg c r)) := by
  unfold Pipeline.ΦA; rw [scopedRest0_eq]; simp only [scM0_0, scM0_1, scM0_2, scM0_3, scM0_4, owns_whole]; try rfl

end Cert.Kernel.Val

end
-- ==== Proof.Kernel.RunA.lean ====
/- The kernel body at the first grid point. -/
module

public import proofs.«01_k».proof.Proof.Kernel.Points

@[expose] public section

set_option maxRecDepth 16384

noncomputable section

namespace Cert.Kernel.Val

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

set_option maxHeartbeats 1600000 in
/-- The body at the first grid point, where the rows of `x` are quantised before the block is computed: the pieces its stores leave in each buffer they touch, last
    first, with the proof that the body runs from the inputs' contents to a state where those pieces are
    written. The buffers of `h` keep their earlier contents `hs` under the piece written here. -/
noncomputable def runA (c : Dev nD) (i : grid0.Coords) (arg1 : Memref sig .tc .vmem S256x3584 .i32) (harg1 : arg1.IsWhole) (arg2 : Memref sig .tc .vmem S3584x512 .i8) (harg2 : arg2.IsWhole) (arg3 : Memref sig .tc .vmem S3584x512 .i8) (harg3 : arg3.IsWhole) (arg4 : Memref sig .tc .vmem S1x512 .i32) (harg4 : arg4.IsWhole) (arg5 : Memref sig .tc .vmem S1x512 .i32) (harg5 : arg5.IsWhole) (arg6 : Memref sig .tc .vmem S256x18944 .i8) (harg6 : arg6.IsWhole) (arg7 : Memref sig .tc .vmem S1x256 .i32) (harg7 : arg7.IsWhole) (arg8 : Memref sig .tc .vmem S1x256 .i32) (harg8 : arg8.IsWhole) (arg9 : Memref sig .tc .vmem S256x3584 .i8) (harg9 : arg9.IsWhole) (arg10 : Memref sig .tc .vmem S1x256 .i32) (harg10 : arg10.IsWhole) (arg11 : Memref sig .tc .vmem S1x256 .i32) (harg11 : arg11.IsWhole) (arg12 : Memref sig .tc .vmem S256x3584 .bf16) (harg12 : arg12.IsWhole) (arg13 : Memref sig .tc .vmem S37x256x512 .f32) (harg13 : arg13.IsWhole) (arg14 : Memref sig .tc .vmem S256x128 .i32) (harg14 : arg14.IsWhole) (arg15 : Memref sig .tc .vmem S256x128 .i32) (harg15 : arg15.IsWhole) (arg16 : Memref sig .tc .vmem S256x128 .f32) (harg16 : arg16.IsWhole)
    (hc0 : cond0_0 i) (hc1 : ¬ cond0_1 i)
    (x0 : Vec F S256x3584 .i32) (x1 : Vec F S3584x512 .i8) (x2 : Vec F S3584x512 .i8) (x3 : Vec F S1x512 .i32) (x4 : Vec F S1x512 .i32) (hs : Vec F S37x256x512 .f32) :
    Σ' (L8 : List (View.Piece (Elt F) S256x3584 .i8)), Σ' (L9 : List (View.Piece (Elt F) S1x256 .i32)), Σ' (L10 : List (View.Piece (Elt F) S1x256 .i32)), Σ' (LS0 : List (View.Piece (Elt F) S256x3584 .bf16)), Σ' (LS1 : List (View.Piece (Elt F) S37x256x512 .f32)), Σ' (LS2 : List (View.Piece (Elt F) S256x128 .i32)), Σ' (LS3 : List (View.Piece (Elt F) S256x128 .i32)), { LS4 : List (View.Piece (Elt F) S256x128 .f32) //
      ∀ (E : Set ℕ) (K : PUnit → sProp 𝕄),
        iprop(owns (c : Thread nD τ) arg1 fullShare x0
          ∗ owns (c : Thread nD τ) arg2 fullShare x1
          ∗ owns (c : Thread nD τ) arg3 fullShare x2
          ∗ owns (c : Thread nD τ) arg4 fullShare x3
          ∗ owns (c : Thread nD τ) arg5 fullShare x4
          ∗ (∃ d, owns (c : Thread nD τ) arg9 fullShare d)
          ∗ (∃ d, owns (c : Thread nD τ) arg10 fullShare d)
          ∗ (∃ d, owns (c : Thread nD τ) arg11 fullShare d)
          ∗ (∃ d, owns (c : Thread nD τ) arg12 fullShare d)
          ∗ owns (c : Thread nD τ) arg13 fullShare hs
          ∗ (∃ d, owns (c : Thread nD τ) arg14 fullShare d)
          ∗ (∃ d, owns (c : Thread nD τ) arg15 fullShare d)
          ∗ (∃ d, owns (c : Thread nD τ) arg16 fullShare d)
          ∗ (iprop(owns (c : Thread nD τ) arg1 fullShare x0
          ∗ owns (c : Thread nD τ) arg2 fullShare x1
          ∗ owns (c : Thread nD τ) arg3 fullShare x2
          ∗ owns (c : Thread nD τ) arg4 fullShare x3
          ∗ owns (c : Thread nD τ) arg5 fullShare x4
          ∗ (∃ f, arg9.view.loc (c : Thread nD τ) ↦[arg9.view.set]{fullShare} arg9.view.writes (Elt F) f L8)
          ∗ (∃ f, arg10.view.loc (c : Thread nD τ) ↦[arg10.view.set]{fullShare} arg10.view.writes (Elt F) f L9)
          ∗ (∃ f, arg11.view.loc (c : Thread nD τ) ↦[arg11.view.set]{fullShare} arg11.view.writes (Elt F) f L10)
          ∗ (∃ f, arg12.view.loc (c : Thread nD τ) ↦[arg12.view.set]{fullShare} arg12.view.writes (Elt F) f LS0)
          ∗ (arg13.view.loc (c : Thread nD τ) ↦[arg13.view.set]{fullShare} arg13.view.writes (Elt F) (harg13.unread hs) LS1)
          ∗ (∃ f, arg14.view.loc (c : Thread nD τ) ↦[arg14.view.set]{fullShare} arg14.view.writes (Elt F) f LS2)
          ∗ (∃ f, arg15.view.loc (c : Thread nD τ) ↦[arg15.view.set]{fullShare} arg15.view.writes (Elt F) f LS3)
          ∗ (∃ f, arg16.view.loc (c : Thread nD τ) ↦[arg16.view.set]{fullShare} arg16.view.writes (Elt F) f LS4)) -∗ K ⟨⟩))
          ⊢ wp frame (wpE (defs₀ (F := F)) Variants.none c none) E (cc0_int_swiglu i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, ?_, ?_, ?_, ?_, ?_, ?_, fun E K => ?run⟩
  case run =>
    simp only [cc0_int_swiglu_eq_skeleton]; unfold cc0_int_swiglu_skel
    simp only [k0_part33_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part34_eq_skeleton, k0_part35_eq_skeleton, k0_part36_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d8, %f8, -, H8⟩, ⟨%d9, %f9, -, H9⟩, ⟨%d10, %f10, -, H10⟩, ⟨%ds0, %fs0, -, HS0⟩, ⟨%fs1, %hfs1, HS1⟩, ⟨%ds2, %fs2, -, HS2⟩, ⟨%ds3, %fs3, -, HS3⟩, ⟨%ds4, %fs4, -, HS4⟩, Hk⟩
    obtain rfl := harg1.eq_unread hf0; obtain rfl := harg2.eq_unread hf1; obtain rfl := harg3.eq_unread hf2; obtain rfl := harg4.eq_unread hf3; obtain rfl := harg5.eq_unread hf4; obtain rfl := harg13.eq_unread hfs1
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H8]; · iexists _; iexact H8
    isplitl [H9]; · iexists _; iexact H9
    isplitl [H10]; · iexists _; iexact H10
    isplitl [HS0]; · iexists _; iexact HS0
    isplitl [HS1]; · iexact HS1
    isplitl [HS2]; · iexists _; iexact HS2
    isplitl [HS3]; · iexists _; iexact HS3
    iexists _; iexact HS4

end Cert.Kernel.Val

end
-- ==== Proof.Kernel.RunB.lean ====
/- The kernel body at a middle grid point. -/
module

public import proofs.«01_k».proof.Proof.Kernel.RunA

@[expose] public section

set_option maxRecDepth 16384

noncomputable section

namespace Cert.Kernel.Val

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

set_option maxHeartbeats 1600000 in
/-- The body at a middle grid point, where only the block is computed: the pieces its stores leave in each buffer they touch, last
    first, with the proof that the body runs from the inputs' contents to a state where those pieces are
    written. The buffers of `h` keep their earlier contents `hs` under the piece written here. -/
noncomputable def runB (c : Dev nD) (i : grid0.Coords) (arg1 : Memref sig .tc .vmem S256x3584 .i32) (harg1 : arg1.IsWhole) (arg2 : Memref sig .tc .vmem S3584x512 .i8) (harg2 : arg2.IsWhole) (arg3 : Memref sig .tc .vmem S3584x512 .i8) (harg3 : arg3.IsWhole) (arg4 : Memref sig .tc .vmem S1x512 .i32) (harg4 : arg4.IsWhole) (arg5 : Memref sig .tc .vmem S1x512 .i32) (harg5 : arg5.IsWhole) (arg6 : Memref sig .tc .vmem S256x18944 .i8) (harg6 : arg6.IsWhole) (arg7 : Memref sig .tc .vmem S1x256 .i32) (harg7 : arg7.IsWhole) (arg8 : Memref sig .tc .vmem S1x256 .i32) (harg8 : arg8.IsWhole) (arg9 : Memref sig .tc .vmem S256x3584 .i8) (harg9 : arg9.IsWhole) (arg10 : Memref sig .tc .vmem S1x256 .i32) (harg10 : arg10.IsWhole) (arg11 : Memref sig .tc .vmem S1x256 .i32) (harg11 : arg11.IsWhole) (arg12 : Memref sig .tc .vmem S256x3584 .bf16) (harg12 : arg12.IsWhole) (arg13 : Memref sig .tc .vmem S37x256x512 .f32) (harg13 : arg13.IsWhole) (arg14 : Memref sig .tc .vmem S256x128 .i32) (harg14 : arg14.IsWhole) (arg15 : Memref sig .tc .vmem S256x128 .i32) (harg15 : arg15.IsWhole) (arg16 : Memref sig .tc .vmem S256x128 .f32) (harg16 : arg16.IsWhole)
    (hc0 : ¬ cond0_0 i) (hc1 : ¬ cond0_1 i)
    (x0 : Vec F S256x3584 .i32) (x1 : Vec F S3584x512 .i8) (x2 : Vec F S3584x512 .i8) (x3 : Vec F S1x512 .i32) (x4 : Vec F S1x512 .i32) (xs0 : Vec F S256x3584 .bf16) (hs : Vec F S37x256x512 .f32) (xs2 : Vec F S256x128 .i32) (xs3 : Vec F S256x128 .i32) (xs4 : Vec F S256x128 .f32) :
    Σ' (LS1 : List (View.Piece (Elt F) S37x256x512 .f32)), { LS4 : List (View.Piece (Elt F) S256x128 .f32) //
      ∀ (E : Set ℕ) (K : PUnit → sProp 𝕄),
        iprop(owns (c : Thread nD τ) arg1 fullShare x0
          ∗ owns (c : Thread nD τ) arg2 fullShare x1
          ∗ owns (c : Thread nD τ) arg3 fullShare x2
          ∗ owns (c : Thread nD τ) arg4 fullShare x3
          ∗ owns (c : Thread nD τ) arg5 fullShare x4
          ∗ owns (c : Thread nD τ) arg12 fullShare xs0
          ∗ owns (c : Thread nD τ) arg13 fullShare hs
          ∗ owns (c : Thread nD τ) arg14 fullShare xs2
          ∗ owns (c : Thread nD τ) arg15 fullShare xs3
          ∗ owns (c : Thread nD τ) arg16 fullShare xs4
          ∗ (iprop(owns (c : Thread nD τ) arg1 fullShare x0
          ∗ owns (c : Thread nD τ) arg2 fullShare x1
          ∗ owns (c : Thread nD τ) arg3 fullShare x2
          ∗ owns (c : Thread nD τ) arg4 fullShare x3
          ∗ owns (c : Thread nD τ) arg5 fullShare x4
          ∗ owns (c : Thread nD τ) arg12 fullShare xs0
          ∗ (arg13.view.loc (c : Thread nD τ) ↦[arg13.view.set]{fullShare} arg13.view.writes (Elt F) (harg13.unread hs) LS1)
          ∗ owns (c : Thread nD τ) arg14 fullShare xs2
          ∗ owns (c : Thread nD τ) arg15 fullShare xs3
          ∗ (∃ f, arg16.view.loc (c : Thread nD τ) ↦[arg16.view.set]{fullShare} arg16.view.writes (Elt F) f LS4)) -∗ K ⟨⟩))
          ⊢ wp frame (wpE (defs₀ (F := F)) Variants.none c none) E (cc0_int_swiglu i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, fun E K => ?run⟩
  case run =>
    simp only [cc0_int_swiglu_eq_skeleton]; unfold cc0_int_swiglu_skel
    simp only [k0_part33_eq_skeleton, k0_part34_eq_skeleton, k0_part35_eq_skeleton, k0_part36_eq_skeleton]
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, ⟨%fs2, %hfs2, HS2⟩, ⟨%fs3, %hfs3, HS3⟩, ⟨%fs4, %hfs4, HS4⟩, Hk⟩
    obtain rfl := harg1.eq_unread hf0; obtain rfl := harg2.eq_unread hf1; obtain rfl := harg3.eq_unread hf2; obtain rfl := harg4.eq_unread hf3; obtain rfl := harg5.eq_unread hf4; obtain rfl := harg12.eq_unread hfs0; obtain rfl := harg13.eq_unread hfs1; obtain rfl := harg14.eq_unread hfs2; obtain rfl := harg15.eq_unread hfs3; obtain rfl := harg16.eq_unread hfs4
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [HS0]
    · iexists _; isplitr; · ipureintro; exact harg12.read_unread _
      iexact HS0
    isplitl [HS1]; · iexact HS1
    isplitl [HS2]
    · iexists _; isplitr; · ipureintro; exact harg14.read_unread _
      iexact HS2
    isplitl [HS3]
    · iexists _; isplitr; · ipureintro; exact harg15.read_unread _
      iexact HS3
    iexists _; iexact HS4

end Cert.Kernel.Val

end
-- ==== Proof.Kernel.RunC.lean ====
/- The kernel body at the last grid point. -/
module

public import proofs.«01_k».proof.Proof.Kernel.RunB

@[expose] public section

set_option maxRecDepth 16384

noncomputable section

namespace Cert.Kernel.Val

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

set_option maxHeartbeats 3200000 in
/-- The body at the last grid point, where the whole of `h` is requantised after the block is computed: the pieces its stores leave in each buffer they touch, last
    first, with the proof that the body runs from the inputs' contents to a state where those pieces are
    written. The buffers of `h` keep their earlier contents `hs` under the piece written here. -/
noncomputable def runC (c : Dev nD) (i : grid0.Coords) (arg1 : Memref sig .tc .vmem S256x3584 .i32) (harg1 : arg1.IsWhole) (arg2 : Memref sig .tc .vmem S3584x512 .i8) (harg2 : arg2.IsWhole) (arg3 : Memref sig .tc .vmem S3584x512 .i8) (harg3 : arg3.IsWhole) (arg4 : Memref sig .tc .vmem S1x512 .i32) (harg4 : arg4.IsWhole) (arg5 : Memref sig .tc .vmem S1x512 .i32) (harg5 : arg5.IsWhole) (arg6 : Memref sig .tc .vmem S256x18944 .i8) (harg6 : arg6.IsWhole) (arg7 : Memref sig .tc .vmem S1x256 .i32) (harg7 : arg7.IsWhole) (arg8 : Memref sig .tc .vmem S1x256 .i32) (harg8 : arg8.IsWhole) (arg9 : Memref sig .tc .vmem S256x3584 .i8) (harg9 : arg9.IsWhole) (arg10 : Memref sig .tc .vmem S1x256 .i32) (harg10 : arg10.IsWhole) (arg11 : Memref sig .tc .vmem S1x256 .i32) (harg11 : arg11.IsWhole) (arg12 : Memref sig .tc .vmem S256x3584 .bf16) (harg12 : arg12.IsWhole) (arg13 : Memref sig .tc .vmem S37x256x512 .f32) (harg13 : arg13.IsWhole) (arg14 : Memref sig .tc .vmem S256x128 .i32) (harg14 : arg14.IsWhole) (arg15 : Memref sig .tc .vmem S256x128 .i32) (harg15 : arg15.IsWhole) (arg16 : Memref sig .tc .vmem S256x128 .f32) (harg16 : arg16.IsWhole)
    (hc0 : ¬ cond0_0 i) (hc1 : cond0_1 i)
    (x0 : Vec F S256x3584 .i32) (x1 : Vec F S3584x512 .i8) (x2 : Vec F S3584x512 .i8) (x3 : Vec F S1x512 .i32) (x4 : Vec F S1x512 .i32) (xs0 : Vec F S256x3584 .bf16) (hs : Vec F S37x256x512 .f32) (xs2 : Vec F S256x128 .i32) (xs3 : Vec F S256x128 .i32) (xs4 : Vec F S256x128 .f32) :
    Σ' (L5 : List (View.Piece (Elt F) S256x18944 .i8)), Σ' (L6 : List (View.Piece (Elt F) S1x256 .i32)), Σ' (L7 : List (View.Piece (Elt F) S1x256 .i32)), Σ' (LS1 : List (View.Piece (Elt F) S37x256x512 .f32)), { LS4 : List (View.Piece (Elt F) S256x128 .f32) //
      ∀ (E : Set ℕ) (K : PUnit → sProp 𝕄),
        iprop(owns (c : Thread nD τ) arg1 fullShare x0
          ∗ owns (c : Thread nD τ) arg2 fullShare x1
          ∗ owns (c : Thread nD τ) arg3 fullShare x2
          ∗ owns (c : Thread nD τ) arg4 fullShare x3
          ∗ owns (c : Thread nD τ) arg5 fullShare x4
          ∗ (∃ d, owns (c : Thread nD τ) arg6 fullShare d)
          ∗ (∃ d, owns (c : Thread nD τ) arg7 fullShare d)
          ∗ (∃ d, owns (c : Thread nD τ) arg8 fullShare d)
          ∗ owns (c : Thread nD τ) arg12 fullShare xs0
          ∗ owns (c : Thread nD τ) arg13 fullShare hs
          ∗ owns (c : Thread nD τ) arg14 fullShare xs2
          ∗ owns (c : Thread nD τ) arg15 fullShare xs3
          ∗ owns (c : Thread nD τ) arg16 fullShare xs4
          ∗ (iprop(owns (c : Thread nD τ) arg1 fullShare x0
          ∗ owns (c : Thread nD τ) arg2 fullShare x1
          ∗ owns (c : Thread nD τ) arg3 fullShare x2
          ∗ owns (c : Thread nD τ) arg4 fullShare x3
          ∗ owns (c : Thread nD τ) arg5 fullShare x4
          ∗ (∃ f, arg6.view.loc (c : Thread nD τ) ↦[arg6.view.set]{fullShare} arg6.view.writes (Elt F) f L5)
          ∗ (∃ f, arg7.view.loc (c : Thread nD τ) ↦[arg7.view.set]{fullShare} arg7.view.writes (Elt F) f L6)
          ∗ (∃ f, arg8.view.loc (c : Thread nD τ) ↦[arg8.view.set]{fullShare} arg8.view.writes (Elt F) f L7)
          ∗ owns (c : Thread nD τ) arg12 fullShare xs0
          ∗ (arg13.view.loc (c : Thread nD τ) ↦[arg13.view.set]{fullShare} arg13.view.writes (Elt F) (harg13.unread hs) LS1)
          ∗ owns (c : Thread nD τ) arg14 fullShare xs2
          ∗ owns (c : Thread nD τ) arg15 fullShare xs3
          ∗ (∃ f, arg16.view.loc (c : Thread nD τ) ↦[arg16.view.set]{fullShare} arg16.view.writes (Elt F) f LS4)) -∗ K ⟨⟩))
          ⊢ wp frame (wpE (defs₀ (F := F)) Variants.none c none) E (cc0_int_swiglu i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, ?_, ?_, ?_, fun E K => ?run⟩
  case run =>
    simp only [cc0_int_swiglu_eq_skeleton]; unfold cc0_int_swiglu_skel
    simp only [k0_part33_eq_skeleton, k0_part34_eq_skeleton, k0_part35_eq_skeleton, k0_part36_eq_skeleton, k0_part32_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%fs0, %hfs0, HS0⟩, ⟨%fs1, %hfs1, HS1⟩, ⟨%fs2, %hfs2, HS2⟩, ⟨%fs3, %hfs3, HS3⟩, ⟨%fs4, %hfs4, HS4⟩, Hk⟩
    obtain rfl := harg1.eq_unread hf0; obtain rfl := harg2.eq_unread hf1; obtain rfl := harg3.eq_unread hf2; obtain rfl := harg4.eq_unread hf3; obtain rfl := harg5.eq_unread hf4; obtain rfl := harg12.eq_unread hfs0; obtain rfl := harg13.eq_unread hfs1; obtain rfl := harg14.eq_unread hfs2; obtain rfl := harg15.eq_unread hfs3; obtain rfl := harg16.eq_unread hfs4
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]; · iexists _; iexact H6
    isplitl [H7]; · iexists _; iexact H7
    isplitl [HS0]
    · iexists _; isplitr; · ipureintro; exact harg12.read_unread _
      iexact HS0
    isplitl [HS1]; · iexact HS1
    isplitl [HS2]
    · iexists _; isplitr; · ipureintro; exact harg14.read_unread _
      iexact HS2
    isplitl [HS3]
    · iexists _; isplitr; · ipureintro; exact harg15.read_unread _
      iexact HS3
    iexists _; iexact HS4

end Cert.Kernel.Val

end
-- ==== Proof.Kernel.AnyValue.lean ====
/- Any floating-point instance, any inputs: the kernel terminates, leaves its arguments unchanged and every
   semaphore counter at zero. Nothing is stated of what it computes. -/
module

public import proofs.«01_k».proof.Proof.Kernel.RunC
public import Idealize.ShloMosaic.Lib.Claim

@[expose] public section

set_option maxRecDepth 16384

noncomputable section

namespace Cert.Kernel.AnyValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen Cert.Kernel.Val

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The output windows: what the kernel leaves there is not named. -/
def forgets0 : Fin 11 → Bool := fun w => w.val == 5 || w.val == 6 || w.val == 7 || w.val == 8 || w.val == 9 || w.val == 10

/-- The pipeline's proof data: the arrays as the region finds them, the inputs' blocks left in place, the scratch
    buffers at anything throughout. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, h⟩ => Pipeline.Dat.unnamed (cfg := cfg0) ⟨5, h⟩ t
    | ⟨6, h⟩ => Pipeline.Dat.unnamed (cfg := cfg0) ⟨6, h⟩ t
    | ⟨7, h⟩ => Pipeline.Dat.unnamed (cfg := cfg0) ⟨7, h⟩ t
    | ⟨8, h⟩ => Pipeline.Dat.unnamed (cfg := cfg0) ⟨8, h⟩ t
    | ⟨9, h⟩ => Pipeline.Dat.unnamed (cfg := cfg0) ⟨9, h⟩ t
    | ⟨10, h⟩ => Pipeline.Dat.unnamed (cfg := cfg0) ⟨10, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]

/-- Each input's staging buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- The body leaves an input's block in place. -/
theorem leaves0_0 (c : Dev nD) (t : Fin cfg0.N) : (dats m 0 c).leavesExact 0 t = owns (c : Thread nD τ) (ms0_0 t) fullShare (iblk m c 0 t) := by
  unfold Dat.leavesExact; rw [liveAt0_0 t, after0_0]
theorem leaves0_1 (c : Dev nD) (t : Fin cfg0.N) : (dats m 0 c).leavesExact 1 t = owns (c : Thread nD τ) (ms0_1 t) fullShare (iblk m c 1 t) := by
  unfold Dat.leavesExact; rw [liveAt0_1 t, after0_1]
theorem leaves0_2 (c : Dev nD) (t : Fin cfg0.N) : (dats m 0 c).leavesExact 2 t = owns (c : Thread nD τ) (ms0_2 t) fullShare (iblk m c 2 t) := by
  unfold Dat.leavesExact; rw [liveAt0_2 t, after0_2]
theorem leaves0_3 (c : Dev nD) (t : Fin cfg0.N) : (dats m 0 c).leavesExact 3 t = owns (c : Thread nD τ) (ms0_3 t) fullShare (iblk m c 3 t) := by
  unfold Dat.leavesExact; rw [liveAt0_3 t, after0_3]
theorem leaves0_4 (c : Dev nD) (t : Fin cfg0.N) : (dats m 0 c).leavesExact 4 t = owns (c : Thread nD τ) (ms0_4 t) fullShare (iblk m c 4 t) := by
  unfold Dat.leavesExact; rw [liveAt0_4 t, after0_4]

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare d)
    ∗ (∃ d, owns (c : Thread nD τ) (ms0_6 t) fullShare d)
    ∗ (∃ d, owns (c : Thread nD τ) (ms0_7 t) fullShare d)
    ∗ (∃ d, owns (c : Thread nD τ) (ms0_8 t) fullShare d)
    ∗ (∃ d, owns (c : Thread nD τ) (ms0_9 t) fullShare d)
    ∗ (∃ d, owns (c : Thread nD τ) (ms0_10 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (∃ d, owns (c : Thread nD τ) (ms0_5 t) fullShare d)
    ∗ (∃ d, owns (c : Thread nD τ) (ms0_6 t) fullShare d)
    ∗ (∃ d, owns (c : Thread nD τ) (ms0_7 t) fullShare d)
    ∗ (∃ d, owns (c : Thread nD τ) (ms0_8 t) fullShare d)
    ∗ (∃ d, owns (c : Thread nD τ) (ms0_9 t) fullShare d)
    ∗ (∃ d, owns (c : Thread nD τ) (ms0_10 t) fullShare d))

set_option maxHeartbeats 3200000 in
/-- The body at any point: first, last or between. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, leaves0_0, leaves0_1, leaves0_2, leaves0_3, leaves0_4]
  rw [show (dats m 0 c).owesAt () t.succ = (dats m 0 c).owesAt () t.castSucc from rfl]
  rw [show (dats m 0 c).Φ t.castSucc = Pipeline.ΦA spec0 c from rfl, show (dats m 0 c).Φ t.succ = Pipeline.ΦA spec0 c from rfl, PhiA0_eq]
  iintro ⟨⟨⟨⟨%s0, HS0⟩, ⟨%s1, HS1⟩, ⟨%s2, HS2⟩, ⟨%s3, HS3⟩, ⟨%s4, HS4⟩⟩, Hg⟩, Ho, ⟨%d0, H0⟩, ⟨%d1, H1⟩, ⟨%d2, H2⟩, ⟨%d3, H3⟩, ⟨%d4, H4⟩, H5, H6, H7, H8, H9, H10⟩
  by_cases h0 : t.val % 37 = 0
  · have h1 : ¬ t.val % 37 = 36 := by omega
    iapply ((runA c (grid0.coords t) _ _ _ _ _ _ _ _ _ _ _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) s1).2.2.2.2.2.2.2.2 Set.univ _)
    isplitl [H0]; · iexact H0
    isplitl [H1]; · iexact H1
    isplitl [H2]; · iexact H2
    isplitl [H3]; · iexact H3
    isplitl [H4]; · iexact H4
    isplitl [H8]; · iexact H8
    isplitl [H9]; · iexact H9
    isplitl [H10]; · iexact H10
    isplitl [HS0]; · iexists _; iexact HS0
    isplitl [HS1]; · iexact HS1
    isplitl [HS2]; · iexists _; iexact HS2
    isplitl [HS3]; · iexists _; iexact HS3
    isplitl [HS4]; · iexists _; iexact HS4
    iintro ⟨H0, H1, H2, H3, H4, ⟨%e8, H8⟩, ⟨%e9, H9⟩, ⟨%e10, H10⟩, ⟨%e0, HS0⟩, HS1, ⟨%e2, HS2⟩, ⟨%e3, HS3⟩, ⟨%e4, HS4⟩⟩
    isplitl [HS0 HS1 HS2 HS3 HS4 Hg]
    · isplitl [HS0 HS1 HS2 HS3 HS4]
      · isplitl [HS0]
        · unfold owns; iexists _, _; isplitr; swap; · iexact HS0
          ipureintro; rfl
        isplitl [HS1]
        · unfold owns; iexists _, _; isplitr; swap; · iexact HS1
          ipureintro; rfl
        isplitl [HS2]
        · unfold owns; iexists _, _; isplitr; swap; · iexact HS2
          ipureintro; rfl
        isplitl [HS3]
        · unfold owns; iexists _, _; isplitr; swap; · iexact HS3
          ipureintro; rfl
        unfold owns; iexists _, _; isplitr; swap; · iexact HS4
        ipureintro; rfl
      iexact Hg
    isplitl [Ho]; · iexact Ho
    isplitl [H0]; · iexact H0
    isplitl [H1]; · iexact H1
    isplitl [H2]; · iexact H2
    isplitl [H3]; · iexact H3
    isplitl [H4]; · iexact H4
    isplitl [H5]
    · iexact H5
    isplitl [H6]
    · iexact H6
    isplitl [H7]
    · iexact H7
    isplitl [H8]
    · unfold owns; iexists _, _; isplitr; swap; · iexact H8
      ipureintro; rfl
    isplitl [H9]
    · unfold owns; iexists _, _; isplitr; swap; · iexact H9
      ipureintro; rfl
    unfold owns; iexists _, _; isplitr; swap; · iexact H10
    ipureintro; rfl
  by_cases h1 : t.val % 37 = 36
  · iapply ((runC c (grid0.coords t) _ _ _ _ _ _ _ _ _ _ _ _ _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) s0 s1 s2 s3 s4).2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [HS0]; · iexact HS0
    isplitl [HS1]; · iexact HS1
    isplitl [HS2]; · iexact HS2
    isplitl [HS3]; · iexact HS3
    isplitl [HS4]; · iexact HS4
    iintro ⟨H0, H1, H2, H3, H4, ⟨%e5, H5⟩, ⟨%e6, H6⟩, ⟨%e7, H7⟩, HS0, HS1, HS2, HS3, ⟨%e4, HS4⟩⟩
    isplitl [HS0 HS1 HS2 HS3 HS4 Hg]
    · isplitl [HS0 HS1 HS2 HS3 HS4]
      · isplitl [HS0]
        · iexists _; iexact HS0
        isplitl [HS1]
        · unfold owns; iexists _, _; isplitr; swap; · iexact HS1
          ipureintro; rfl
        isplitl [HS2]
        · iexists _; iexact HS2
        isplitl [HS3]
        · iexists _; iexact HS3
        unfold owns; iexists _, _; isplitr; swap; · iexact HS4
        ipureintro; rfl
      iexact Hg
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _, _; isplitr; swap; · iexact H5
      ipureintro; rfl
    isplitl [H6]
    · unfold owns; iexists _, _; isplitr; swap; · iexact H6
      ipureintro; rfl
    isplitl [H7]
    · unfold owns; iexists _, _; isplitr; swap; · iexact H7
      ipureintro; rfl
    isplitl [H8]
    · iexact H8
    isplitl [H9]
    · iexact H9
    iexact H10
  · iapply ((runB c (grid0.coords t) _ _ _ _ _ _ _ _ _ _ _ _ _ _ _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) s0 s1 s2 s3 s4).2.2 Set.univ _)
    isplitl [H0]; · iexact H0
    isplitl [H1]; · iexact H1
    isplitl [H2]; · iexact H2
    isplitl [H3]; · iexact H3
    isplitl [H4]; · iexact H4
    isplitl [HS0]; · iexact HS0
    isplitl [HS1]; · iexact HS1
    isplitl [HS2]; · iexact HS2
    isplitl [HS3]; · iexact HS3
    isplitl [HS4]; · iexact HS4
    iintro ⟨H0, H1, H2, H3, H4, HS0, HS1, HS2, HS3, ⟨%e4, HS4⟩⟩
    isplitl [HS0 HS1 HS2 HS3 HS4 Hg]
    · isplitl [HS0 HS1 HS2 HS3 HS4]
      · isplitl [HS0]
        · iexists _; iexact HS0
        isplitl [HS1]
        · unfold owns; iexists _, _; isplitr; swap; · iexact HS1
          ipureintro; rfl
        isplitl [HS2]
        · iexists _; iexact HS2
        isplitl [HS3]
        · iexists _; iexact HS3
        unfold owns; iexists _, _; isplitr; swap; · iexact HS4
        ipureintro; rfl
      iexact Hg
    isplitl [Ho]; · iexact Ho
    isplitl [H0]; · iexact H0
    isplitl [H1]; · iexact H1
    isplitl [H2]; · iexact H2
    isplitl [H3]; · iexact H3
    isplitl [H4]; · iexact H4
    isplitl [H5]
    · iexact H5
    isplitl [H6]
    · iexact H6
    isplitl [H7]
    · iexact H7
    isplitl [H8]
    · iexact H8
    isplitl [H9]
    · iexact H9
    iexact H10

/-- The body table's row at a point's slots is the body. -/
theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

set_option backward.isDefEq.respectTransparency.types false in
/-- The kernel runs to the end, with the input arrays unchanged and the counters at zero. -/
theorem run_main : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame claim. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => ⟨(h.1 c).2 main_arg0 (Pipeline.mem_restRefs_of main_arg0 (by decide) (by decide)) |>.trans (V_main_arg0 m c),
      (Pipeline.RDat.FramePost.arr_in h.1 c 1 rfl).trans ((A_eq m c 1).trans (V_main_arg1 m c)),
      (Pipeline.RDat.FramePost.arr_in h.1 c 2 rfl).trans ((A_eq m c 2).trans (V_main_arg2 m c)),
      (h.1 c).2 main_arg3 (Pipeline.mem_restRefs_of main_arg3 (by decide) (by decide)) |>.trans (V_main_arg3 m c),
      (h.1 c).2 main_arg4 (Pipeline.mem_restRefs_of main_arg4 (by decide) (by decide)) |>.trans (V_main_arg4 m c)⟩, h.2⟩) (run_main m ρ)

end Cert.Kernel.AnyValue

end
-- ==== Proof.Points.lean ====
/- The grid points: which of the body's branches a point takes, and the buffers the body is called with. -/
module

public import proofs.«01_k».proof.Proof.Gen.KernelIdeal.Frame
public import proofs.«01_k».proof.Proof.Gen.KernelIdeal.Skeleton
public import Idealize.ShloMosaic.Lib.Tactic

@[expose] public section

set_option maxRecDepth 16384

noncomputable section

namespace Cert.KernelIdeal.Val

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 37 = 0 :=
  (fun t => by
    have ht : t.val < 37 := Nat.lt_of_lt_of_eq t.isLt N_0
    have e0 : (grid0.coords t 0).val = t.val / 1 % 37 := Pipeline.Grid.coords_val t 0 (by decide) rfl
    simp only [cond0_0, k0_cond1, e0]
    word_cmp
   : ∀ t : Fin grid0.N, cond0_0 (grid0.coords t) ↔ t.val % 37 = 0)

/-- The condition of the body's `scf.if` 1 (`k0_h2`), from the grid coordinates (the skeleton's scalar
    chain substituted). -/
abbrev cond0_1 (i : grid0.Coords) : Prop := k0_cond2 i = 1#1
/-- It holds at the last point only — by arithmetic of the point. -/
theorem hcond0_1 : ∀ t : Fin cfg0.N, cond0_1 (grid0.coords t) ↔ t.val % 37 = 36 :=
  (fun t => by
    have ht : t.val < 37 := Nat.lt_of_lt_of_eq t.isLt N_0
    have e0 : (grid0.coords t 0).val = t.val / 1 % 37 := Pipeline.Grid.coords_val t 0 (by decide) rfl
    simp only [cond0_1, k0_cond2, e0]
    word_cmp
   : ∀ t : Fin grid0.N, cond0_1 (grid0.coords t) ↔ t.val % 37 = 36)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S256x3584 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S3584x512 .i8 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S3584x512 .i8 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x512 .i32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x512 .i32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S256x18944 .i8 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x256 .i32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x256 .i32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S256x3584 .i8 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x256 .i32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x256 .i32 := win0_10.stage (cfg0.slots t 10)
abbrev hs0_10 (t : Fin cfg0.N) : (ms0_10 t).IsWhole := hstage0_10 ((cfg0.slots t 10).cast nbuf0_10)
/-- The scratch operands: whole scoped buffers of the kernel's own, passed beside the windows. -/
abbrev scM0_0 : Memref sig .tc .vmem S256x3584 .bf16 := Memref.whole cc0_scratch0
abbrev scM0_1 : Memref sig .tc .vmem S37x256x512 .f32 := Memref.whole cc0_scratch1
abbrev scM0_2 : Memref sig .tc .vmem S256x128 .i32 := Memref.whole cc0_scratch2
abbrev scM0_3 : Memref sig .tc .vmem S256x128 .i32 := Memref.whole cc0_scratch3
abbrev scM0_4 : Memref sig .tc .vmem S256x128 .f32 := Memref.whole cc0_scratch4
/-- The scratch `arg12` the kernel carries between points, as a view: what it holds is stated through it. -/
abbrev VS0_0 : View sig .tc .vmem S256x3584 .bf16 := scM0_0.view
/-- The scratch `arg14` the kernel carries between points, as a view: what it holds is stated through it. -/
abbrev VS0_2 : View sig .tc .vmem S256x128 .i32 := scM0_2.view
/-- The scratch `arg15` the kernel carries between points, as a view: what it holds is stated through it. -/
abbrev VS0_3 : View sig .tc .vmem S256x128 .i32 := scM0_3.view
/-- The scratch `arg16` the kernel carries between points, as a view: what it holds is stated through it. -/
abbrev VS0_4 : View sig .tc .vmem S256x128 .f32 := scM0_4.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d)) ∗ (∃ r, prngReg c r)) := by
  unfold Pipeline.ΦA; rw [scopedRest0_eq]; simp only [scM0_0, scM0_1, scM0_2, scM0_3, scM0_4, owns_whole]; try rfl

end Cert.KernelIdeal.Val

end
-- ==== Proof.RunA.lean ====
/- The kernel body at the first grid point. -/
module

public import proofs.«01_k».proof.Proof.Points

@[expose] public section

set_option maxRecDepth 16384

noncomputable section

namespace Cert.KernelIdeal.Val

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

set_option maxHeartbeats 1600000 in
/-- The body at the first grid point, where the rows of `x` are quantised before the block is computed: the pieces its stores leave in each buffer they touch, last
    first, with the proof that the body runs from the inputs' contents to a state where those pieces are
    written. The buffers of `h` keep their earlier contents `hs` under the piece written here. -/
noncomputable def runA (c : Dev nD) (i : grid0.Coords) (arg1 : Memref sig .tc .vmem S256x3584 .i32) (harg1 : arg1.IsWhole) (arg2 : Memref sig .tc .vmem S3584x512 .i8) (harg2 : arg2.IsWhole) (arg3 : Memref sig .tc .vmem S3584x512 .i8) (harg3 : arg3.IsWhole) (arg4 : Memref sig .tc .vmem S1x512 .i32) (harg4 : arg4.IsWhole) (arg5 : Memref sig .tc .vmem S1x512 .i32) (harg5 : arg5.IsWhole) (arg6 : Memref sig .tc .vmem S256x18944 .i8) (harg6 : arg6.IsWhole) (arg7 : Memref sig .tc .vmem S1x256 .i32) (harg7 : arg7.IsWhole) (arg8 : Memref sig .tc .vmem S1x256 .i32) (harg8 : arg8.IsWhole) (arg9 : Memref sig .tc .vmem S256x3584 .i8) (harg9 : arg9.IsWhole) (arg10 : Memref sig .tc .vmem S1x256 .i32) (harg10 : arg10.IsWhole) (arg11 : Memref sig .tc .vmem S1x256 .i32) (harg11 : arg11.IsWhole) (arg12 : Memref sig .tc .vmem S256x3584 .bf16) (harg12 : arg12.IsWhole) (arg13 : Memref sig .tc .vmem S37x256x512 .f32) (harg13 : arg13.IsWhole) (arg14 : Memref sig .tc .vmem S256x128 .i32) (harg14 : arg14.IsWhole) (arg15 : Memref sig .tc .vmem S256x128 .i32) (harg15 : arg15.IsWhole) (arg16 : Memref sig .tc .vmem S256x128 .f32) (harg16 : arg16.IsWhole)
    (hc0 : cond0_0 i) (hc1 : ¬ cond0_1 i)
    (x0 : Vec F S256x3584 .i32) (x1 : Vec F S3584x512 .i8) (x2 : Vec F S3584x512 .i8) (x3 : Vec F S1x512 .i32) (x4 : Vec F S1x512 .i32) (hs : Vec F S37x256x512 .f32) :
    Σ' (L8 : List (View.Piece (Elt F) S256x3584 .i8)), Σ' (L9 : List (View.Piece (Elt F) S1x256 .i32)), Σ' (L10 : List (View.Piece (Elt F) S1x256 .i32)), Σ' (LS0 : List (View.Piece (Elt F) S256x3584 .bf16)), Σ' (LS1 : List (View.Piece (Elt F) S37x256x512 .f32)), Σ' (LS2 : List (View.Piece (Elt F) S256x128 .i32)), Σ' (LS3 : List (View.Piece (Elt F) S256x128 .i32)), { LS4 : List (View.Piece (Elt F) S256x128 .f32) //
      ∀ (E : Set ℕ) (K : PUnit → sProp 𝕄),
        iprop(owns (c : Thread nD τ) arg1 fullShare x0
          ∗ owns (c : Thread nD τ) arg2 fullShare x1
          ∗ owns (c : Thread nD τ) arg3 fullShare x2
          ∗ owns (c : Thread nD τ) arg4 fullShare x3
          ∗ owns (c : Thread nD τ) arg5 fullShare x4
          ∗ (∃ d, owns (c : Thread nD τ) arg9 fullShare d)
          ∗ (∃ d, owns (c : Thread nD τ) arg10 fullShare d)
          ∗ (∃ d, owns (c : Thread nD τ) arg11 fullShare d)
          ∗ (∃ d, owns (c : Thread nD τ) arg12 fullShare d)
          ∗ owns (c : Thread nD τ) arg13 fullShare hs
          ∗ (∃ d, owns (c : Thread nD τ) arg14 fullShare d)
          ∗ (∃ d, owns (c : Thread nD τ) arg15 fullShare d)
          ∗ (∃ d, owns (c : Thread nD τ) arg16 fullShare d)
          ∗ (iprop(owns (c : Thread nD τ) arg1 fullShare x0
          ∗ owns (c : Thread nD τ) arg2 fullShare x1
          ∗ owns (c : Thread nD τ) arg3 fullShare x2
          ∗ owns (c : Thread nD τ) arg4 fullShare x3
          ∗ owns (c : Thread nD τ) arg5 fullShare x4
          ∗ (∃ f, arg9.view.loc (c : Thread nD τ) ↦[arg9.view.set]{fullShare} arg9.view.writes (Elt F) f L8)
          ∗ (∃ f, arg10.view.loc (c : Thread nD τ) ↦[arg10.view.set]{fullShare} arg10.view.writes (Elt F) f L9)
          ∗ (∃ f, arg11.view.loc (c : Thread nD τ) ↦[arg11.view.set]{fullShare} arg11.view.writes (Elt F) f L10)
          ∗ (∃ f, arg12.view.loc (c : Thread nD τ) ↦[arg12.view.set]{fullShare} arg12.view.writes (Elt F) f LS0)
          ∗ (arg13.view.loc (c : Thread nD τ) ↦[arg13.view.set]{fullShare} arg13.view.writes (Elt F) (harg13.unread hs) LS1)
          ∗ (∃ f, arg14.view.loc (c : Thread nD τ) ↦[arg14.view.set]{fullShare} arg14.view.writes (Elt F) f LS2)
          ∗ (∃ f, arg15.view.loc (c : Thread nD τ) ↦[arg15.view.set]{fullShare} arg15.view.writes (Elt F) f LS3)
          ∗ (∃ f, arg16.view.loc (c : Thread nD τ) ↦[arg16.view.set]{fullShare} arg16.view.writes (Elt F) f LS4)) -∗ K ⟨⟩))
          ⊢ wp frame (wpE (defs₀ (F := F)) Variants.none c none) E (cc0_int_swiglu i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, ?_, ?_, ?_, ?_, ?_, ?_, fun E K => ?run⟩
  case run =>
    simp only [cc0_int_swiglu_eq_skeleton]; unfold cc0_int_swiglu_skel
    simp only [k0_part33_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part34_eq_skeleton, k0_part35_eq_skeleton, k0_part36_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d8, %f8, -, H8⟩, ⟨%d9, %f9, -, H9⟩, ⟨%d10, %f10, -, H10⟩, ⟨%ds0, %fs0, -, HS0⟩, ⟨%fs1, %hfs1, HS1⟩, ⟨%ds2, %fs2, -, HS2⟩, ⟨%ds3, %fs3, -, HS3⟩, ⟨%ds4, %fs4, -, HS4⟩, Hk⟩
    obtain rfl := harg1.eq_unread hf0; obtain rfl := harg2.eq_unread hf1; obtain rfl := harg3.eq_unread hf2; obtain rfl := harg4.eq_unread hf3; obtain rfl := harg5.eq_unread hf4; obtain rfl := harg13.eq_unread hfs1
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H8]; · iexists _; iexact H8
    isplitl [H9]; · iexists _; iexact H9
    isplitl [H10]; · iexists _; iexact H10
    isplitl [HS0]; · iexists _; iexact HS0
    isplitl [HS1]; · iexact HS1
    isplitl [HS2]; · iexists _; iexact HS2
    isplitl [HS3]; · iexists _; iexact HS3
    iexists _; iexact HS4

end Cert.KernelIdeal.Val

end
-- ==== Proof.RunB.lean ====
/- The kernel body at a middle grid point. -/
module

public import proofs.«01_k».proof.Proof.RunA

@[expose] public section

set_option maxRecDepth 16384

noncomputable section

namespace Cert.KernelIdeal.Val

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

set_option maxHeartbeats 1600000 in
/-- The body at a middle grid point, where only the block is computed: the pieces its stores leave in each buffer they touch, last
    first, with the proof that the body runs from the inputs' contents to a state where those pieces are
    written. The buffers of `h` keep their earlier contents `hs` under the piece written here. -/
noncomputable def runB (c : Dev nD) (i : grid0.Coords) (arg1 : Memref sig .tc .vmem S256x3584 .i32) (harg1 : arg1.IsWhole) (arg2 : Memref sig .tc .vmem S3584x512 .i8) (harg2 : arg2.IsWhole) (arg3 : Memref sig .tc .vmem S3584x512 .i8) (harg3 : arg3.IsWhole) (arg4 : Memref sig .tc .vmem S1x512 .i32) (harg4 : arg4.IsWhole) (arg5 : Memref sig .tc .vmem S1x512 .i32) (harg5 : arg5.IsWhole) (arg6 : Memref sig .tc .vmem S256x18944 .i8) (harg6 : arg6.IsWhole) (arg7 : Memref sig .tc .vmem S1x256 .i32) (harg7 : arg7.IsWhole) (arg8 : Memref sig .tc .vmem S1x256 .i32) (harg8 : arg8.IsWhole) (arg9 : Memref sig .tc .vmem S256x3584 .i8) (harg9 : arg9.IsWhole) (arg10 : Memref sig .tc .vmem S1x256 .i32) (harg10 : arg10.IsWhole) (arg11 : Memref sig .tc .vmem S1x256 .i32) (harg11 : arg11.IsWhole) (arg12 : Memref sig .tc .vmem S256x3584 .bf16) (harg12 : arg12.IsWhole) (arg13 : Memref sig .tc .vmem S37x256x512 .f32) (harg13 : arg13.IsWhole) (arg14 : Memref sig .tc .vmem S256x128 .i32) (harg14 : arg14.IsWhole) (arg15 : Memref sig .tc .vmem S256x128 .i32) (harg15 : arg15.IsWhole) (arg16 : Memref sig .tc .vmem S256x128 .f32) (harg16 : arg16.IsWhole)
    (hc0 : ¬ cond0_0 i) (hc1 : ¬ cond0_1 i)
    (x0 : Vec F S256x3584 .i32) (x1 : Vec F S3584x512 .i8) (x2 : Vec F S3584x512 .i8) (x3 : Vec F S1x512 .i32) (x4 : Vec F S1x512 .i32) (xs0 : Vec F S256x3584 .bf16) (hs : Vec F S37x256x512 .f32) (xs2 : Vec F S256x128 .i32) (xs3 : Vec F S256x128 .i32) (xs4 : Vec F S256x128 .f32) :
    Σ' (LS1 : List (View.Piece (Elt F) S37x256x512 .f32)), { LS4 : List (View.Piece (Elt F) S256x128 .f32) //
      ∀ (E : Set ℕ) (K : PUnit → sProp 𝕄),
        iprop(owns (c : Thread nD τ) arg1 fullShare x0
          ∗ owns (c : Thread nD τ) arg2 fullShare x1
          ∗ owns (c : Thread nD τ) arg3 fullShare x2
          ∗ owns (c : Thread nD τ) arg4 fullShare x3
          ∗ owns (c : Thread nD τ) arg5 fullShare x4
          ∗ owns (c : Thread nD τ) arg12 fullShare xs0
          ∗ owns (c : Thread nD τ) arg13 fullShare hs
          ∗ owns (c : Thread nD τ) arg14 fullShare xs2
          ∗ owns (c : Thread nD τ) arg15 fullShare xs3
          ∗ owns (c : Thread nD τ) arg16 fullShare xs4
          ∗ (iprop(owns (c : Thread nD τ) arg1 fullShare x0
          ∗ owns (c : Thread nD τ) arg2 fullShare x1
          ∗ owns (c : Thread nD τ) arg3 fullShare x2
          ∗ owns (c : Thread nD τ) arg4 fullShare x3
          ∗ owns (c : Thread nD τ) arg5 fullShare x4
          ∗ owns (c : Thread nD τ) arg12 fullShare xs0
          ∗ (arg13.view.loc (c : Thread nD τ) ↦[arg13.view.set]{fullShare} arg13.view.writes (Elt F) (harg13.unread hs) LS1)
          ∗ owns (c : Thread nD τ) arg14 fullShare xs2
          ∗ owns (c : Thread nD τ) arg15 fullShare xs3
          ∗ (∃ f, arg16.view.loc (c : Thread nD τ) ↦[arg16.view.set]{fullShare} arg16.view.writes (Elt F) f LS4)) -∗ K ⟨⟩))
          ⊢ wp frame (wpE (defs₀ (F := F)) Variants.none c none) E (cc0_int_swiglu i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, fun E K => ?run⟩
  case run =>
    simp only [cc0_int_swiglu_eq_skeleton]; unfold cc0_int_swiglu_skel
    simp only [k0_part33_eq_skeleton, k0_part34_eq_skeleton, k0_part35_eq_skeleton, k0_part36_eq_skeleton]
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, ⟨%fs2, %hfs2, HS2⟩, ⟨%fs3, %hfs3, HS3⟩, ⟨%fs4, %hfs4, HS4⟩, Hk⟩
    obtain rfl := harg1.eq_unread hf0; obtain rfl := harg2.eq_unread hf1; obtain rfl := harg3.eq_unread hf2; obtain rfl := harg4.eq_unread hf3; obtain rfl := harg5.eq_unread hf4; obtain rfl := harg12.eq_unread hfs0; obtain rfl := harg13.eq_unread hfs1; obtain rfl := harg14.eq_unread hfs2; obtain rfl := harg15.eq_unread hfs3; obtain rfl := harg16.eq_unread hfs4
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [HS0]
    · iexists _; isplitr; · ipureintro; exact harg12.read_unread _
      iexact HS0
    isplitl [HS1]; · iexact HS1
    isplitl [HS2]
    · iexists _; isplitr; · ipureintro; exact harg14.read_unread _
      iexact HS2
    isplitl [HS3]
    · iexists _; isplitr; · ipureintro; exact harg15.read_unread _
      iexact HS3
    iexists _; iexact HS4

end Cert.KernelIdeal.Val

end
-- ==== Proof.RunC.lean ====
/- The kernel body at the last grid point. -/
module

public import proofs.«01_k».proof.Proof.RunB

@[expose] public section

set_option maxRecDepth 16384

noncomputable section

namespace Cert.KernelIdeal.Val

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

set_option maxHeartbeats 3200000 in
/-- The body at the last grid point, where the whole of `h` is requantised after the block is computed: the pieces its stores leave in each buffer they touch, last
    first, with the proof that the body runs from the inputs' contents to a state where those pieces are
    written. The buffers of `h` keep their earlier contents `hs` under the piece written here. -/
noncomputable def runC (c : Dev nD) (i : grid0.Coords) (arg1 : Memref sig .tc .vmem S256x3584 .i32) (harg1 : arg1.IsWhole) (arg2 : Memref sig .tc .vmem S3584x512 .i8) (harg2 : arg2.IsWhole) (arg3 : Memref sig .tc .vmem S3584x512 .i8) (harg3 : arg3.IsWhole) (arg4 : Memref sig .tc .vmem S1x512 .i32) (harg4 : arg4.IsWhole) (arg5 : Memref sig .tc .vmem S1x512 .i32) (harg5 : arg5.IsWhole) (arg6 : Memref sig .tc .vmem S256x18944 .i8) (harg6 : arg6.IsWhole) (arg7 : Memref sig .tc .vmem S1x256 .i32) (harg7 : arg7.IsWhole) (arg8 : Memref sig .tc .vmem S1x256 .i32) (harg8 : arg8.IsWhole) (arg9 : Memref sig .tc .vmem S256x3584 .i8) (harg9 : arg9.IsWhole) (arg10 : Memref sig .tc .vmem S1x256 .i32) (harg10 : arg10.IsWhole) (arg11 : Memref sig .tc .vmem S1x256 .i32) (harg11 : arg11.IsWhole) (arg12 : Memref sig .tc .vmem S256x3584 .bf16) (harg12 : arg12.IsWhole) (arg13 : Memref sig .tc .vmem S37x256x512 .f32) (harg13 : arg13.IsWhole) (arg14 : Memref sig .tc .vmem S256x128 .i32) (harg14 : arg14.IsWhole) (arg15 : Memref sig .tc .vmem S256x128 .i32) (harg15 : arg15.IsWhole) (arg16 : Memref sig .tc .vmem S256x128 .f32) (harg16 : arg16.IsWhole)
    (hc0 : ¬ cond0_0 i) (hc1 : cond0_1 i)
    (x0 : Vec F S256x3584 .i32) (x1 : Vec F S3584x512 .i8) (x2 : Vec F S3584x512 .i8) (x3 : Vec F S1x512 .i32) (x4 : Vec F S1x512 .i32) (xs0 : Vec F S256x3584 .bf16) (hs : Vec F S37x256x512 .f32) (xs2 : Vec F S256x128 .i32) (xs3 : Vec F S256x128 .i32) (xs4 : Vec F S256x128 .f32) :
    Σ' (L5 : List (View.Piece (Elt F) S256x18944 .i8)), Σ' (L6 : List (View.Piece (Elt F) S1x256 .i32)), Σ' (L7 : List (View.Piece (Elt F) S1x256 .i32)), Σ' (LS1 : List (View.Piece (Elt F) S37x256x512 .f32)), { LS4 : List (View.Piece (Elt F) S256x128 .f32) //
      ∀ (E : Set ℕ) (K : PUnit → sProp 𝕄),
        iprop(owns (c : Thread nD τ) arg1 fullShare x0
          ∗ owns (c : Thread nD τ) arg2 fullShare x1
          ∗ owns (c : Thread nD τ) arg3 fullShare x2
          ∗ owns (c : Thread nD τ) arg4 fullShare x3
          ∗ owns (c : Thread nD τ) arg5 fullShare x4
          ∗ (∃ d, owns (c : Thread nD τ) arg6 fullShare d)
          ∗ (∃ d, owns (c : Thread nD τ) arg7 fullShare d)
          ∗ (∃ d, owns (c : Thread nD τ) arg8 fullShare d)
          ∗ owns (c : Thread nD τ) arg12 fullShare xs0
          ∗ owns (c : Thread nD τ) arg13 fullShare hs
          ∗ owns (c : Thread nD τ) arg14 fullShare xs2
          ∗ owns (c : Thread nD τ) arg15 fullShare xs3
          ∗ owns (c : Thread nD τ) arg16 fullShare xs4
          ∗ (iprop(owns (c : Thread nD τ) arg1 fullShare x0
          ∗ owns (c : Thread nD τ) arg2 fullShare x1
          ∗ owns (c : Thread nD τ) arg3 fullShare x2
          ∗ owns (c : Thread nD τ) arg4 fullShare x3
          ∗ owns (c : Thread nD τ) arg5 fullShare x4
          ∗ (∃ f, arg6.view.loc (c : Thread nD τ) ↦[arg6.view.set]{fullShare} arg6.view.writes (Elt F) f L5)
          ∗ (∃ f, arg7.view.loc (c : Thread nD τ) ↦[arg7.view.set]{fullShare} arg7.view.writes (Elt F) f L6)
          ∗ (∃ f, arg8.view.loc (c : Thread nD τ) ↦[arg8.view.set]{fullShare} arg8.view.writes (Elt F) f L7)
          ∗ owns (c : Thread nD τ) arg12 fullShare xs0
          ∗ (arg13.view.loc (c : Thread nD τ) ↦[arg13.view.set]{fullShare} arg13.view.writes (Elt F) (harg13.unread hs) LS1)
          ∗ owns (c : Thread nD τ) arg14 fullShare xs2
          ∗ owns (c : Thread nD τ) arg15 fullShare xs3
          ∗ (∃ f, arg16.view.loc (c : Thread nD τ) ↦[arg16.view.set]{fullShare} arg16.view.writes (Elt F) f LS4)) -∗ K ⟨⟩))
          ⊢ wp frame (wpE (defs₀ (F := F)) Variants.none c none) E (cc0_int_swiglu i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, ?_, ?_, ?_, fun E K => ?run⟩
  case run =>
    simp only [cc0_int_swiglu_eq_skeleton]; unfold cc0_int_swiglu_skel
    simp only [k0_part33_eq_skeleton, k0_part34_eq_skeleton, k0_part35_eq_skeleton, k0_part36_eq_skeleton, k0_part32_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%fs0, %hfs0, HS0⟩, ⟨%fs1, %hfs1, HS1⟩, ⟨%fs2, %hfs2, HS2⟩, ⟨%fs3, %hfs3, HS3⟩, ⟨%fs4, %hfs4, HS4⟩, Hk⟩
    obtain rfl := harg1.eq_unread hf0; obtain rfl := harg2.eq_unread hf1; obtain rfl := harg3.eq_unread hf2; obtain rfl := harg4.eq_unread hf3; obtain rfl := harg5.eq_unread hf4; obtain rfl := harg12.eq_unread hfs0; obtain rfl := harg13.eq_unread hfs1; obtain rfl := harg14.eq_unread hfs2; obtain rfl := harg15.eq_unread hfs3; obtain rfl := harg16.eq_unread hfs4
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]; · iexists _; iexact H6
    isplitl [H7]; · iexists _; iexact H7
    isplitl [HS0]
    · iexists _; isplitr; · ipureintro; exact harg12.read_unread _
      iexact HS0
    isplitl [HS1]; · iexact HS1
    isplitl [HS2]
    · iexists _; isplitr; · ipureintro; exact harg14.read_unread _
      iexact HS2
    isplitl [HS3]
    · iexists _; isplitr; · ipureintro; exact harg15.read_unread _
      iexact HS3
    iexists _; iexact HS4

end Cert.KernelIdeal.Val

end
-- ==== Proof.AnyValue.lean ====
/- Any floating-point instance, any inputs: the kernel terminates, leaves its arguments unchanged and every
   semaphore counter at zero. Nothing is stated of what it computes. -/
module

public import proofs.«01_k».proof.Proof.RunC
public import Idealize.ShloMosaic.Lib.Claim

@[expose] public section

set_option maxRecDepth 16384

noncomputable section

namespace Cert.KernelIdeal.AnyValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen Cert.KernelIdeal.Val

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The output windows: what the kernel leaves there is not named. -/
def forgets0 : Fin 11 → Bool := fun w => w.val == 5 || w.val == 6 || w.val == 7 || w.val == 8 || w.val == 9 || w.val == 10

/-- The pipeline's proof data: the arrays as the region finds them, the inputs' blocks left in place, the scratch
    buffers at anything throughout. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, h⟩ => Pipeline.Dat.unnamed (cfg := cfg0) ⟨5, h⟩ t
    | ⟨6, h⟩ => Pipeline.Dat.unnamed (cfg := cfg0) ⟨6, h⟩ t
    | ⟨7, h⟩ => Pipeline.Dat.unnamed (cfg := cfg0) ⟨7, h⟩ t
    | ⟨8, h⟩ => Pipeline.Dat.unnamed (cfg := cfg0) ⟨8, h⟩ t
    | ⟨9, h⟩ => Pipeline.Dat.unnamed (cfg := cfg0) ⟨9, h⟩ t
    | ⟨10, h⟩ => Pipeline.Dat.unnamed (cfg := cfg0) ⟨10, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]

/-- Each input's staging buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- The body leaves an input's block in place. -/
theorem leaves0_0 (c : Dev nD) (t : Fin cfg0.N) : (dats m 0 c).leavesExact 0 t = owns (c : Thread nD τ) (ms0_0 t) fullShare (iblk m c 0 t) := by
  unfold Dat.leavesExact; rw [liveAt0_0 t, after0_0]
theorem leaves0_1 (c : Dev nD) (t : Fin cfg0.N) : (dats m 0 c).leavesExact 1 t = owns (c : Thread nD τ) (ms0_1 t) fullShare (iblk m c 1 t) := by
  unfold Dat.leavesExact; rw [liveAt0_1 t, after0_1]
theorem leaves0_2 (c : Dev nD) (t : Fin cfg0.N) : (dats m 0 c).leavesExact 2 t = owns (c : Thread nD τ) (ms0_2 t) fullShare (iblk m c 2 t) := by
  unfold Dat.leavesExact; rw [liveAt0_2 t, after0_2]
theorem leaves0_3 (c : Dev nD) (t : Fin cfg0.N) : (dats m 0 c).leavesExact 3 t = owns (c : Thread nD τ) (ms0_3 t) fullShare (iblk m c 3 t) := by
  unfold Dat.leavesExact; rw [liveAt0_3 t, after0_3]
theorem leaves0_4 (c : Dev nD) (t : Fin cfg0.N) : (dats m 0 c).leavesExact 4 t = owns (c : Thread nD τ) (ms0_4 t) fullShare (iblk m c 4 t) := by
  unfold Dat.leavesExact; rw [liveAt0_4 t, after0_4]

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare d)
    ∗ (∃ d, owns (c : Thread nD τ) (ms0_6 t) fullShare d)
    ∗ (∃ d, owns (c : Thread nD τ) (ms0_7 t) fullShare d)
    ∗ (∃ d, owns (c : Thread nD τ) (ms0_8 t) fullShare d)
    ∗ (∃ d, owns (c : Thread nD τ) (ms0_9 t) fullShare d)
    ∗ (∃ d, owns (c : Thread nD τ) (ms0_10 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (∃ d, owns (c : Thread nD τ) (ms0_5 t) fullShare d)
    ∗ (∃ d, owns (c : Thread nD τ) (ms0_6 t) fullShare d)
    ∗ (∃ d, owns (c : Thread nD τ) (ms0_7 t) fullShare d)
    ∗ (∃ d, owns (c : Thread nD τ) (ms0_8 t) fullShare d)
    ∗ (∃ d, owns (c : Thread nD τ) (ms0_9 t) fullShare d)
    ∗ (∃ d, owns (c : Thread nD τ) (ms0_10 t) fullShare d))

set_option maxHeartbeats 3200000 in
/-- The body at any point: first, last or between. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, leaves0_0, leaves0_1, leaves0_2, leaves0_3, leaves0_4]
  rw [show (dats m 0 c).owesAt () t.succ = (dats m 0 c).owesAt () t.castSucc from rfl]
  rw [show (dats m 0 c).Φ t.castSucc = Pipeline.ΦA spec0 c from rfl, show (dats m 0 c).Φ t.succ = Pipeline.ΦA spec0 c from rfl, PhiA0_eq]
  iintro ⟨⟨⟨⟨%s0, HS0⟩, ⟨%s1, HS1⟩, ⟨%s2, HS2⟩, ⟨%s3, HS3⟩, ⟨%s4, HS4⟩⟩, Hg⟩, Ho, ⟨%d0, H0⟩, ⟨%d1, H1⟩, ⟨%d2, H2⟩, ⟨%d3, H3⟩, ⟨%d4, H4⟩, H5, H6, H7, H8, H9, H10⟩
  by_cases h0 : t.val % 37 = 0
  · have h1 : ¬ t.val % 37 = 36 := by omega
    iapply ((runA c (grid0.coords t) _ _ _ _ _ _ _ _ _ _ _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) s1).2.2.2.2.2.2.2.2 Set.univ _)
    isplitl [H0]; · iexact H0
    isplitl [H1]; · iexact H1
    isplitl [H2]; · iexact H2
    isplitl [H3]; · iexact H3
    isplitl [H4]; · iexact H4
    isplitl [H8]; · iexact H8
    isplitl [H9]; · iexact H9
    isplitl [H10]; · iexact H10
    isplitl [HS0]; · iexists _; iexact HS0
    isplitl [HS1]; · iexact HS1
    isplitl [HS2]; · iexists _; iexact HS2
    isplitl [HS3]; · iexists _; iexact HS3
    isplitl [HS4]; · iexists _; iexact HS4
    iintro ⟨H0, H1, H2, H3, H4, ⟨%e8, H8⟩, ⟨%e9, H9⟩, ⟨%e10, H10⟩, ⟨%e0, HS0⟩, HS1, ⟨%e2, HS2⟩, ⟨%e3, HS3⟩, ⟨%e4, HS4⟩⟩
    isplitl [HS0 HS1 HS2 HS3 HS4 Hg]
    · isplitl [HS0 HS1 HS2 HS3 HS4]
      · isplitl [HS0]
        · unfold owns; iexists _, _; isplitr; swap; · iexact HS0
          ipureintro; rfl
        isplitl [HS1]
        · unfold owns; iexists _, _; isplitr; swap; · iexact HS1
          ipureintro; rfl
        isplitl [HS2]
        · unfold owns; iexists _, _; isplitr; swap; · iexact HS2
          ipureintro; rfl
        isplitl [HS3]
        · unfold owns; iexists _, _; isplitr; swap; · iexact HS3
          ipureintro; rfl
        unfold owns; iexists _, _; isplitr; swap; · iexact HS4
        ipureintro; rfl
      iexact Hg
    isplitl [Ho]; · iexact Ho
    isplitl [H0]; · iexact H0
    isplitl [H1]; · iexact H1
    isplitl [H2]; · iexact H2
    isplitl [H3]; · iexact H3
    isplitl [H4]; · iexact H4
    isplitl [H5]
    · iexact H5
    isplitl [H6]
    · iexact H6
    isplitl [H7]
    · iexact H7
    isplitl [H8]
    · unfold owns; iexists _, _; isplitr; swap; · iexact H8
      ipureintro; rfl
    isplitl [H9]
    · unfold owns; iexists _, _; isplitr; swap; · iexact H9
      ipureintro; rfl
    unfold owns; iexists _, _; isplitr; swap; · iexact H10
    ipureintro; rfl
  by_cases h1 : t.val % 37 = 36
  · iapply ((runC c (grid0.coords t) _ _ _ _ _ _ _ _ _ _ _ _ _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) s0 s1 s2 s3 s4).2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [HS0]; · iexact HS0
    isplitl [HS1]; · iexact HS1
    isplitl [HS2]; · iexact HS2
    isplitl [HS3]; · iexact HS3
    isplitl [HS4]; · iexact HS4
    iintro ⟨H0, H1, H2, H3, H4, ⟨%e5, H5⟩, ⟨%e6, H6⟩, ⟨%e7, H7⟩, HS0, HS1, HS2, HS3, ⟨%e4, HS4⟩⟩
    isplitl [HS0 HS1 HS2 HS3 HS4 Hg]
    · isplitl [HS0 HS1 HS2 HS3 HS4]
      · isplitl [HS0]
        · iexists _; iexact HS0
        isplitl [HS1]
        · unfold owns; iexists _, _; isplitr; swap; · iexact HS1
          ipureintro; rfl
        isplitl [HS2]
        · iexists _; iexact HS2
        isplitl [HS3]
        · iexists _; iexact HS3
        unfold owns; iexists _, _; isplitr; swap; · iexact HS4
        ipureintro; rfl
      iexact Hg
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _, _; isplitr; swap; · iexact H5
      ipureintro; rfl
    isplitl [H6]
    · unfold owns; iexists _, _; isplitr; swap; · iexact H6
      ipureintro; rfl
    isplitl [H7]
    · unfold owns; iexists _, _; isplitr; swap; · iexact H7
      ipureintro; rfl
    isplitl [H8]
    · iexact H8
    isplitl [H9]
    · iexact H9
    iexact H10
  · iapply ((runB c (grid0.coords t) _ _ _ _ _ _ _ _ _ _ _ _ _ _ _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) s0 s1 s2 s3 s4).2.2 Set.univ _)
    isplitl [H0]; · iexact H0
    isplitl [H1]; · iexact H1
    isplitl [H2]; · iexact H2
    isplitl [H3]; · iexact H3
    isplitl [H4]; · iexact H4
    isplitl [HS0]; · iexact HS0
    isplitl [HS1]; · iexact HS1
    isplitl [HS2]; · iexact HS2
    isplitl [HS3]; · iexact HS3
    isplitl [HS4]; · iexact HS4
    iintro ⟨H0, H1, H2, H3, H4, HS0, HS1, HS2, HS3, ⟨%e4, HS4⟩⟩
    isplitl [HS0 HS1 HS2 HS3 HS4 Hg]
    · isplitl [HS0 HS1 HS2 HS3 HS4]
      · isplitl [HS0]
        · iexists _; iexact HS0
        isplitl [HS1]
        · unfold owns; iexists _, _; isplitr; swap; · iexact HS1
          ipureintro; rfl
        isplitl [HS2]
        · iexists _; iexact HS2
        isplitl [HS3]
        · iexists _; iexact HS3
        unfold owns; iexists _, _; isplitr; swap; · iexact HS4
        ipureintro; rfl
      iexact Hg
    isplitl [Ho]; · iexact Ho
    isplitl [H0]; · iexact H0
    isplitl [H1]; · iexact H1
    isplitl [H2]; · iexact H2
    isplitl [H3]; · iexact H3
    isplitl [H4]; · iexact H4
    isplitl [H5]
    · iexact H5
    isplitl [H6]
    · iexact H6
    isplitl [H7]
    · iexact H7
    isplitl [H8]
    · iexact H8
    isplitl [H9]
    · iexact H9
    iexact H10

/-- The body table's row at a point's slots is the body. -/
theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

set_option backward.isDefEq.respectTransparency.types false in
/-- The kernel runs to the end, with the input arrays unchanged and the counters at zero. -/
theorem run_main : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame claim. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => ⟨(h.1 c).2 main_arg0 (Pipeline.mem_restRefs_of main_arg0 (by decide) (by decide)) |>.trans (V_main_arg0 m c),
      (Pipeline.RDat.FramePost.arr_in h.1 c 1 rfl).trans ((A_eq m c 1).trans (V_main_arg1 m c)),
      (Pipeline.RDat.FramePost.arr_in h.1 c 2 rfl).trans ((A_eq m c 2).trans (V_main_arg2 m c)),
      (h.1 c).2 main_arg3 (Pipeline.mem_restRefs_of main_arg3 (by decide) (by decide)) |>.trans (V_main_arg3 m c),
      (h.1 c).2 main_arg4 (Pipeline.mem_restRefs_of main_arg4 (by decide) (by decide)) |>.trans (V_main_arg4 m c)⟩, h.2⟩) (run_main m ρ)

end Cert.KernelIdeal.AnyValue

end
-- ==== Proof.Words.lean ====
/- Words that hold naturals and integers, reals inside the extended reals, and the roundings of the kernel on them. -/
module

public import Idealize.ShloMosaic.Lib.Pointwise
public import Mathlib.Tactic.Linarith
public import Mathlib.Tactic.Positivity
public import Mathlib.Tactic.NormNum
public import Mathlib.Tactic.Ring

@[expose] public section

namespace Cert.Swiglu
open Idealize.ShloMosaic

/-! Words that hold natural numbers. -/

theorem toInt_ofNat_small {x : ℕ} (h : x < 2 ^ 31) : (BitVec.ofNat 32 x).toInt = x := by
  rw [BitVec.toInt_ofNat', Int.bmod_eq_of_le] <;> omega

theorem addi_ofNat (x y : ℕ) : IntOp.addi (BitVec.ofNat 32 x) (BitVec.ofNat 32 y) = BitVec.ofNat 32 (x + y) := by
  simp [IntOp.addi, BitVec.ofNat_add]

theorem subi_ofNat {x y : ℕ} (h : y ≤ x) (hx : x < 2 ^ 32) : IntOp.subi (BitVec.ofNat 32 x) (BitVec.ofNat 32 y) = BitVec.ofNat 32 (x - y) := by
  unfold IntOp.subi
  rw [BitVec.ofNat_sub_ofNat_of_le _ _ (by omega) (by omega)]

theorem shli_ofNat {x s : ℕ} (hs : s < 32) :
    IntOp.shli .vector (BitVec.ofNat 32 x) (BitVec.ofNat 32 s) = BitVec.ofNat 32 (x * 2 ^ s) := by
  unfold IntOp.shli
  have : (BitVec.ofNat 32 s).toNat = s := by simp; omega
  rw [if_pos (by omega)]
  apply BitVec.eq_of_toNat_eq
  simp only [BitVec.shiftLeft_eq', BitVec.toNat_shiftLeft, this, BitVec.toNat_ofNat, Nat.shiftLeft_eq]
  rw [Nat.mod_mul_mod]

theorem shrsi_ofNat {x s : ℕ} (hs : s < 32) (hx : x < 2 ^ 31) :
    IntOp.shrsi .vector (BitVec.ofNat 32 x) (BitVec.ofNat 32 s) = BitVec.ofNat 32 (x / 2 ^ s) := by
  unfold IntOp.shrsi
  have h1 : (BitVec.ofNat 32 s).toNat = s := by simp; omega
  rw [if_pos (by omega), BitVec.sshiftRight', h1]
  apply BitVec.eq_of_toInt_eq
  rw [BitVec.toInt_sshiftRight, toInt_ofNat_small hx, toInt_ofNat_small (lt_of_le_of_lt (Nat.div_le_self _ _) hx),
    Int.shiftRight_eq_div_pow]
  norm_cast

theorem muli_ofNat (x y : ℕ) : IntOp.muli (BitVec.ofNat 32 x) (BitVec.ofNat 32 y) = BitVec.ofNat 32 (x * y) := by
  simp [IntOp.muli, BitVec.ofNat_mul]

/-! Words that hold integers. -/

theorem toInt_ofInt_small {x : ℤ} (h1 : -2 ^ 31 ≤ x) (h2 : x < 2 ^ 31) : (BitVec.ofInt 32 x).toInt = x := by
  rw [BitVec.toInt_ofInt, Int.bmod_eq_of_le] <;> omega

theorem addi_ofInt (x y : ℤ) : IntOp.addi (BitVec.ofInt 32 x) (BitVec.ofInt 32 y) = BitVec.ofInt 32 (x + y) := by
  simp [IntOp.addi, BitVec.ofInt_add]

theorem muli_ofInt (x y : ℤ) : IntOp.muli (BitVec.ofInt 32 x) (BitVec.ofInt 32 y) = BitVec.ofInt 32 (x * y) := by
  simp [IntOp.muli, BitVec.ofInt_mul]

theorem subi_ofInt (x y : ℤ) : IntOp.subi (BitVec.ofInt 32 x) (BitVec.ofInt 32 y) = BitVec.ofInt 32 (x - y) := by
  apply BitVec.eq_of_toInt_eq
  simp [IntOp.subi, BitVec.toInt_sub]

theorem shrsi_ofInt {x : ℤ} {s : ℕ} (hs : s < 32) (h1 : -2 ^ 31 ≤ x) (h2 : x < 2 ^ 31) :
    IntOp.shrsi .vector (BitVec.ofInt 32 x) (BitVec.ofNat 32 s) = BitVec.ofInt 32 (x / 2 ^ s) := by
  unfold IntOp.shrsi
  have h3 : (BitVec.ofNat 32 s).toNat = s := by simp; omega
  rw [if_pos (by omega), BitVec.sshiftRight', h3]
  apply BitVec.eq_of_toInt_eq
  have hp : (0 : ℤ) < 2 ^ s := by positivity
  have hp1 : (1 : ℤ) ≤ 2 ^ s := hp
  have hd1 : -2 ^ 31 ≤ x / 2 ^ s := by
    rw [Int.le_ediv_iff_mul_le hp]; nlinarith [hp1]
  have hd2 : x / 2 ^ s < 2 ^ 31 := by
    rw [Int.ediv_lt_iff_lt_mul hp]; nlinarith [hp1]
  rw [BitVec.toInt_sshiftRight, toInt_ofInt_small h1 h2, toInt_ofInt_small hd1 hd2, Int.shiftRight_eq_div_pow]
  norm_cast

theorem absi_toInt (v : BitVec 32) (h : -2 ^ 31 < v.toInt) : IntOp.absi v = BitVec.ofNat 32 v.toInt.natAbs := by
  unfold IntOp.absi
  apply BitVec.eq_of_toInt_eq
  have hlt := BitVec.toInt_lt (x := v)
  rw [toInt_ofNat_small (by omega)]
  rw [BitVec.msb_eq_toInt]
  by_cases hn : v.toInt < 0
  · simp only [hn, decide_true, if_true]
    rw [BitVec.toInt_neg, Int.bmod_eq_of_le] <;> omega
  · simp only [hn, decide_false, Bool.false_eq_true, if_false]
    omega

theorem slt_iff (x y : BitVec 32) : x.slt y = decide (x.toInt < y.toInt) := rfl

theorem maxsi_toInt (x y : BitVec 32) : IntOp.maxsi x y = BitVec.ofInt 32 (max x.toInt y.toInt) := by
  unfold IntOp.maxsi
  rw [slt_iff]
  split
  · rename_i h; rw [max_eq_left (by simpa using (of_decide_eq_true h).le), BitVec.ofInt_toInt]
  · rename_i h; rw [max_eq_right (by simpa using h), BitVec.ofInt_toInt]

theorem minsi_toInt (x y : BitVec 32) : IntOp.minsi x y = BitVec.ofInt 32 (min x.toInt y.toInt) := by
  unfold IntOp.minsi
  rw [slt_iff]
  split
  · rename_i h; rw [min_eq_left (by simpa using (of_decide_eq_true h).le), BitVec.ofInt_toInt]
  · rename_i h; rw [min_eq_right (by simpa using h), BitVec.ofInt_toInt]

theorem select_ofBool {α : Type} (b : Bool) (x y : α) : Scalar.select (BitVec.ofBool b) x y = if b then x else y := by
  cases b <;> rfl

/-! Reals inside the extended reals. -/

theorem sitofp_eq {w : ℕ} (φ : FTy) (b : BitVec w) : (FloatOps.sitofp φ b : Ideal φ) = ((b.toInt : ℝ) : EReal) := rfl

theorem fptosi_eq {w : ℕ} {φ : FTy} (x : Ideal φ) : FloatOps.fptosi w x = Ideal.fptosi w x := rfl

theorem fptosi_int32 {z : ℤ} (h1 : -2 ^ 31 ≤ z) (h2 : z < 2 ^ 31) :
    Ideal.fptosi 32 (((z : ℤ) : ℝ) : EReal) = BitVec.ofInt 32 z := by
  unfold Ideal.fptosi
  congr 1
  show max _ (min _ (if (0:ℝ) ≤ (z : ℝ) then ⌊(z : ℝ)⌋ else ⌈(z : ℝ)⌉)) = z
  rw [Int.floor_intCast, Int.ceil_intCast, ite_self]
  norm_num; omega

theorem fptosi_int8 {z : ℤ} (h1 : -2 ^ 7 ≤ z) (h2 : z < 2 ^ 7) :
    Ideal.fptosi 8 (((z : ℤ) : ℝ) : EReal) = BitVec.ofInt 8 z := by
  unfold Ideal.fptosi
  congr 1
  show max _ (min _ (if (0:ℝ) ≤ (z : ℝ) then ⌊(z : ℝ)⌋ else ⌈(z : ℝ)⌉)) = z
  rw [Int.floor_intCast, Int.ceil_intCast, ite_self]
  norm_num; omega

theorem div_real (x : ℝ) {y : ℝ} (hy : y ≠ 0) : Ideal.div (x : EReal) (y : EReal) = ((x / y : ℝ) : EReal) := by
  unfold Ideal.div
  rw [if_neg (by exact_mod_cast hy), ← EReal.coe_inv, ← EReal.coe_mul, div_eq_mul_inv]

theorem abs_real (x : ℝ) {φ : FTy} : (FloatOps.absf ((x : EReal) : Ideal φ) : Ideal φ) = ((|x| : ℝ) : EReal) := by
  show max (x : EReal) (-(x : EReal)) = _
  rw [← EReal.coe_neg]; exact (EReal.coe_strictMono.monotone.map_max).symm

theorem floor_real (x : ℝ) : Ideal.liftRound Int.floor (x : EReal) = ((⌊x⌋ : ℝ) : EReal) := rfl

theorem round_real (x : ℝ) : Ideal.liftRound Ideal.roundHalfEven (x : EReal) = ((Ideal.roundHalfEven x : ℝ) : EReal) := rfl

/-- A float32 word of a positive normal number. -/
theorem ofBits_f32 {b : BitVec 32} {e f : ℕ} (hb : b.toNat = e * 2 ^ 23 + f) (he0 : 0 < e) (he : e < 255) (hf : f < 2 ^ 23) :
    Ideal.ofBits .f32 b = (((2 ^ 23 + f : ℕ) * (2 : ℝ) ^ ((e : ℤ) - 150) : ℝ) : EReal) := by
  show Ideal.ieee 8 23 b = _
  unfold Ideal.ieee
  have h1 : (b.extractLsb' (8 + 23) 1) = 0#1 := by
    apply BitVec.eq_of_toNat_eq
    rw [BitVec.extractLsb'_toNat, hb, Nat.shiftRight_eq_div_pow]
    have : (e * 2 ^ 23 + f) / 2 ^ (8 + 23) = 0 := by apply Nat.div_eq_of_lt; omega
    rw [this]; rfl
  have h2 : (b.extractLsb' 23 8).toNat = e := by
    rw [BitVec.extractLsb'_toNat, hb, Nat.shiftRight_eq_div_pow]; omega
  have h3 : (b.extractLsb' 0 23).toNat = f := by
    rw [BitVec.extractLsb'_toNat, hb, Nat.shiftRight_eq_div_pow]; omega
  simp only [h1, h2, h3]
  rw [if_neg (by norm_num; omega), if_neg (by omega)]
  norm_num
  congr 2
  rw [show (e : ℤ) - 127 - 23 = e - 150 by ring]

/-- Rounding to nearest even gives the integer that is strictly nearest. -/
theorem roundHalfEven_eq {r : ℝ} {z : ℤ} (h1 : (z : ℝ) - 1 / 2 < r) (h2 : r < z + 1 / 2) : Ideal.roundHalfEven r = z := by
  unfold Ideal.roundHalfEven
  have hf1 := Int.floor_le r
  have hf2 := Int.lt_floor_add_one r
  have a : ⌊r⌋ ≤ z := by
    by_contra hc; rw [not_le] at hc
    have : ((z + 1 : ℤ) : ℝ) ≤ ⌊r⌋ := by exact_mod_cast hc
    push_cast at this; linarith
  have b : z ≤ ⌊r⌋ + 1 := by
    by_contra hc; rw [not_le] at hc
    have : ((⌊r⌋ + 2 : ℤ) : ℝ) ≤ z := by exact_mod_cast (by omega : ⌊r⌋ + 2 ≤ z)
    push_cast at this; linarith
  rcases (by omega : ⌊r⌋ = z ∨ ⌊r⌋ = z - 1) with h | h
  · have : (⌊r⌋ : ℝ) = z := by rw [h]
    simp only []
    rw [if_pos (by rw [this]; linarith), h]
  · have : (⌊r⌋ : ℝ) = z - 1 := by rw [h]; push_cast; ring
    simp only []
    rw [if_neg (by rw [this]; linarith), if_pos (by rw [this]; linarith), h]; ring

theorem roundHalfEven_int (z : ℤ) : Ideal.roundHalfEven (z : ℝ) = z :=
  roundHalfEven_eq (by linarith) (by linarith)

end Cert.Swiglu

end
-- ==== Proof.Spec.lean ====
/- The mathematics of the kernel on integers: the dyadic quantiser of a row, the projections' dequantisation, the integer
   SwiGLU. Both programs are shown to compute these. -/
module

public import proofs.«01_k».proof.Proof.Words

@[expose] public section

namespace Cert.Swiglu
open Idealize.ShloMosaic

/-- The largest magnitude in a row, at least one. -/
def amax {n : ℕ} (v : Fin n → ℤ) : ℕ := max 1 (Finset.univ.sup fun k => (v k).natAbs)

/-- The mantissa of the scale of a row of largest magnitude `a`: `a` normalised to 23 bits, over 127, rounded. -/
def mant (a : ℕ) : ℕ := (a * 2 ^ (22 - a.log2) + 16256) / 32512

/-- The exponent word of the scale. -/
def expo (a : ℕ) : BitVec 32 := BitVec.ofNat 32 (24 - a.log2)

/-- The magnitude `t` in units of the scale, rounded to nearest, ties up. -/
def quot (a t : ℕ) : ℕ := (t * 2 ^ (22 - a.log2) + 128 * mant a) / (256 * mant a)

/-- The code of an element `v` of a row of largest magnitude `a`. -/
def code (a : ℕ) (v : ℤ) : ℤ := max (-127) (min 127 (v.sign * quot a v.natAbs))

/-- The dequantised projection: the accumulator times the row's mantissa, shifted right with rounding. -/
def project (acc m k e : BitVec 32) : BitVec 32 :=
  IntOp.shrsi .vector (IntOp.addi (IntOp.muli acc m) (IntOp.shrsi .vector (IntOp.shli .vector 1#32 (IntOp.subi (IntOp.addi k e) 8#32)) 1#32))
    (IntOp.subi (IntOp.addi k e) 8#32)

/-- Saturation at 4095. -/
def sat (v : BitVec 32) : ℤ := max (-4095) (min 4095 v.toInt)

/-- The exponential of the silu in units of 1/4096, by octaves and a straight line. -/
def expE (a : ℕ) : ℕ := (4096 - 8 * ((a + a / 2 - a / 16) % 256)) / 2 ^ ((a + a / 2 - a / 16) / 256)

/-- The silu on integers. -/
def silu (g : ℤ) : ℤ :=
  (g * (if 0 ≤ g then 4096 else (expE g.natAbs : ℤ)) + ((4096 + expE g.natAbs : ℕ) : ℤ) / 2) / ((4096 + expE g.natAbs : ℕ) : ℤ)

/-- The gated value: silu of the gate times the up projection, shifted right by six with rounding. -/
def hval (g u : ℤ) : ℤ := (silu g * u + 32) / 64

theorem amax_pos {n : ℕ} (v : Fin n → ℤ) : 1 ≤ amax v := le_max_left _ _

theorem natAbs_le_amax {n : ℕ} (v : Fin n → ℤ) (k : Fin n) : (v k).natAbs ≤ amax v :=
  (Finset.le_sup (f := fun k => (v k).natAbs) (Finset.mem_univ k)).trans (le_max_right _ _)

theorem amax_lt {n : ℕ} (v : Fin n → ℤ) {b : ℕ} (hb : 1 < b) (h : ∀ k, (v k).natAbs < b) : amax v < b :=
  max_lt hb ((Finset.sup_lt_iff (by rw [bot_eq_zero]; omega)).mpr fun k _ => h k)

theorem expE_le (a : ℕ) : expE a ≤ 4096 := (Nat.div_le_self _ _).trans (Nat.sub_le _ _)

end Cert.Swiglu

end
-- ==== Proof.Scale.lean ====
/- The scale of a row: the kernel's exponent trick and the reference's division give the same mantissa and exponent. -/
module

public import proofs.«01_k».proof.Proof.Spec

@[expose] public section

namespace Cert.Swiglu
open Idealize.ShloMosaic

/-- The bits of the float of an integer word, from its leading-zero count. -/
def floatBits (w : BitVec 32) : BitVec 32 :=
  IntOp.addi (IntOp.shli .vector (IntOp.addi (IntOp.subi 31#32 (IntOp.ctlz w)) 126#32) 23#32)
    (IntOp.shli .vector w (IntOp.subi 23#32 (IntOp.subi 31#32 (IntOp.ctlz w))))

theorem log2_lt {a n : ℕ} (h1 : 1 ≤ a) (h : a < 2 ^ n) : a.log2 < n := (Nat.log2_lt (by omega)).mpr h

theorem ctlz_ofNat {a : ℕ} (h1 : 1 ≤ a) (h : a < 2 ^ 24) : IntOp.ctlz (BitVec.ofNat 32 a) = BitVec.ofNat 32 (31 - a.log2) := by
  unfold IntOp.ctlz
  have : (BitVec.ofNat 32 a).toNat = a := by simp; omega
  rw [if_neg, this]
  intro hc
  rw [hc] at this; simp at this; omega

theorem floatBits_ofNat {a : ℕ} (h1 : 1 ≤ a) (h : a < 2 ^ 24) :
    floatBits (BitVec.ofNat 32 a) = BitVec.ofNat 32 ((a.log2 + 126) * 2 ^ 23 + a * 2 ^ (23 - a.log2)) := by
  have hp := log2_lt h1 h
  unfold floatBits
  rw [ctlz_ofNat h1 h, subi_ofNat (by omega) (by omega), addi_ofNat, shli_ofNat (by omega), subi_ofNat (by omega) (by omega),
    shli_ofNat (by omega), addi_ofNat, show 31 - (31 - a.log2) = a.log2 by omega]

/-- An integer of 23 bits normalised: `2^22 ≤ a·2^(22 - log2 a) < 2^23`. -/
theorem normalised {a : ℕ} (h1 : 1 ≤ a) (h : a < 2 ^ 23) :
    2 ^ 22 ≤ a * 2 ^ (22 - a.log2) ∧ a * 2 ^ (22 - a.log2) < 2 ^ 23 := by
  have hp := log2_lt h1 h
  have hlo : 2 ^ a.log2 ≤ a := Nat.log2_self_le (by omega)
  have hhi : a < 2 ^ (a.log2 + 1) := Nat.lt_log2_self
  have e1 : 2 ^ a.log2 * 2 ^ (22 - a.log2) = 2 ^ 22 := by rw [← pow_add]; congr 1; omega
  have e2 : 2 ^ (a.log2 + 1) * 2 ^ (22 - a.log2) = 2 ^ 23 := by rw [← pow_add]; congr 1; omega
  constructor
  · rw [← e1]; exact Nat.mul_le_mul_right _ hlo
  · rw [← e2]; exact Nat.mul_lt_mul_of_pos_right hhi (by positivity)

theorem twice_normalised {a : ℕ} (h1 : 1 ≤ a) (h : a < 2 ^ 23) : a * 2 ^ (23 - a.log2) = 2 * (a * 2 ^ (22 - a.log2)) := by
  have hp := log2_lt h1 h
  rw [show 23 - a.log2 = (22 - a.log2) + 1 by omega, pow_succ]; ring

theorem mant_bounds {a : ℕ} (h1 : 1 ≤ a) (h : a < 2 ^ 23) : 129 ≤ mant a ∧ mant a ≤ 258 := by
  obtain ⟨hl, hh⟩ := normalised h1 h
  unfold mant; omega

/-- The kernel's bit length. -/
theorem kernel_bits {a : ℕ} (h1 : 1 ≤ a) (h : a < 2 ^ 23) :
    IntOp.subi (IntOp.shrsi .vector (floatBits (BitVec.ofNat 32 a)) 23#32) 126#32 = BitVec.ofNat 32 (a.log2 + 1) := by
  have hp := log2_lt h1 h
  obtain ⟨hl, hh⟩ := normalised h1 h
  rw [floatBits_ofNat h1 (by omega), twice_normalised h1 h, shrsi_ofNat (by omega) (by omega), subi_ofNat (by omega) (by omega)]
  congr 1; omega

theorem half_f32 : Ideal.ofBits .f32 1056964608#32 = ((1 / 2 : ℝ) : EReal) := by
  rw [ofBits_f32 (e := 126) (f := 0) rfl (by omega) (by omega) (by omega)]
  congr 1; norm_num

theorem recip127_f32 : Ideal.ofBits .f32 1006699012#32 = ((8454660 / 2 ^ 30 : ℝ) : EReal) := by
  rw [ofBits_f32 (e := 120) (f := 66052) rfl (by omega) (by omega) (by omega)]
  norm_num

theorem c32512_f32 : Ideal.ofBits .f32 1191051264#32 = (((32512 : ℕ) : ℝ) : EReal) := by
  rw [ofBits_f32 (e := 141) (f := 8257536) rfl (by omega) (by omega) (by omega)]
  congr 1; norm_num

/-- The kernel's mantissa word. -/
noncomputable def kernelMant (w : BitVec 32) : BitVec 32 :=
  FloatOps.fptosi (F := Ideal) (φ := .f32) 32 (Ideal.liftRound Int.floor
    ((FloatOps.sitofp (F := Ideal) .f32 (IntOp.shrsi .vector (IntOp.addi
        (IntOp.shrsi .vector (IntOp.ori (IntOp.andi (floatBits w) 8388607#32) 8388608#32) 1#32) 16256#32) 8#32)
      + Ideal.ofBits .f32 1056964608#32) * Ideal.ofBits .f32 1006699012#32))

theorem kernelMant_ofNat {a : ℕ} (h1 : 1 ≤ a) (h : a < 2 ^ 23) : kernelMant (BitVec.ofNat 32 a) = BitVec.ofNat 32 (mant a) := by
  have hp := log2_lt h1 h
  obtain ⟨hl, hh⟩ := normalised h1 h
  unfold kernelMant mant
  rw [floatBits_ofNat h1 (by omega), twice_normalised h1 h]
  generalize a * 2 ^ (22 - a.log2) = B at *
  have hand : IntOp.ori (IntOp.andi (BitVec.ofNat 32 ((a.log2 + 126) * 2 ^ 23 + 2 * B)) 8388607#32) 8388608#32 = BitVec.ofNat 32 (2 * B) := by
    apply BitVec.eq_of_toNat_eq
    simp only [IntOp.ori, IntOp.andi, BitVec.toNat_or, BitVec.toNat_and, BitVec.toNat_ofNat]
    rw [Nat.mod_eq_of_lt (by omega : (a.log2 + 126) * 2 ^ 23 + 2 * B < 2 ^ 32), Nat.mod_eq_of_lt (by omega : 2 * B < 2 ^ 32),
      show 8388607 % 2 ^ 32 = 2 ^ 23 - 1 by norm_num, show 8388608 % 2 ^ 32 = 2 ^ 23 * 1 by norm_num, Nat.and_two_pow_sub_one_eq_mod,
      show ((a.log2 + 126) * 2 ^ 23 + 2 * B) % 2 ^ 23 = 2 * B - 2 ^ 23 by omega, Nat.or_comm,
      ← Nat.two_pow_add_eq_or_of_lt (by omega)]
    omega
  rw [hand, shrsi_ofNat (by omega) (by omega), show 2 * B / 2 ^ 1 = B by omega, addi_ofNat, shrsi_ofNat (by omega) (by omega),
    sitofp_eq, toInt_ofNat_small (by omega), half_f32, recip127_f32, ← EReal.coe_add, ← EReal.coe_mul, floor_real, fptosi_eq]
  have hT : (B + 16256) / 2 ^ 8 = 127 * ((B + 16256) / 32512) + (B + 16256) / 2 ^ 8 % 127 := by omega
  have hr : (B + 16256) / 2 ^ 8 % 127 < 127 := Nat.mod_lt _ (by omega)
  have hq : (B + 16256) / 32512 ≤ 258 := by omega
  generalize (B + 16256) / 32512 = q at *
  generalize (B + 16256) / 2 ^ 8 % 127 = r at *
  rw [hT]
  have hr' : (r : ℝ) ≤ 126 := by exact_mod_cast (by omega : r ≤ 126)
  have hr0 : (0 : ℝ) ≤ r := by positivity
  have hq' : (q : ℝ) ≤ 258 := by exact_mod_cast hq
  have hq0 : (0 : ℝ) ≤ q := by positivity
  have : ⌊((((127 * q + r : ℕ) : ℤ) : ℝ) + 1 / 2) * (8454660 / 2 ^ 30)⌋ = (q : ℤ) := by
    rw [Int.floor_eq_iff]
    push_cast
    constructor <;> linarith
  rw [this, fptosi_int32 (by omega) (by omega)]
  rfl

theorem floor_div_nat (n : ℤ) {d : ℕ} (h0 : 0 < d) : ⌊(n : ℝ) / (d : ℝ)⌋ = n / (d : ℤ) := by
  have hdz : (0 : ℤ) < d := by exact_mod_cast h0
  have hd : (0 : ℝ) < d := by exact_mod_cast h0
  have hr0 : (0 : ℝ) ≤ ((n % d : ℤ) : ℝ) := by exact_mod_cast Int.emod_nonneg n hdz.ne'
  have hr1 : ((n % d : ℤ) : ℝ) < d := by exact_mod_cast Int.emod_lt_of_pos n hdz
  have hz : (n : ℝ) = ((n / (d : ℤ) : ℤ) : ℝ) * d + ((n % d : ℤ) : ℝ) := by exact_mod_cast (Int.ediv_mul_add_emod n d).symm
  rw [Int.floor_eq_iff]
  constructor
  · rw [le_div_iff₀ hd]; linarith
  · rw [div_lt_iff₀ hd]; linarith

/-- The reference's division: the floor of the quotient over the reals needs neither of its corrections. -/
theorem floordiv_word {n : ℤ} {d : ℕ} {x : EReal} (hx : x = ((d : ℝ) : EReal)) (h0 : 0 < d) (hd : d < 2 ^ 30) (hn : -2 ^ 30 ≤ n) (hn' : n < 2 ^ 30) :
    IntOp.addi
      (IntOp.subi (FloatOps.fptosi (F := Ideal) (φ := .f32) 32 (Ideal.liftRound Int.floor (Ideal.div (FloatOps.sitofp (F := Ideal) .f32 (BitVec.ofInt 32 n)) x)))
        (BitVec.setWidth 32 (IntOp.cmpi .slt (IntOp.subi (BitVec.ofInt 32 n) (IntOp.muli
          (FloatOps.fptosi (F := Ideal) (φ := .f32) 32 (Ideal.liftRound Int.floor (Ideal.div (FloatOps.sitofp (F := Ideal) .f32 (BitVec.ofInt 32 n)) x)))
          (BitVec.ofNat 32 d))) 0#32)))
      (BitVec.setWidth 32 (IntOp.cmpi .sge (IntOp.subi (BitVec.ofInt 32 n) (IntOp.muli
          (FloatOps.fptosi (F := Ideal) (φ := .f32) 32 (Ideal.liftRound Int.floor (Ideal.div (FloatOps.sitofp (F := Ideal) .f32 (BitVec.ofInt 32 n)) x)))
          (BitVec.ofNat 32 d))) (BitVec.ofNat 32 d)))
    = BitVec.ofInt 32 (n / d) := by
  have hd0 : (d : ℝ) ≠ 0 := by exact_mod_cast h0.ne'
  have hdz : (0 : ℤ) < d := by exact_mod_cast h0
  have e1 : -2 ^ 30 ≤ n / (d : ℤ) := by
    rw [Int.le_ediv_iff_mul_le hdz]; nlinarith
  have e2 : n / (d : ℤ) < 2 ^ 30 := by
    rw [Int.ediv_lt_iff_lt_mul hdz]; nlinarith
  have hq : FloatOps.fptosi (F := Ideal) (φ := .f32) 32 (Ideal.liftRound Int.floor (Ideal.div (FloatOps.sitofp (F := Ideal) .f32 (BitVec.ofInt 32 n)) x))
      = BitVec.ofInt 32 (n / d) := by
    rw [sitofp_eq, toInt_ofInt_small (by omega) (by omega), hx, div_real _ hd0, floor_real, fptosi_eq]
    have : ⌊(n : ℝ) / d⌋ = n / (d : ℤ) := by
      exact floor_div_nat n h0
    rw [this, fptosi_int32 (by omega) (by omega)]
  have hr0 := Int.emod_nonneg n hdz.ne'
  have hr1 := Int.emod_lt_of_pos n hdz
  have hdn : BitVec.ofNat 32 d = BitVec.ofInt 32 d := by rfl
  rw [hq, hdn, muli_ofInt, subi_ofInt, show n - n / (d : ℤ) * d = n % d by rw [Int.emod_def]; ring]
  have c1 : IntOp.cmpi .slt (BitVec.ofInt 32 (n % d)) 0#32 = 0#1 := by
    show BitVec.ofBool (decide _) = _
    rw [decide_eq_false]; rfl
    rw [toInt_ofInt_small (by omega) (by omega)]; simpa using hr0
  have c2 : IntOp.cmpi .sge (BitVec.ofInt 32 (n % d)) (BitVec.ofInt 32 d) = 0#1 := by
    show BitVec.ofBool (decide _) = _
    rw [decide_eq_false]; rfl
    rw [toInt_ofInt_small (by omega) (by omega), toInt_ofInt_small (by omega) (by omega)]; omega
  rw [c1, c2]
  simp [IntOp.addi, IntOp.subi]

end Cert.Swiglu

end
-- ==== Proof.Codes.lean ====
/- The row maximum and the codes of the quantiser, as the kernel takes them over the reals and as the reference does on words. -/
module

public import proofs.«01_k».proof.Proof.Scale

@[expose] public section

namespace Cert.Swiglu
open Idealize.ShloMosaic

theorem amax_mem {n : ℕ} (v : Fin n → ℤ) : amax v = 1 ∨ ∃ k, amax v = (v k).natAbs := by
  unfold amax
  rcases le_total (Finset.univ.sup fun k => (v k).natAbs) 1 with h | h
  · exact Or.inl (max_eq_left h)
  · refine Or.inr ?_
    rcases Finset.eq_empty_or_nonempty (Finset.univ : Finset (Fin n)) with he | hne
    · rw [he] at h; simp at h
    · obtain ⟨k, -, hk⟩ := Finset.exists_mem_eq_sup _ hne fun k => (v k).natAbs
      exact ⟨k, by rw [max_eq_right h, hk]⟩

theorem max_real (x y : ℝ) : max (x : EReal) (y : EReal) = ((max x y : ℝ) : EReal) := (EReal.coe_strictMono.monotone.map_max).symm

theorem min_real (x y : ℝ) : min (x : EReal) (y : EReal) = ((min x y : ℝ) : EReal) := (EReal.coe_strictMono.monotone.map_min).symm

/-- A maximum over the extended reals of a row's magnitudes that starts at one. -/
theorem fold_max_real {n : ℕ} (v : Fin n → ℤ) (f : Fin n → EReal) (hf : ∀ k, f k = (((v k).natAbs : ℝ) : EReal)) {b : EReal} (hb : b ≤ 1) :
    max (Finset.fold max b f Finset.univ) 1 = ((amax v : ℝ) : EReal) := by
  have h1 : (1 : EReal) ≤ ((amax v : ℝ) : EReal) := by exact_mod_cast amax_pos v
  apply le_antisymm
  · refine max_le (Finset.fold_max_le _ |>.mpr ⟨hb.trans h1, fun k _ => ?_⟩) h1
    rw [hf]; exact_mod_cast natAbs_le_amax v k
  · rcases amax_mem v with h | ⟨k, h⟩
    · rw [h]; exact le_max_of_le_right (by norm_num)
    · rw [h]; exact le_max_of_le_left ((Finset.le_fold_max _).mpr (Or.inr ⟨k, Finset.mem_univ k, by rw [hf]⟩))

/-- The kernel's row maximum as a word. -/
theorem kernel_amax {n : ℕ} (v : Fin n → BitVec 32) (h : ∀ k, (v k).toInt.natAbs < 2 ^ 23) :
    FloatOps.fptosi (F := Ideal) (φ := .f32) 32 (max (Finset.fold max (Ideal.ofBits .f32 4286578688#32)
      (fun x => (FloatOps.absf (FloatOps.sitofp .f32 (v x)) : Ideal .f32)) Finset.univ) 1)
    = BitVec.ofNat 32 (amax fun k => (v k).toInt) := by
  have hb : Ideal.ofBits .f32 4286578688#32 = ⊥ := by
    show Ideal.ieee 8 23 (4286578688#32) = _
    simp [Ideal.ieee]
  have hf := fold_max_real (fun k => (v k).toInt) (fun x => (FloatOps.absf (FloatOps.sitofp .f32 (v x)) : Ideal .f32))
    (fun k => by rw [sitofp_eq, abs_real, Nat.cast_natAbs, Int.cast_abs]) (b := Ideal.ofBits .f32 4286578688#32) (by rw [hb]; exact bot_le)
  have hlt := amax_lt (fun k => (v k).toInt) (by norm_num) h
  refine (congrArg (FloatOps.fptosi (F := Ideal) (φ := .f32) 32) hf).trans ?_
  rw [fptosi_eq]
  have := fptosi_int32 (z := (amax fun k => (v k).toInt : ℕ)) (by omega) (by omega)
  simpa using this

theorem maxsi_toInt' (x y : BitVec 32) : (IntOp.maxsi x y).toInt = max x.toInt y.toInt := by
  unfold IntOp.maxsi
  rw [slt_iff]
  split
  · rename_i h; rw [max_eq_left (by simpa using (of_decide_eq_true h).le)]
  · rename_i h; rw [max_eq_right (by simpa using h)]

/-- The reference's row maximum as a word. -/
theorem reference_amax {n : ℕ} (v : Fin n → BitVec 32) (h : ∀ k, (v k).toInt.natAbs < 2 ^ 23) :
    IntOp.maxsi (Finset.fold IntOp.maxsi (2147483648#32) (fun x => IntOp.absi (v x)) Finset.univ) 1#32
    = BitVec.ofNat 32 (amax fun k => (v k).toInt) := by
  have hlt := amax_lt (fun k => (v k).toInt) (by norm_num) h
  have habs : ∀ k, (IntOp.absi (v k)).toInt = ((v k).toInt.natAbs : ℤ) := fun k => by
    have := h k
    rw [absi_toInt _ (by omega), toInt_ofNat_small (by omega)]
  apply BitVec.eq_of_toInt_eq
  rw [maxsi_toInt', toInt_ofNat_small (x := amax fun k => (v k).toInt) (by omega), ← Finset.fold_hom (op' := max) (m := BitVec.toInt) maxsi_toInt']
  simp only [habs]
  apply le_antisymm
  · refine max_le (Finset.fold_max_le _ |>.mpr ⟨?_, fun k _ => ?_⟩) ?_
    · show (-2147483648 : ℤ) ≤ _
      omega
    · exact Int.ofNat_le.mpr (natAbs_le_amax (fun k => (v k).toInt) k)
    · exact Int.ofNat_le.mpr (amax_pos (fun k => (v k).toInt))
  · rcases amax_mem (fun k => (v k).toInt) with h | ⟨k, h⟩
    · rw [h]; exact le_max_of_le_right (by decide)
    · rw [h]; exact le_max_of_le_left ((Finset.le_fold_max _).mpr (Or.inr ⟨k, Finset.mem_univ k, le_refl _⟩))

/-- A float32 word of a negative normal number. -/
theorem ofBits_f32_neg {b : BitVec 32} {e f : ℕ} (hb : b.toNat = 2 ^ 31 + e * 2 ^ 23 + f) (he0 : 0 < e) (he : e < 255) (hf : f < 2 ^ 23) :
    Ideal.ofBits .f32 b = ((-((2 ^ 23 + f : ℕ) * (2 : ℝ) ^ ((e : ℤ) - 150)) : ℝ) : EReal) := by
  show Ideal.ieee 8 23 b = _
  unfold Ideal.ieee
  have h1 : (b.extractLsb' (8 + 23) 1) = 1#1 := by
    apply BitVec.eq_of_toNat_eq
    rw [BitVec.extractLsb'_toNat, hb, Nat.shiftRight_eq_div_pow]
    have : (2 ^ 31 + e * 2 ^ 23 + f) / 2 ^ (8 + 23) = 1 := by omega
    rw [this]; rfl
  have h2 : (b.extractLsb' 23 8).toNat = e := by
    rw [BitVec.extractLsb'_toNat, hb, Nat.shiftRight_eq_div_pow]; omega
  have h3 : (b.extractLsb' 0 23).toNat = f := by
    rw [BitVec.extractLsb'_toNat, hb, Nat.shiftRight_eq_div_pow]; omega
  simp only [h1, h2, h3]
  rw [if_neg (by norm_num; omega), if_neg (by omega)]
  refine congrArg (fun r : ℝ => (r : EReal)) ?_
  norm_num
  rw [show (e : ℤ) - 127 - 23 = e - 150 by ring]
  ring

theorem c127_f32 : Ideal.ofBits .f32 1123942400#32 = ((127 : ℝ) : EReal) := by
  rw [ofBits_f32 (e := 133) (f := 8257536) rfl (by omega) (by omega) (by omega)]
  norm_num

theorem cm127_f32 : Ideal.ofBits .f32 3271426048#32 = ((-127 : ℝ) : EReal) := by
  rw [ofBits_f32_neg (e := 133) (f := 8257536) rfl (by omega) (by omega) (by omega)]
  norm_num

/-- The kernel's code of an element, from the element, the row's bit length and its mantissa. -/
noncomputable def kernelCode (v n m : BitVec 32) : EReal :=
  min (Ideal.ofBits .f32 1123942400#32) (max (Ideal.ofBits .f32 3271426048#32)
    (Scalar.select (IntOp.cmpi .slt v 0#32)
      (0 - Ideal.liftRound Int.floor
        ((FloatOps.sitofp (F := Ideal) .f32 (IntOp.shrsi .vector (IntOp.addi (IntOp.shli .vector (IntOp.absi v) (IntOp.subi 23#32 n))
            (IntOp.shli .vector m 7#32)) 8#32) + Ideal.ofBits .f32 1056964608#32) * Ideal.div 1 (FloatOps.sitofp (F := Ideal) .f32 m)))
      (Ideal.liftRound Int.floor
        ((FloatOps.sitofp (F := Ideal) .f32 (IntOp.shrsi .vector (IntOp.addi (IntOp.shli .vector (IntOp.absi v) (IntOp.subi 23#32 n))
            (IntOp.shli .vector m 7#32)) 8#32) + Ideal.ofBits .f32 1056964608#32) * Ideal.div 1 (FloatOps.sitofp (F := Ideal) .f32 m)))))

theorem scaled_lt {a t : ℕ} (h1 : 1 ≤ a) (h : a < 2 ^ 23) (ht : t ≤ a) : t * 2 ^ (22 - a.log2) < 2 ^ 23 :=
  lt_of_le_of_lt (Nat.mul_le_mul_right _ ht) (normalised h1 h).2

theorem quot_lt {a t : ℕ} (h1 : 1 ≤ a) (h : a < 2 ^ 23) (ht : t ≤ a) : quot a t < 2 ^ 23 := by
  have := scaled_lt h1 h ht
  have hm := mant_bounds h1 h
  unfold quot
  refine Nat.div_lt_of_lt_mul ?_
  nlinarith

theorem kernel_quot {a : ℕ} {v : BitVec 32} (h1 : 1 ≤ a) (h : a < 2 ^ 23) (hv : v.toInt.natAbs ≤ a) :
    Ideal.liftRound Int.floor
        ((FloatOps.sitofp (F := Ideal) .f32 (IntOp.shrsi .vector (IntOp.addi (IntOp.shli .vector (IntOp.absi v) (IntOp.subi 23#32 (BitVec.ofNat 32 (a.log2 + 1))))
            (IntOp.shli .vector (BitVec.ofNat 32 (mant a)) 7#32)) 8#32) + Ideal.ofBits .f32 1056964608#32) * Ideal.div 1 (FloatOps.sitofp (F := Ideal) .f32 (BitVec.ofNat 32 (mant a))))
    = (((quot a v.toInt.natAbs : ℕ) : ℝ) : EReal) := by
  have hp := log2_lt h1 h
  have hN := scaled_lt h1 h hv
  obtain ⟨hm0, hm1⟩ := mant_bounds h1 h
  rw [absi_toInt _ (by omega), subi_ofNat (by omega) (by omega), shli_ofNat (by omega), shli_ofNat (by omega), addi_ofNat,
    show 23 - (a.log2 + 1) = 22 - a.log2 by omega, shrsi_ofNat (by omega) (by omega), sitofp_eq, sitofp_eq, toInt_ofNat_small (by omega),
    toInt_ofNat_small (by omega), half_f32, show (1 : EReal) = ((1 : ℝ) : EReal) from rfl,
    div_real _ (by exact_mod_cast (by omega : mant a ≠ 0)), ← EReal.coe_add, ← EReal.coe_mul, floor_real]
  unfold quot
  generalize v.toInt.natAbs * 2 ^ (22 - a.log2) = N at *
  generalize mant a = m at *
  have e : (N + 128 * m) / (256 * m) = (N + m * 2 ^ 7) / 2 ^ 8 / m := by
    rw [Nat.div_div_eq_div_mul]; congr 1; ring
  rw [e]
  generalize (N + m * 2 ^ 7) / 2 ^ 8 = T
  have hm : (0 : ℝ) < m := by exact_mod_cast (by omega : 0 < m)
  have hT : (T : ℝ) = ((T / m : ℕ) : ℝ) * m + ((T % m : ℕ) : ℝ) := by exact_mod_cast (Nat.div_add_mod' T m).symm
  have hr : ((T % m : ℕ) : ℝ) ≤ m - 1 := by
    have := Nat.mod_lt T (by omega : m > 0)
    have h2 : T % m + 1 ≤ m := this
    have : ((T % m : ℕ) : ℝ) + 1 ≤ m := by exact_mod_cast h2
    linarith
  have hr0 : (0 : ℝ) ≤ ((T % m : ℕ) : ℝ) := by positivity
  have : ⌊(((T : ℤ) : ℝ) + 1 / 2) * (1 / ((m : ℤ) : ℝ))⌋ = ((T / m : ℕ) : ℤ) := by
    generalize T / m = Q at *
    generalize T % m = R at *
    rw [Int.floor_eq_iff, mul_one_div]
    push_cast
    constructor
    · rw [le_div_iff₀ hm]; nlinarith
    · rw [div_lt_iff₀ hm]; nlinarith
  rw [this]
  norm_cast

theorem clip_real (x : ℝ) : min 127 (max (-127) x) = max (-127) (min 127 x) := by
  rw [max_min_distrib_left, max_eq_right (by norm_num : (-127 : ℝ) ≤ 127)]

theorem kernelCode_eq {a : ℕ} {v : BitVec 32} (h1 : 1 ≤ a) (h : a < 2 ^ 23) (hv : v.toInt.natAbs ≤ a) :
    kernelCode v (BitVec.ofNat 32 (a.log2 + 1)) (BitVec.ofNat 32 (mant a)) = (((code a v.toInt : ℤ) : ℝ) : EReal) := by
  unfold kernelCode
  rw [kernel_quot h1 h hv, c127_f32, cm127_f32, show IntOp.cmpi .slt v 0#32 = BitVec.ofBool (decide (v.toInt < 0)) from rfl, select_ofBool]
  unfold code
  have hz : v.toInt = 0 → quot a v.toInt.natAbs = 0 := by
    intro h0
    obtain ⟨hm0, hm1⟩ := mant_bounds h1 h
    unfold quot
    rw [h0]
    apply Nat.div_eq_of_lt
    simp; omega
  generalize quot a v.toInt.natAbs = q at *
  rcases lt_trichotomy v.toInt 0 with hn | h0 | hp
  · rw [if_pos (by simpa using hn), Int.sign_eq_neg_one_of_neg hn, zero_sub, ← EReal.coe_neg, max_real, min_real]
    push_cast
    rw [neg_one_mul, clip_real]
  · rw [if_neg (by simp [h0]), hz h0, h0, max_real, min_real]
    norm_num
  · rw [if_neg (by simpa using hp.le), Int.sign_eq_one_of_pos hp, max_real, min_real]
    push_cast
    rw [one_mul, clip_real]

theorem code_bounds (a : ℕ) (v : ℤ) : -127 ≤ code a v ∧ code a v ≤ 127 := by
  unfold code; omega

theorem setWidth8 (z : ℤ) : BitVec.setWidth 8 (BitVec.ofInt 32 z) = BitVec.ofInt 8 z := by
  apply BitVec.eq_of_toNat_eq
  simp only [BitVec.toNat_setWidth, BitVec.toNat_ofInt]
  omega

theorem sign_word (v : BitVec 32) :
    IntOp.subi (BitVec.setWidth 32 (IntOp.cmpi .sgt v 0#32)) (BitVec.setWidth 32 (IntOp.cmpi .slt v 0#32)) = BitVec.ofInt 32 v.toInt.sign := by
  rw [show IntOp.cmpi .slt v 0#32 = BitVec.ofBool (decide (v.toInt < 0)) from rfl,
    show IntOp.cmpi .sgt v 0#32 = BitVec.ofBool (decide (0 < v.toInt)) from rfl]
  rcases lt_trichotomy v.toInt 0 with hn | h0 | hp
  · rw [decide_eq_true hn, decide_eq_false (by omega), Int.sign_eq_neg_one_of_neg hn]; rfl
  · rw [h0]; rfl
  · rw [decide_eq_true hp, decide_eq_false (by omega), Int.sign_eq_one_of_pos hp]; rfl

/-- The reference's clip of signed magnitudes, as eight-bit codes. -/
theorem reference_clip {a : ℕ} {v : BitVec 32} {q : BitVec 32} (h1 : 1 ≤ a) (h : a < 2 ^ 23) (hv : v.toInt.natAbs ≤ a)
    (hq : q = BitVec.ofInt 32 (quot a v.toInt.natAbs)) :
    BitVec.setWidth 8 (IntOp.minsi 127#32 (IntOp.maxsi 4294967169#32 (IntOp.muli
      (IntOp.subi (BitVec.setWidth 32 (IntOp.cmpi .sgt v 0#32)) (BitVec.setWidth 32 (IntOp.cmpi .slt v 0#32))) q)))
    = BitVec.ofInt 8 (code a v.toInt) := by
  have hl := quot_lt h1 h hv
  have hs : v.toInt.sign = -1 ∨ v.toInt.sign = 0 ∨ v.toInt.sign = 1 := by
    rcases lt_trichotomy v.toInt 0 with hn | h0 | hp
    · exact Or.inl (Int.sign_eq_neg_one_of_neg hn)
    · rw [h0]; simp
    · exact Or.inr (Or.inr (Int.sign_eq_one_of_pos hp))
  rw [sign_word, hq, muli_ofInt, minsi_toInt, maxsi_toInt', setWidth8]
  congr 1
  unfold code
  generalize quot a v.toInt.natAbs = q at *
  have hb : -2 ^ 31 ≤ v.toInt.sign * (q : ℤ) ∧ v.toInt.sign * (q : ℤ) < 2 ^ 31 := by
    rcases hs with e | e | e <;> rw [e] <;> constructor <;> omega
  rw [toInt_ofInt_small hb.1 hb.2, show (127#32).toInt = 127 from rfl, show (4294967169#32).toInt = -127 from rfl]
  omega

end Cert.Swiglu

end
-- ==== Proof.Silu.lean ====
/- The silu: the kernel's exponential by float bits and one multiplication by a reciprocal, rounded, is the integer silu. -/
module

public import proofs.«01_k».proof.Proof.Codes

@[expose] public section

namespace Cert.Swiglu
open Idealize.ShloMosaic

/-- The bits of the kernel's exponential at the magnitude `a`, as a natural number. -/
def expBits (a : ℕ) : ℕ :=
  ((1259227759 - a) + (1259227759 - a) / 2 - (1259227759 - a) / 16) * 2 ^ 15 % 2 ^ 32

/-- The float of those bits is at least one half ulp of an integer that the floor removes: checked at each magnitude. -/
theorem expBits_floor : ∀ a : Fin 4096, 0 < expBits a / 2 ^ 23 ∧ expBits a / 2 ^ 23 ≤ 150 ∧
    (2 ^ 23 + expBits a % 2 ^ 23) / 2 ^ (150 - expBits a / 2 ^ 23) = expE a := by decide +kernel

/-- The rounded product with the reciprocal is the silu's distance from its ramp, for both signs: checked at each magnitude. -/
theorem silu_round : ∀ a : Fin 4096,
    (2 * (-silu (-(a : ℤ))) - 1) * ((512 * (4096 + expE a) + 1 : ℕ) : ℤ) < 1024 * a * expE a ∧
    1024 * a * expE a < (2 * (-silu (-(a : ℤ))) + 1) * ((512 * (4096 + expE a) + 1 : ℕ) : ℤ) ∧
    silu a = a + silu (-(a : ℤ)) ∧ -4095 ≤ silu (-(a : ℤ)) ∧ silu (-(a : ℤ)) ≤ 0 := by decide +kernel

theorem c9325167_f32 : Ideal.ofBits .f32 1259227759#32 = ((9325167 : ℝ) : EReal) := by
  rw [ofBits_f32 (e := 150) (f := 936559) rfl (by omega) (by omega) (by omega)]
  norm_num

theorem c4096_f32 : Ideal.ofBits .f32 1166016516#32 = ((4096 + 1 / 512 : ℝ) : EReal) := by
  rw [ofBits_f32 (e := 139) (f := 4) rfl (by omega) (by omega) (by omega)]
  congr 1; norm_num

theorem inv64_f32 : Ideal.ofBits .f32 1015021568#32 = ((1 / 64 : ℝ) : EReal) := by
  rw [ofBits_f32 (e := 121) (f := 0) rfl (by omega) (by omega) (by omega)]
  congr 1; norm_num

/-- The kernel's exponential before its floor, from the magnitude of the gate. -/
noncomputable def kernelExp (A : EReal) : EReal :=
  Ideal.liftRound Int.floor (Ideal.ofBits .f32 (IntOp.shli .vector
    (IntOp.subi
      (IntOp.addi (floatBits (FloatOps.fptosi (F := Ideal) (φ := .f32) 32 (Ideal.ofBits .f32 1259227759#32 - A)))
        (IntOp.shrsi .vector (floatBits (FloatOps.fptosi (F := Ideal) (φ := .f32) 32 (Ideal.ofBits .f32 1259227759#32 - A))) 1#32))
      (IntOp.shrsi .vector (floatBits (FloatOps.fptosi (F := Ideal) (φ := .f32) 32 (Ideal.ofBits .f32 1259227759#32 - A))) 4#32))
    15#32))

theorem kernelExp_eq {a : ℕ} (ha : a < 4096) : kernelExp ((a : ℝ) : EReal) = ((expE a : ℝ) : EReal) := by
  obtain ⟨h0, h1, h2⟩ := expBits_floor ⟨a, ha⟩
  simp only at h0 h1 h2
  have hw : FloatOps.fptosi (F := Ideal) (φ := .f32) 32 (Ideal.ofBits .f32 1259227759#32 - ((a : ℝ) : EReal)) = BitVec.ofNat 32 (9325167 - a) := by
    rw [c9325167_f32, ← EReal.coe_sub, fptosi_eq, show (9325167 : ℝ) - a = (((9325167 - a : ℕ) : ℤ) : ℝ) by push_cast [Nat.cast_sub (by omega : a ≤ 9325167)]; ring,
      fptosi_int32 (by omega) (by omega)]
    rfl
  have hl : (9325167 - a).log2 = 23 := by
    have h3 : (9325167 - a).log2 < 24 := log2_lt (by omega) (by omega)
    have h4 : 23 ≤ (9325167 - a).log2 := (Nat.le_log2 (by omega)).mpr (by omega)
    omega
  unfold kernelExp
  rw [hw, floatBits_ofNat (by omega) (by omega), hl, show (23 + 126) * 2 ^ 23 + (9325167 - a) * 2 ^ (23 - 23) = 1259227759 - a by omega,
    shrsi_ofNat (by omega) (by omega), shrsi_ofNat (by omega) (by omega), addi_ofNat, subi_ofNat (by omega) (by omega), shli_ofNat (by omega)]
  rw [ofBits_f32 (e := expBits a / 2 ^ 23) (f := expBits a % 2 ^ 23) (by
    rw [BitVec.toNat_ofNat, Nat.div_add_mod']; rfl) h0 (by omega) (Nat.mod_lt _ (by norm_num)), floor_real]
  congr 2
  have e : (2 : ℝ) ^ (((expBits a / 2 ^ 23 : ℕ) : ℤ) - 150) = 1 / ((2 ^ (150 - expBits a / 2 ^ 23) : ℕ) : ℝ) := by
    rw [show ((expBits a / 2 ^ 23 : ℕ) : ℤ) - 150 = -((150 - expBits a / 2 ^ 23 : ℕ) : ℤ) by omega, zpow_neg, zpow_natCast]
    push_cast; rw [one_div]
  rw [e, mul_one_div]
  have := floor_div_nat ((2 ^ 23 + expBits a % 2 ^ 23 : ℕ) : ℤ) (d := 2 ^ (150 - expBits a / 2 ^ 23)) (by positivity)
  rw [Int.cast_natCast] at this
  rw [this, ← h2]
  norm_cast

/-- The kernel's gated value from the clipped gate and up projection. -/
noncomputable def kernelH (G A U : EReal) : EReal :=
  Ideal.liftRound Int.floor ((max G 0 - Ideal.liftRound Ideal.roundHalfEven (A * kernelExp A * Ideal.div 1 (kernelExp A + Ideal.ofBits .f32 1166016516#32)))
    * U * Ideal.ofBits .f32 1015021568#32 + Ideal.ofBits .f32 1056964608#32)

theorem silu_bounds {g : ℤ} (h : g.natAbs < 4096) : -4095 ≤ silu g ∧ silu g ≤ 4095 := by
  obtain ⟨-, -, h3, h4, h5⟩ := silu_round ⟨g.natAbs, h⟩
  simp only at h3 h4 h5
  rcases le_total 0 g with hg | hg
  · have : ((g.natAbs : ℕ) : ℤ) = g := by omega
    rw [this] at h3 h4 h5; omega
  · have : ((g.natAbs : ℕ) : ℤ) = -g := by omega
    rw [this, neg_neg] at h4 h5; omega

theorem round_quot {a E : ℕ} {Z : ℤ} (h1 : (2 * Z - 1) * ((512 * (4096 + E) + 1 : ℕ) : ℤ) < 1024 * a * E)
    (h2 : 1024 * a * E < (2 * Z + 1) * ((512 * (4096 + E) + 1 : ℕ) : ℤ)) :
    Ideal.roundHalfEven ((a : ℝ) * (E : ℝ) * (1 / ((E : ℝ) + (4096 + 1 / 512)))) = Z := by
  have hE : (0 : ℝ) ≤ E := by positivity
  have hp : (0 : ℝ) < (E : ℝ) + (4096 + 1 / 512) := by positivity
  have h1' : (2 * (Z : ℝ) - 1) * (512 * (4096 + (E : ℝ)) + 1) < 1024 * (a : ℝ) * (E : ℝ) := by exact_mod_cast h1
  have h2' : 1024 * (a : ℝ) * (E : ℝ) < (2 * (Z : ℝ) + 1) * (512 * (4096 + (E : ℝ)) + 1) := by exact_mod_cast h2
  apply roundHalfEven_eq
  · rw [mul_one_div, lt_div_iff₀ hp]; linarith
  · rw [mul_one_div, div_lt_iff₀ hp]; linarith

theorem kernelH_eq {g u : ℤ} (hg : g.natAbs < 4096) :
    kernelH ((g : ℝ) : EReal) ((g.natAbs : ℝ) : EReal) ((u : ℝ) : EReal) = ((hval g u : ℝ) : EReal) := by
  obtain ⟨h1, h2, h3, h4, h5⟩ := silu_round ⟨g.natAbs, hg⟩
  simp only at h1 h2 h3 h4 h5
  unfold kernelH
  rw [kernelExp_eq hg, c4096_f32, inv64_f32, half_f32, show (1 : EReal) = ((1 : ℝ) : EReal) from rfl, ← EReal.coe_add, ← EReal.coe_mul,
    div_real _ (by positivity), ← EReal.coe_mul, round_real, show (0 : EReal) = ((0 : ℝ) : EReal) from rfl, max_real, ← EReal.coe_sub]
  have hz : Ideal.roundHalfEven ((g.natAbs : ℝ) * (expE g.natAbs : ℝ) * (1 / ((expE g.natAbs : ℝ) + (4096 + 1 / 512)))) = -silu (-(g.natAbs : ℤ)) := by
    exact round_quot h1 h2
  rw [hz]
  have hs : max (g : ℝ) 0 - ((-silu (-(g.natAbs : ℤ)) : ℤ) : ℝ) = (silu g : ℝ) := by
    rcases le_total 0 g with h | h
    · have e : ((g.natAbs : ℕ) : ℤ) = g := by omega
      rw [e] at h3 ⊢
      rw [max_eq_left (by exact_mod_cast h), h3]; push_cast; ring
    · have e : ((g.natAbs : ℕ) : ℤ) = -g := by omega
      rw [e, neg_neg, max_eq_right (by exact_mod_cast h)]; push_cast; ring
  rw [hs, ← EReal.coe_mul, ← EReal.coe_mul, ← EReal.coe_add, floor_real]
  congr 2
  unfold hval
  have := floor_div_nat (silu g * u + 32) (d := 64) (by norm_num)
  rw [show (64 : ℤ) = ((64 : ℕ) : ℤ) from rfl, ← this]
  congr 1
  push_cast; ring

theorem hval_natAbs {g u : ℤ} (hg : g.natAbs < 4096) (hu : u.natAbs < 4096) : (hval g u).natAbs < 2 ^ 18 := by
  obtain ⟨h1, h2⟩ := silu_bounds hg
  have h3 : -4095 ≤ u ∧ u ≤ 4095 := by omega
  have h4 : silu g * u ≤ 16769025 := by nlinarith
  have h5 : -16769025 ≤ silu g * u := by nlinarith
  unfold hval
  omega

theorem sat_natAbs (v : BitVec 32) : (sat v).natAbs < 4096 := by unfold sat; omega

end Cert.Swiglu

end
-- ==== Proof.Dot.lean ====
/- The projection's accumulator: sums of products of integers over the extended reals, whole or in four chunks. -/
module

public import proofs.«01_k».proof.Proof.Codes

@[expose] public section

namespace Cert.Swiglu
open Idealize.ShloMosaic

theorem sum_real {n : ℕ} (c w : Fin n → ℤ) (f g : Fin n → EReal) (hf : ∀ k, f k = ((c k : ℝ) : EReal)) (hg : ∀ k, g k = ((w k : ℝ) : EReal)) :
    ∑ k, f k * g k = (((∑ k, c k * w k : ℤ) : ℝ) : EReal) := by
  simp only [hf, hg]
  have : ∀ s : Finset (Fin n), ∑ k ∈ s, ((c k : ℝ) : EReal) * ((w k : ℝ) : EReal) = (((∑ k ∈ s, c k * w k : ℤ) : ℝ) : EReal) := by
    classical
    intro s
    induction s using Finset.induction_on with
    | empty => simp
    | insert a s ha ih => rw [Finset.sum_insert ha, Finset.sum_insert ha, ih, ← EReal.coe_mul, ← EReal.coe_add]; push_cast; rfl
  exact this _

theorem dot_bound {n : ℕ} (c w : Fin n → ℤ) (hc : ∀ k, -127 ≤ c k ∧ c k ≤ 127) (hw : ∀ k, -128 ≤ w k ∧ w k ≤ 127) :
    |∑ k, c k * w k| ≤ n * 16256 := by
  refine (Finset.abs_sum_le_sum_abs _ _).trans ?_
  refine (Finset.sum_le_card_nsmul _ _ 16256 fun k _ => ?_).trans (by simp)
  rw [abs_mul]
  have h1 : |c k| ≤ 127 := abs_le.mpr (hc k)
  have h2 : |w k| ≤ 128 := abs_le.mpr ⟨(hw k).1, (hw k).2.trans (by norm_num)⟩
  nlinarith [abs_nonneg (c k), abs_nonneg (w k)]

/-- A sum of products as a word. -/
theorem dot_word {n : ℕ} (hn : n ≤ 4096) (c w : Fin n → ℤ) (f g : Fin n → EReal) (hf : ∀ k, f k = ((c k : ℝ) : EReal)) (hg : ∀ k, g k = ((w k : ℝ) : EReal))
    (hc : ∀ k, -127 ≤ c k ∧ c k ≤ 127) (hw : ∀ k, -128 ≤ w k ∧ w k ≤ 127) :
    FloatOps.fptosi (F := Ideal) (φ := .f32) 32 (∑ k, f k * g k) = BitVec.ofInt 32 (∑ k, c k * w k) := by
  have hb := abs_le.mp (dot_bound c w hc hw)
  rw [sum_real c w f g hf hg]
  exact fptosi_int32 (by omega) (by omega)

/-- The same, rounded first: it is an integer already. -/
theorem round_dot_word {n : ℕ} (hn : n ≤ 4096) (c w : Fin n → ℤ) (f g : Fin n → EReal) (hf : ∀ k, f k = ((c k : ℝ) : EReal)) (hg : ∀ k, g k = ((w k : ℝ) : EReal))
    (hc : ∀ k, -127 ≤ c k ∧ c k ≤ 127) (hw : ∀ k, -128 ≤ w k ∧ w k ≤ 127) :
    FloatOps.fptosi (F := Ideal) (φ := .f32) 32 (Ideal.liftRound Ideal.roundHalfEven (∑ k, f k * g k)) = BitVec.ofInt 32 (∑ k, c k * w k) := by
  have hb := abs_le.mp (dot_bound c w hc hw)
  rw [sum_real c w f g hf hg, round_real, roundHalfEven_int]
  exact fptosi_int32 (by omega) (by omega)

theorem chunks (f : Fin 3584 → ℤ) :
    (∑ x : Fin 1024, f ⟨x.1, by omega⟩) + (∑ x : Fin 1024, f ⟨1024 + x.1, by omega⟩) + (∑ x : Fin 768, f ⟨2048 + x.1, by omega⟩)
      + (∑ x : Fin 768, f ⟨2816 + x.1, by omega⟩) = ∑ k, f k := by
  have hF : ∀ k (h : k < 3584), f ⟨k, h⟩ = (fun k => if h : k < 3584 then f ⟨k, h⟩ else 0) k := fun k h => by simp only [h, dite_true]
  have e : ∀ n off (hn : off + n ≤ 3584), (∑ x : Fin n, f ⟨off + x.1, by omega⟩) = ∑ x ∈ Finset.range n, (fun k => if h : k < 3584 then f ⟨k, h⟩ else 0) (off + x) := by
    intro n off hn
    rw [Finset.sum_range]
    exact Finset.sum_congr rfl fun x _ => hF _ _
  have e0 : (∑ x : Fin 1024, f ⟨x.1, by omega⟩) = ∑ x ∈ Finset.range 1024, (fun k => if h : k < 3584 then f ⟨k, h⟩ else 0) x := by
    rw [Finset.sum_range]
    exact Finset.sum_congr rfl fun x _ => hF _ _
  have e1 : (∑ k, f k) = ∑ x ∈ Finset.range 3584, (fun k => if h : k < 3584 then f ⟨k, h⟩ else 0) x := by
    rw [Finset.sum_range]
    exact Finset.sum_congr rfl fun x _ => hF _ _
  rw [e0, e 1024 1024 (by norm_num), e 768 2048 (by norm_num), e 768 2816 (by norm_num), e1]
  generalize (fun k => if h : k < 3584 then f ⟨k, h⟩ else 0) = F
  rw [show 3584 = 2816 + 768 by norm_num, Finset.sum_range_add, show 2816 = 2048 + 768 by norm_num, Finset.sum_range_add,
    show 2048 = 1024 + 1024 by norm_num, Finset.sum_range_add]

/-- The accumulator of one output: row codes times a weight column. -/
def dot (c w : Fin 3584 → ℤ) : BitVec 32 := BitVec.ofInt 32 (∑ k, c k * w k)

theorem int8_bounds (b : BitVec 8) : -128 ≤ b.toInt ∧ b.toInt ≤ 127 := by
  have h1 := BitVec.toInt_lt (x := b)
  have h2 := BitVec.le_toInt (x := b)
  norm_num at h1 h2
  omega

theorem reference_dot (c w : Fin 3584 → BitVec 8) (hc : ∀ k, -127 ≤ (c k).toInt ∧ (c k).toInt ≤ 127) :
    FloatOps.fptosi (F := Ideal) (φ := .f32) 32 (∑ k, FloatOps.sitofp (F := Ideal) .f32 (c k) * FloatOps.sitofp (F := Ideal) .f32 (w k))
      = dot (fun k => (c k).toInt) (fun k => (w k).toInt) :=
  dot_word (by norm_num) _ _ _ _ (fun _ => rfl) (fun _ => rfl) hc (fun k => int8_bounds _)

/-- The kernel's four partial sums, each a word, add up to the accumulator. -/
theorem kernel_dot (c : Fin 3584 → ℤ) (f : Fin 3584 → EReal) (w : Fin 3584 → BitVec 8) (hf : ∀ k, f k = ((c k : ℝ) : EReal))
    (hc : ∀ k, -127 ≤ c k ∧ c k ≤ 127) :
    IntOp.addi (IntOp.addi (IntOp.addi
      (FloatOps.fptosi (F := Ideal) (φ := .f32) 32 (Ideal.liftRound Ideal.roundHalfEven (∑ x : Fin 1024, f ⟨x.1, by omega⟩ * FloatOps.sitofp (F := Ideal) .bf16 (w ⟨x.1, by omega⟩))))
      (FloatOps.fptosi (F := Ideal) (φ := .f32) 32 (Ideal.liftRound Ideal.roundHalfEven (∑ x : Fin 1024, f ⟨1024 + x.1, by omega⟩ * FloatOps.sitofp (F := Ideal) .bf16 (w ⟨1024 + x.1, by omega⟩)))))
      (FloatOps.fptosi (F := Ideal) (φ := .f32) 32 (Ideal.liftRound Ideal.roundHalfEven (∑ x : Fin 768, f ⟨2048 + x.1, by omega⟩ * FloatOps.sitofp (F := Ideal) .bf16 (w ⟨2048 + x.1, by omega⟩)))))
      (FloatOps.fptosi (F := Ideal) (φ := .f32) 32 (Ideal.liftRound Ideal.roundHalfEven (∑ x : Fin 768, f ⟨2816 + x.1, by omega⟩ * FloatOps.sitofp (F := Ideal) .bf16 (w ⟨2816 + x.1, by omega⟩))))
    = dot c (fun k => (w k).toInt) := by
  unfold dot
  rw [← chunks, ← addi_ofInt, ← addi_ofInt, ← addi_ofInt]
  refine congrArg₂ _ (congrArg₂ _ (congrArg₂ _ ?_ ?_) ?_) ?_
  · exact round_dot_word (by norm_num) (fun x => c ⟨x.1, by omega⟩) _ _ _ (fun _ => hf _) (fun _ => rfl) (fun _ => hc _) (fun _ => int8_bounds _)
  · exact round_dot_word (by norm_num) (fun x => c ⟨1024 + x.1, by omega⟩) _ _ _ (fun _ => hf _) (fun _ => rfl) (fun _ => hc _) (fun _ => int8_bounds _)
  · exact round_dot_word (by norm_num) (fun x => c ⟨2048 + x.1, by omega⟩) _ _ _ (fun _ => hf _) (fun _ => rfl) (fun _ => hc _) (fun _ => int8_bounds _)
  · exact round_dot_word (by norm_num) (fun x => c ⟨2816 + x.1, by omega⟩) _ _ _ (fun _ => hf _) (fun _ => rfl) (fun _ => hc _) (fun _ => int8_bounds _)

/-- The diagonal of a masked sum: a column read off lane by lane. -/
theorem diagonal_sum {n : ℕ} (hn : n < 2 ^ 32) (v : Fin n → BitVec 32) (b : Fin n) :
    Finset.fold IntOp.addi 0#32 (fun x => Scalar.select (IntOp.cmpi .eq (BitVec.ofNat 32 x.1) (BitVec.ofNat 32 b.1)) (v x) 0#32) Finset.univ = v b := by
  have hs : ∀ x : Fin n, Scalar.select (IntOp.cmpi .eq (BitVec.ofNat 32 x.1) (BitVec.ofNat 32 b.1)) (v x) 0#32 = if x = b then v b else 0#32 := by
    intro x
    rw [show IntOp.cmpi .eq (BitVec.ofNat 32 x.1) (BitVec.ofNat 32 b.1) = BitVec.ofBool (BitVec.ofNat 32 x.1 == BitVec.ofNat 32 b.1) from rfl, select_ofBool]
    by_cases h : x = b
    · subst h; simp
    · rw [if_neg h, if_neg]
      intro hc
      rw [beq_iff_eq] at hc
      have := congrArg BitVec.toNat hc
      simp only [BitVec.toNat_ofNat] at this
      rw [Nat.mod_eq_of_lt (by omega), Nat.mod_eq_of_lt (by omega)] at this
      exact h (Fin.ext this)
  simp only [hs]
  have hsum : ∀ (s : Finset (Fin n)), Finset.fold IntOp.addi 0#32 (fun x => if x = b then v b else 0#32) s = if b ∈ s then v b else 0#32 := by
    intro s
    classical
    induction s using Finset.induction_on with
    | empty => rfl
    | insert a s ha ih =>
      rw [Finset.fold_insert ha, ih]
      by_cases h : a = b
      · subst h; simp [ha, IntOp.addi]
      · have : ¬ b = a := fun e => h e.symm
        simp [h, this, IntOp.addi]
  rw [hsum, if_pos (Finset.mem_univ b)]

end Cert.Swiglu

end
-- ==== Proof.RefWords.lean ====
/- What the reference's words are: its quantiser and its gated value on integers. -/
module

public import proofs.«01_k».proof.Proof.Silu
public import proofs.«01_k».proof.Proof.Dot

@[expose] public section

namespace Cert.Swiglu
open Idealize.ShloMosaic

/-- The reference's division, by a float quotient and two corrections. -/
noncomputable def refDiv (n d : BitVec 32) (x : EReal) : BitVec 32 :=
  IntOp.addi
    (IntOp.subi (FloatOps.fptosi (F := Ideal) (φ := .f32) 32 (Ideal.liftRound Int.floor (Ideal.div (FloatOps.sitofp (F := Ideal) .f32 n) x)))
      (BitVec.setWidth 32 (IntOp.cmpi .slt (IntOp.subi n (IntOp.muli
        (FloatOps.fptosi (F := Ideal) (φ := .f32) 32 (Ideal.liftRound Int.floor (Ideal.div (FloatOps.sitofp (F := Ideal) .f32 n) x))) d)) 0#32)))
    (BitVec.setWidth 32 (IntOp.cmpi .sge (IntOp.subi n (IntOp.muli
        (FloatOps.fptosi (F := Ideal) (φ := .f32) 32 (Ideal.liftRound Int.floor (Ideal.div (FloatOps.sitofp (F := Ideal) .f32 n) x))) d)) d))

theorem refDiv_nat {n d : ℕ} {x : EReal} (hx : x = ((d : ℝ) : EReal)) (h0 : 0 < d) (hd : d < 2 ^ 30) (hn : n < 2 ^ 30) :
    refDiv (BitVec.ofNat 32 n) (BitVec.ofNat 32 d) x = BitVec.ofNat 32 (n / d) :=
  floordiv_word (n := (n : ℤ)) hx h0 hd (by omega) (by omega)

theorem sitofp_ofNat {d : ℕ} (hd : d < 2 ^ 31) : (FloatOps.sitofp (F := Ideal) .f32 (BitVec.ofNat 32 d)) = ((d : ℝ) : EReal) := by
  rw [sitofp_eq, toInt_ofNat_small hd, Int.cast_natCast]

/-- The shift that normalises a row. -/
theorem ref_shift {a : ℕ} (h1 : 1 ≤ a) (h : a < 2 ^ 23) :
    IntOp.subi 23#32 (IntOp.subi 32#32 (IntOp.ctlz (BitVec.ofNat 32 a))) = BitVec.ofNat 32 (22 - a.log2) := by
  have hp := log2_lt h1 h
  rw [ctlz_ofNat h1 (by omega), subi_ofNat (by omega) (by omega), subi_ofNat (by omega) (by omega)]
  congr 1; omega

theorem ref_expo {a : ℕ} (h1 : 1 ≤ a) (h : a < 2 ^ 23) :
    IntOp.addi (IntOp.subi 15#32 (IntOp.subi 32#32 (IntOp.ctlz (BitVec.ofNat 32 a)))) 10#32 = expo a := by
  have hp := log2_lt h1 h
  unfold expo
  rw [ctlz_ofNat h1 (by omega), subi_ofNat (by omega) (by omega), show (15#32 : BitVec 32) = BitVec.ofInt 32 15 from rfl,
    show BitVec.ofNat 32 (32 - (31 - a.log2)) = BitVec.ofInt 32 ((32 - (31 - a.log2) : ℕ) : ℤ) from rfl, subi_ofInt,
    show (10#32 : BitVec 32) = BitVec.ofInt 32 10 from rfl, addi_ofInt, show (15 : ℤ) - (32 - (31 - a.log2) : ℕ) + 10 = ((24 - a.log2 : ℕ) : ℤ) by omega]
  rfl

theorem kernel_expo {a : ℕ} (h1 : 1 ≤ a) (h : a < 2 ^ 23) : IntOp.subi 25#32 (BitVec.ofNat 32 (a.log2 + 1)) = expo a := by
  have hp := log2_lt h1 h
  unfold expo
  rw [subi_ofNat (by omega) (by omega)]
  congr 1; omega

theorem ref_mant {a : ℕ} (h1 : 1 ≤ a) (h : a < 2 ^ 23) :
    refDiv (IntOp.addi (IntOp.shli .vector (BitVec.ofNat 32 a) (BitVec.ofNat 32 (22 - a.log2))) 16256#32) 32512#32 (Ideal.ofBits .f32 1191051264#32)
      = BitVec.ofNat 32 (mant a) := by
  obtain ⟨hl, hh⟩ := normalised h1 h
  rw [shli_ofNat (by omega), addi_ofNat, refDiv_nat c32512_f32 (by norm_num) (by norm_num) (by omega)]
  rfl

theorem ref_quot {a : ℕ} {v : BitVec 32} (h1 : 1 ≤ a) (h : a < 2 ^ 23) (hv : v.toInt.natAbs ≤ a) :
    refDiv (IntOp.addi (IntOp.shli .vector (IntOp.absi v) (BitVec.ofNat 32 (22 - a.log2))) (IntOp.shrsi .vector (IntOp.shli .vector (BitVec.ofNat 32 (mant a)) 8#32) 1#32))
      (IntOp.shli .vector (BitVec.ofNat 32 (mant a)) 8#32) (FloatOps.sitofp (F := Ideal) .f32 (IntOp.shli .vector (BitVec.ofNat 32 (mant a)) 8#32))
      = BitVec.ofNat 32 (quot a v.toInt.natAbs) := by
  have hN := scaled_lt h1 h hv
  obtain ⟨hm0, hm1⟩ := mant_bounds h1 h
  rw [absi_toInt _ (by omega), shli_ofNat (by omega), shli_ofNat (by omega), shrsi_ofNat (by omega) (by omega), addi_ofNat,
    refDiv_nat (sitofp_ofNat (by omega)) (by omega) (by omega) (by omega)]
  unfold quot
  rw [show mant a * 2 ^ 8 / 2 ^ 1 = 128 * mant a by omega, show mant a * 2 ^ 8 = 256 * mant a by omega]

/-- The reference's exponential. -/
theorem ref_exp {g : ℤ} (hg : g.natAbs < 4096) {L : BitVec 32}
    (hL : L = IntOp.subi (IntOp.addi (IntOp.absi (BitVec.ofInt 32 g)) (IntOp.shrsi .vector (IntOp.absi (BitVec.ofInt 32 g)) 1#32)) (IntOp.shrsi .vector (IntOp.absi (BitVec.ofInt 32 g)) 4#32)) :
    IntOp.shrsi .vector (IntOp.subi 4096#32 (IntOp.shli .vector (IntOp.andi L 255#32) 3#32)) (IntOp.shrsi .vector L 8#32) = BitVec.ofNat 32 (expE g.natAbs) := by
  have hi : (BitVec.ofInt 32 g).toInt = g := toInt_ofInt_small (by omega) (by omega)
  rw [absi_toInt _ (by omega), hi] at hL
  generalize g.natAbs = a at *
  rw [shrsi_ofNat (by omega) (by omega), shrsi_ofNat (by omega) (by omega), addi_ofNat, subi_ofNat (by omega) (by omega)] at hL
  have e : IntOp.andi (BitVec.ofNat 32 (a + a / 2 ^ 1 - a / 2 ^ 4)) 255#32 = BitVec.ofNat 32 ((a + a / 2 ^ 1 - a / 2 ^ 4) % 256) := by
    apply BitVec.eq_of_toNat_eq
    simp only [IntOp.andi, BitVec.toNat_and, BitVec.toNat_ofNat]
    rw [show 255 % 2 ^ 32 = 2 ^ 8 - 1 by norm_num, Nat.and_two_pow_sub_one_eq_mod]
    omega
  rw [hL, e, shli_ofNat (by omega), subi_ofNat (by omega) (by omega), shrsi_ofNat (by omega) (by omega), shrsi_ofNat (by omega) (by omega)]
  unfold expE
  congr 3 <;> omega

/-- The reference's silu, from the clipped gate and the exponential. -/
theorem ref_silu {g : ℤ} (hg : g.natAbs < 4096) :
    refDiv (IntOp.addi (IntOp.muli (BitVec.ofInt 32 g) (Scalar.select (IntOp.cmpi .sge (BitVec.ofInt 32 g) 0#32) 4096#32 (BitVec.ofNat 32 (expE g.natAbs))))
        (IntOp.shrsi .vector (IntOp.addi 4096#32 (BitVec.ofNat 32 (expE g.natAbs))) 1#32))
      (IntOp.addi 4096#32 (BitVec.ofNat 32 (expE g.natAbs))) (FloatOps.sitofp (F := Ideal) .f32 (IntOp.addi 4096#32 (BitVec.ofNat 32 (expE g.natAbs))))
      = BitVec.ofInt 32 (silu g) := by
  have hi : (BitVec.ofInt 32 g).toInt = g := toInt_ofInt_small (by omega) (by omega)
  have hE := expE_le g.natAbs
  have hs : Scalar.select (IntOp.cmpi .sge (BitVec.ofInt 32 g) 0#32) 4096#32 (BitVec.ofNat 32 (expE g.natAbs))
      = BitVec.ofInt 32 (if 0 ≤ g then 4096 else (expE g.natAbs : ℤ)) := by
    rw [show IntOp.cmpi .sge (BitVec.ofInt 32 g) 0#32 = BitVec.ofBool (decide (0 ≤ (BitVec.ofInt 32 g).toInt)) from rfl, select_ofBool, hi]
    by_cases h : 0 ≤ g
    · simp only [h, decide_true, if_true]; rfl
    · simp only [h, decide_false, if_false, Bool.false_eq_true]; rfl
  rw [hs, muli_ofInt, addi_ofNat, shrsi_ofNat (by omega) (by omega),
    show BitVec.ofNat 32 ((4096 + expE g.natAbs) / 2 ^ 1) = BitVec.ofInt 32 (((4096 + expE g.natAbs) / 2 ^ 1 : ℕ) : ℤ) from rfl, addi_ofInt]
  have hnum : -2 ^ 30 ≤ g * (if 0 ≤ g then 4096 else (expE g.natAbs : ℤ)) + (((4096 + expE g.natAbs) / 2 ^ 1 : ℕ) : ℤ) ∧
      g * (if 0 ≤ g then 4096 else (expE g.natAbs : ℤ)) + (((4096 + expE g.natAbs) / 2 ^ 1 : ℕ) : ℤ) < 2 ^ 30 := by
    have hb : -4095 ≤ g ∧ g ≤ 4095 := by omega
    generalize expE g.natAbs = e at *
    split
    · omega
    · have : (0 : ℤ) ≤ e := by omega
      have he : (e : ℤ) ≤ 4096 := by omega
      have h0 : (0 : ℤ) ≤ (((4096 + e) / 2 ^ 1 : ℕ) : ℤ) := by omega
      have h1 : (((4096 + e) / 2 ^ 1 : ℕ) : ℤ) ≤ 4096 := by omega
      generalize (((4096 + e) / 2 ^ 1 : ℕ) : ℤ) = r at *
      constructor <;> nlinarith
  refine (floordiv_word (sitofp_ofNat (by omega)) (by omega) (by omega) hnum.1 hnum.2).trans ?_
  unfold silu
  norm_cast

/-- The reference's gated value. -/
theorem ref_hval {g u : ℤ} (hg : g.natAbs < 4096) (hu : u.natAbs < 4096) :
    IntOp.shrsi .vector (IntOp.addi (IntOp.muli (BitVec.ofInt 32 (silu g)) (BitVec.ofInt 32 u)) (Scalar.shrsi (Scalar.shli 1#32 6#32) 1#32)) 6#32
      = BitVec.ofInt 32 (hval g u) := by
  obtain ⟨h1, h2⟩ := silu_bounds hg
  have h3 : -4095 ≤ u ∧ u ≤ 4095 := by omega
  have h4 : silu g * u ≤ 16769025 := by nlinarith
  have h5 : -16769025 ≤ silu g * u := by nlinarith
  rw [muli_ofInt, show Scalar.shrsi (Scalar.shli 1#32 6#32) 1#32 = BitVec.ofInt 32 32 by rfl, addi_ofInt, shrsi_ofInt (by omega) (by omega) (by omega)]
  rfl

/-! What the programs compute, element by element, from the arrays. -/

/-- The largest magnitude in a row of the activations. -/
def xmax (X : Fin 256 → Fin 3584 → BitVec 32) (r : Fin 256) : ℕ := amax fun k => (X r k).toInt

/-- The code of an activation. -/
def xcode (X : Fin 256 → Fin 3584 → BitVec 32) (r : Fin 256) (k : Fin 3584) : ℤ := code (xmax X r) (X r k).toInt

/-- A projection, dequantised and clipped. -/
def proj (X : Fin 256 → Fin 3584 → BitVec 32) (W : Fin 3584 → Fin 18944 → BitVec 8) (e : Fin 18944 → BitVec 32) (r : Fin 256) (j : Fin 18944) : ℤ :=
  sat (project (dot (xcode X r) fun k => (W k j).toInt) (BitVec.ofNat 32 (mant (xmax X r))) (expo (xmax X r)) (e j))

/-- The gated value. -/
def gated (X : Fin 256 → Fin 3584 → BitVec 32) (Wg Wu : Fin 3584 → Fin 18944 → BitVec 8) (eg eu : Fin 18944 → BitVec 32) (r : Fin 256) (j : Fin 18944) : ℤ :=
  hval (proj X Wg eg r j) (proj X Wu eu r j)

/-- The largest magnitude in a row of gated values. -/
def gmax (X : Fin 256 → Fin 3584 → BitVec 32) (Wg Wu : Fin 3584 → Fin 18944 → BitVec 8) (eg eu : Fin 18944 → BitVec 32) (r : Fin 256) : ℕ :=
  amax (gated X Wg Wu eg eu r)

theorem proj_natAbs (X : Fin 256 → Fin 3584 → BitVec 32) (W : Fin 3584 → Fin 18944 → BitVec 8) (e : Fin 18944 → BitVec 32) (r : Fin 256) (j : Fin 18944) :
    (proj X W e r j).natAbs < 4096 := sat_natAbs _

theorem gated_natAbs (X : Fin 256 → Fin 3584 → BitVec 32) (Wg Wu : Fin 3584 → Fin 18944 → BitVec 8) (eg eu : Fin 18944 → BitVec 32) (r : Fin 256) (j : Fin 18944) :
    (gated X Wg Wu eg eu r j).natAbs < 2 ^ 18 := hval_natAbs (proj_natAbs _ _ _ _ _) (proj_natAbs _ _ _ _ _)

theorem gmax_lt (X : Fin 256 → Fin 3584 → BitVec 32) (Wg Wu : Fin 3584 → Fin 18944 → BitVec 8) (eg eu : Fin 18944 → BitVec 32) (r : Fin 256) :
    gmax X Wg Wu eg eu r < 2 ^ 18 := amax_lt _ (by norm_num) fun _ => gated_natAbs _ _ _ _ _ _ _

theorem xmax_lt {X : Fin 256 → Fin 3584 → BitVec 32} (hX : ∀ r k, (X r k).toInt.natAbs < 2 ^ 23) (r : Fin 256) : xmax X r < 2 ^ 23 :=
  amax_lt _ (by norm_num) fun _ => hX r _

end Cert.Swiglu

end
-- ==== Proof.BlockVal.lean ====
/- What the kernel computes for one block of 512 columns, at one of its elements. -/
module

public import proofs.«01_k».proof.Proof.RunC
public import proofs.«01_k».proof.Proof.RefWords
public import Idealize.ShloMosaic.Lib.Pointwise

@[expose] public section

set_option maxRecDepth 16384

noncomputable section

namespace Cert.KernelIdeal.Val

open Idealize.ShloMosaic Idealize.SL.Sem Cert.KernelIdeal.Gen Cert.Swiglu

theorem c4095_f32 : Ideal.ofBits .f32 1166012416#32 = ((4095 : ℝ) : EReal) := by
  rw [ofBits_f32 (e := 138) (f := 8384512) (by decide) (by norm_num) (by norm_num) (by norm_num)]
  norm_num

theorem cm4095_f32 : Ideal.ofBits .f32 3313496064#32 = ((-4095 : ℝ) : EReal) := by
  rw [ofBits_f32_neg (e := 138) (f := 8384512) (by decide) (by norm_num) (by norm_num) (by norm_num)]
  norm_num

/-- The kernel's clip is the saturation. -/
theorem clip_word (v : BitVec 32) :
    min (Ideal.ofBits .f32 1166012416#32) (max (Ideal.ofBits .f32 3313496064#32) (FloatOps.sitofp (F := Ideal) .f32 v)) = ((sat v : ℝ) : EReal) := by
  rw [c4095_f32, cm4095_f32, sitofp_eq, max_real, min_real, sat]
  congr 1
  have h : max (-4095) (min 4095 v.toInt) = min 4095 (max (-4095) v.toInt) := by omega
  rw [h]
  push_cast
  rfl

theorem shift_assoc (k e : BitVec 32) : IntOp.addi k (IntOp.subi e 8#32) = IntOp.subi (IntOp.addi k e) 8#32 := by
  simp only [IntOp.addi, IntOp.subi]
  bv_omega

section

variable (MS KS : Vec Ideal S256x128 .i32) (a1 a2 : Vec Ideal S256x1024 .bf16) (a3 a4 : Vec Ideal S256x768 .bf16)
  (w1 w2 : Vec Ideal S1024x512 .i8) (w3 w4 : Vec Ideal S768x512 .i8) (e : Vec Ideal S1x512 .i32) (r : Fin 256) (b : Fin 512)
  (c : Fin 3584 → ℤ) (w : Fin 3584 → BitVec 8)
  (hc : ∀ k, -127 ≤ c k ∧ c k ≤ 127)
  (ha1 : ∀ (x : Fin 1024) (k : Fin 3584), 0 + x.1 = k.1 → a1 (ix2 r x) = ((c k : ℝ) : EReal))
  (ha2 : ∀ (x : Fin 1024) (k : Fin 3584), 1024 + x.1 = k.1 → a2 (ix2 r x) = ((c k : ℝ) : EReal))
  (ha3 : ∀ (x : Fin 768) (k : Fin 3584), 2048 + x.1 = k.1 → a3 (ix2 r x) = ((c k : ℝ) : EReal))
  (ha4 : ∀ (x : Fin 768) (k : Fin 3584), 2816 + x.1 = k.1 → a4 (ix2 r x) = ((c k : ℝ) : EReal))
  (hw1 : ∀ (x : Fin 1024) (k : Fin 3584), 0 + x.1 = k.1 → w1 (ix2 x b) = w k)
  (hw2 : ∀ (x : Fin 1024) (k : Fin 3584), 1024 + x.1 = k.1 → w2 (ix2 x b) = w k)
  (hw3 : ∀ (x : Fin 768) (k : Fin 3584), 2048 + x.1 = k.1 → w3 (ix2 x b) = w k)
  (hw4 : ∀ (x : Fin 768) (k : Fin 3584), 2816 + x.1 = k.1 → w4 (ix2 x b) = w k)
include hc ha1 ha2 ha3 ha4 hw1 hw2 hw3 hw4

theorem projection_value :
    k0_pay157 (F := Ideal) (k0_pay153 MS) (k0_pay154 KS) (k0_pay155 a1 w1 a2 w2 a3 w3) (k0_pay156 a4 w4) e (ix2 r b)
      = ((sat (project (dot c fun k => (w k).toInt) (MS (ix2 r 0)) (KS (ix2 r 0)) (e (ix2 0 b))) : ℝ) : EReal) := by
  pointwise [k0_pay157, k0_pay153, k0_pay154, k0_pay155, k0_pay156]
  simp only [fun x => ha1 x ⟨x.1, by omega⟩ (Nat.zero_add _), fun x => ha2 x ⟨1024 + x.1, by omega⟩ rfl, fun x => ha3 x ⟨2048 + x.1, by omega⟩ rfl, fun x => ha4 x ⟨2816 + x.1, by omega⟩ rfl, fun x => hw1 x ⟨x.1, by omega⟩ (Nat.zero_add _), fun x => hw2 x ⟨1024 + x.1, by omega⟩ rfl, fun x => hw3 x ⟨2048 + x.1, by omega⟩ rfl, fun x => hw4 x ⟨2816 + x.1, by omega⟩ rfl]
  rw [kernel_dot c (fun k => ((c k : ℝ) : EReal)) w (fun _ => rfl) hc, shift_assoc]
  exact clip_word _

theorem projection_value' (z : FVec Ideal S256x512 .f32) (hz : z = constant S256x512 .f32 0#32) :
    k0_pay160 (F := Ideal) (k0_pay153 MS) (k0_pay154 KS) (k0_pay158 a1 w1 a2 w2) a3 (k0_pay159 w3) z a4 w4 e (ix2 r b)
      = ((sat (project (dot c fun k => (w k).toInt) (MS (ix2 r 0)) (KS (ix2 r 0)) (e (ix2 0 b))) : ℝ) : EReal) := by
  subst hz
  pointwise [k0_pay160, k0_pay153, k0_pay154, k0_pay158, k0_pay159]
  simp only [fun x => ha1 x ⟨x.1, by omega⟩ (Nat.zero_add _), fun x => ha2 x ⟨1024 + x.1, by omega⟩ rfl, fun x => ha3 x ⟨2048 + x.1, by omega⟩ rfl, fun x => ha4 x ⟨2816 + x.1, by omega⟩ rfl, fun x => hw1 x ⟨x.1, by omega⟩ (Nat.zero_add _), fun x => hw2 x ⟨1024 + x.1, by omega⟩ rfl, fun x => hw3 x ⟨2048 + x.1, by omega⟩ rfl, fun x => hw4 x ⟨2816 + x.1, by omega⟩ rfl]
  rw [kernel_dot c (fun k => ((c k : ℝ) : EReal)) w (fun _ => rfl) hc, shift_assoc]
  exact clip_word _

end

theorem abs_int (z : ℤ) {φ : FTy} : (FloatOps.absf (((z : ℝ) : EReal) : Ideal φ) : Ideal φ) = ((z.natAbs : ℝ) : EReal) := by
  rw [abs_real, Nat.cast_natAbs, Int.cast_abs]

section

variable (g u : FVec Ideal S256x512 .f32) (r : Fin 256)

theorem hidden_value (b : Fin 512) {G U : ℤ} (hG : G.natAbs < 4096) (hg : g (ix2 r b) = ((G : ℝ) : EReal)) (hu : u (ix2 r b) = ((U : ℝ) : EReal)) :
    k0_pay166 (F := Ideal) g u (k0_pay161 (F := Ideal) g) (k0_pay162 (F := Ideal) g) (k0_pay163 (F := Ideal) g) (k0_pay164 (F := Ideal) g) k0_pay165 (ix2 r b)
      = ((hval G U : ℝ) : EReal) := by
  pointwise [k0_pay166, k0_pay161, k0_pay162, k0_pay163, k0_pay164, k0_pay165]
  rw [← kernelH_eq hG, ← abs_int (φ := .f32), ← hu, ← hg]
  rfl

theorem hidden_store (b : Fin 512) {G U : ℤ} (hG : G.natAbs < 4096) (hg : g (ix2 r b) = ((G : ℝ) : EReal)) (hu : u (ix2 r b) = ((U : ℝ) : EReal)) :
    k0_pay167 (F := Ideal) g u (k0_pay161 (F := Ideal) g) (k0_pay162 (F := Ideal) g) (k0_pay163 (F := Ideal) g) (k0_pay164 (F := Ideal) g) k0_pay165 (ix3 0 r b)
      = ((hval G U : ℝ) : EReal) := by
  pointwise [k0_pay167]
  exact hidden_value g u r b hG hg hu

/-- The running maximum over the four columns of a block that share a lane. -/
theorem lane_value (v : Vec Ideal S256x128 .f32) (b : Fin 128) {M : ℕ} (H : Fin 512 → ℤ)
    (hv : v (ix2 r b) = ((M : ℝ) : EReal))
    (hH : ∀ b, k0_pay166 (F := Ideal) g u (k0_pay161 (F := Ideal) g) (k0_pay162 (F := Ideal) g) (k0_pay163 (F := Ideal) g) (k0_pay164 (F := Ideal) g) k0_pay165 (ix2 r b) = ((H b : ℝ) : EReal)) :
    k0_pay168 (F := Ideal) g u (k0_pay161 (F := Ideal) g) (k0_pay162 (F := Ideal) g) (k0_pay163 (F := Ideal) g) (k0_pay164 (F := Ideal) g) k0_pay165 v (ix2 r b)
      = ((max (max (max (max M (H ⟨b.1, by omega⟩).natAbs) (H ⟨128 + b.1, by omega⟩).natAbs) (H ⟨256 + b.1, by omega⟩).natAbs) (H ⟨384 + b.1, by omega⟩).natAbs : ℕ) : ℝ) := by
  pointwise [k0_pay168]
  rw [hv, hH, hH, hH, hH]
  simp only [abs_int, max_real, Nat.cast_max]

end

end Cert.KernelIdeal.Val

end
-- ==== Proof.Reads.lean ====
/- What a load reads of a buffer held whole, or of one just written, at an index. -/
module

public import proofs.«01_k».proof.Proof.BlockVal
public import Idealize.ShloMosaic.Lib.WholeRead
public import Idealize.ShloMosaic.Lib.WritesUnit

@[expose] public section

set_option maxRecDepth 16384

noncomputable section

namespace Cert.KernelIdeal.Val

open Idealize.ShloMosaic Idealize.SL.Sem Cert.KernelIdeal.Gen Cert.Swiglu

variable {sig : RefSig} {Val : EltTy → Type} {κ : Kind} {sp : Space} {e : EltTy} {p q : ℕ}

/-- The matrix with the given entries. -/
def mk2 {α : Type} (f : Fin p → Fin q → α) (i : (⟨2, ![p, q]⟩ : Shape).Idx) : α := f (i (0 : Fin 2)) (i (1 : Fin 2))

theorem mk2_ix2 {α : Type} (f : Fin p → Fin q → α) (a : Fin p) (b : Fin q) : mk2 f (ix2 a b) = f a b := rfl

theorem ix2_eta (i : (⟨2, ![p, q]⟩ : Shape).Idx) : ix2 (i (0 : Fin 2)) (i (1 : Fin 2)) = i := by
  funext a; match a with
  | ⟨0, _⟩ => rfl
  | ⟨1, _⟩ => rfl

theorem eq_mk2 {α : Type} {x : (⟨2, ![p, q]⟩ : Shape).Idx → α} {f : Fin p → Fin q → α} (h : ∀ a b, x (ix2 a b) = f a b) : x = mk2 f :=
  funext fun i => by rw [← ix2_eta i]; exact h _ _

/-- A load of a box of a matrix held at `X` reads `X` at the box's place. -/
theorem read_held {m : Memref sig κ sp (⟨2, ![p, q]⟩ : Shape) e} (h : m.IsWhole) (X : (⟨2, ![p, q]⟩ : Shape).Idx → Val e) (o0 o1 : ℕ) {n0 n1 : ℕ}
    (inb : ∀ a, (![o0, o1] : Fin 2 → ℕ) a + (![n0, n1] : Fin 2 → ℕ) a ≤ (![p, q] : Fin 2 → ℕ) a) (a : Fin n0) (b : Fin n1) (y0 : Fin p) (y1 : Fin q)
    (h0 : o0 + a.1 = y0.1) (h1 : o1 + b.1 = y1.1) :
    View.readAt Val m.view (Rect.unit (s := ⟨2, ![p, q]⟩) ![o0, o1] ![n0, n1] inb).toLoadRect (h.unread X) (ix2 a b) = X (ix2 y0 y1) := by
  rw [h.readAt_unread]
  congr 1
  funext c
  match c with
  | ⟨0, _⟩ => exact Fin.ext (by show o0 + 1 * a.1 = y0.1; omega)
  | ⟨1, _⟩ => exact Fin.ext (by show o1 + 1 * b.1 = y1.1; omega)

/-- A load of a box of a matrix after writes that left it at `G` at the box's place reads `G` there. -/
theorem read_written {m : Memref sig κ sp (⟨2, ![p, q]⟩ : Shape) e} [∀ e, Nonempty (Val e)] (L : List (View.Piece Val (⟨2, ![p, q]⟩ : Shape) e))
    (G : (⟨2, ![p, q]⟩ : Shape).Idx → Val e) (hG : ∀ f, m.view.read Val (m.view.writes Val f L) = G) (o0 o1 : ℕ) {n0 n1 : ℕ}
    (inb : ∀ a, (![o0, o1] : Fin 2 → ℕ) a + (![n0, n1] : Fin 2 → ℕ) a ≤ (![p, q] : Fin 2 → ℕ) a) (a : Fin n0) (b : Fin n1) (y0 : Fin p) (y1 : Fin q)
    (h0 : o0 + a.1 = y0.1) (h1 : o1 + b.1 = y1.1) :
    m.view.readCov L (Rect.unit (s := ⟨2, ![p, q]⟩) ![o0, o1] ![n0, n1] inb).toLoadRect (ix2 a b) = G (ix2 y0 y1) := by
  refine (congrFun (hG _) _).trans ?_
  congr 1
  funext c
  match c with
  | ⟨0, _⟩ => exact Fin.ext (by show o0 + 1 * a.1 = y0.1; omega)
  | ⟨1, _⟩ => exact Fin.ext (by show o1 + 1 * b.1 = y1.1; omega)

/-- One write of the whole buffer leaves what it wrote. -/
theorem read_whole (v : View sig κ sp (⟨2, ![p, q]⟩ : Shape) e) (f : v.ty.Contents Val)
    (inb : ∀ a, (![0, 0] : Fin 2 → ℕ) a + (![p, q] : Fin 2 → ℕ) a ≤ (![p, q] : Fin 2 → ℕ) a) (w : (⟨2, ![p, q]⟩ : Shape).Idx → Val e)
    (L : List (View.Piece Val (⟨2, ![p, q]⟩ : Shape) e)) :
    v.read Val (v.writes Val f ((⟨Rect.unit (s := ⟨2, ![p, q]⟩) ![0, 0] ![p, q] inb, w⟩ : View.Piece Val _ e) :: L)) = w :=
  funext fun y => View.read_writes_cons_unit_of_mem v f inb w L y y rfl (Fin.forall_fin_two.mpr ⟨(Nat.zero_add _).symm, (Nat.zero_add _).symm⟩)

/-- Writes of whole-width bands that agree with `G` and tile the buffer leave `G`. -/
theorem read_bands (v : View sig κ sp (⟨2, ![p, q]⟩ : Shape) e) (f : v.ty.Contents Val) (L : List (View.Piece Val (⟨2, ![p, q]⟩ : Shape) e))
    (G : (⟨2, ![p, q]⟩ : Shape).Idx → Val e) (hG : ∀ p ∈ L, ∀ x : p.1.shape.Idx, p.2 x = G (p.1.emb x)) (hc : ∀ y, ∃ p ∈ L, y ∈ p.1.set) :
    v.read Val (v.writes Val f L) = G :=
  funext fun y => View.read_writes_apply_of_pieces v f G L hG y (hc y)

end Cert.KernelIdeal.Val

end
-- ==== Proof.BlockStep.lean ====
/- One grid point: the block of gated values it stores and the running lane maxima it leaves. -/
module

public import proofs.«01_k».proof.Proof.Reads

@[expose] public section

set_option maxRecDepth 16384

noncomputable section

namespace Cert.KernelIdeal.Val

open Idealize.ShloMosaic Idealize.SL.Sem Cert.KernelIdeal.Gen Cert.Swiglu

/-- The five input arrays. -/
structure Inputs where
  X : Fin 256 → Fin 3584 → BitVec 32
  Wg : Fin 3584 → Fin 18944 → BitVec 8
  Wu : Fin 3584 → Fin 18944 → BitVec 8
  eg : Fin 18944 → BitVec 32
  eu : Fin 18944 → BitVec 32

/-- The column of block `n` at offset `b`. -/
def col (n : Fin 37) (b : Fin 512) : Fin 18944 := ⟨512 * n.1 + b.1, by omega⟩

namespace Inputs

variable (A : Inputs)

/-- The gated value. -/
def hid (r : Fin 256) (j : Fin 18944) : ℤ := gated A.X A.Wg A.Wu A.eg A.eu r j

/-- The largest magnitude of a row of gated values. -/
def top (r : Fin 256) : ℕ := gmax A.X A.Wg A.Wu A.eg A.eu r

/-- The lane maxima after `n` blocks: lane `l` has the columns that are `l` modulo 128. -/
def lane : ℕ → Fin 256 → Fin 128 → ℕ
  | 0, _, _ => 0
  | n + 1, r, l => if h : n < 37 then
      max (max (max (max (lane n r l) (A.hid r (col ⟨n, h⟩ ⟨l.1, by omega⟩)).natAbs) (A.hid r (col ⟨n, h⟩ ⟨128 + l.1, by omega⟩)).natAbs)
        (A.hid r (col ⟨n, h⟩ ⟨256 + l.1, by omega⟩)).natAbs) (A.hid r (col ⟨n, h⟩ ⟨384 + l.1, by omega⟩)).natAbs
    else 0

theorem lane_succ (n : Fin 37) (r : Fin 256) (l : Fin 128) : A.lane (n.1 + 1) r l =
    max (max (max (max (A.lane n.1 r l) (A.hid r (col n ⟨l.1, by omega⟩)).natAbs) (A.hid r (col n ⟨128 + l.1, by omega⟩)).natAbs)
      (A.hid r (col n ⟨256 + l.1, by omega⟩)).natAbs) (A.hid r (col n ⟨384 + l.1, by omega⟩)).natAbs := by
  rw [lane, dif_pos n.2]

theorem lane_le (n : ℕ) (hn : n ≤ 37) (r : Fin 256) (l : Fin 128) : A.lane n r l ≤ A.top r := by
  induction n with
  | zero => exact Nat.zero_le _
  | succ n ih =>
    rw [A.lane_succ ⟨n, hn⟩]
    have h : ∀ j, (A.hid r j).natAbs ≤ A.top r := fun j => natAbs_le_amax _ j
    exact max_le (max_le (max_le (max_le (ih (by omega)) (h _)) (h _)) (h _)) (h _)

theorem hid_le_lane (r : Fin 256) (k : Fin 37) (b : Fin 512) (n : ℕ) (hk : k.1 < n) (hn : n ≤ 37) :
    (A.hid r (col k b)).natAbs ≤ A.lane n r ⟨b.1 % 128, by omega⟩ := by
  induction n with
  | zero => omega
  | succ n ih =>
    rw [A.lane_succ ⟨n, hn⟩]
    rcases Nat.lt_or_ge k.1 n with h | h
    · exact (ih h (by omega)).trans (by simp only [le_max_iff, le_refl, true_or])
    · obtain rfl : k = ⟨n, hn⟩ := Fin.ext (by show k.1 = n; omega)
      have hb : b.1 / 128 < 4 := by omega
      have : b = ⟨b.1 % 128, by omega⟩ ∨ b = ⟨128 + b.1 % 128, by omega⟩ ∨ b = ⟨256 + b.1 % 128, by omega⟩ ∨ b = ⟨384 + b.1 % 128, by omega⟩ := by
        simp only [Fin.ext_iff]; omega
      rcases this with h | h | h | h <;> refine (congrArg (fun x => (A.hid r (col ⟨n, hn⟩ x)).natAbs) h).le.trans ?_ <;>
        simp only [le_max_iff, le_refl, true_or, or_true]

/-- The maximum over the lanes, after all blocks, is the row's. -/
theorem lane_sup (r : Fin 256) : max 1 (Finset.univ.sup (A.lane 37 r)) = A.top r := by
  apply le_antisymm
  · exact max_le (amax_pos _) (Finset.sup_le fun l _ => A.lane_le 37 le_rfl r l)
  · refine max_le (le_max_left _ _) (Finset.sup_le fun j _ => ?_)
    have e : j = col ⟨j.1 / 512, by omega⟩ ⟨j.1 % 512, by omega⟩ := Fin.ext (Nat.div_add_mod _ _).symm
    refine le_trans ?_ (le_max_right _ _)
    refine le_trans ?_ (Finset.le_sup (Finset.mem_univ (⟨(j.1 % 512) % 128, by omega⟩ : Fin 128)))
    show (A.hid r j).natAbs ≤ _
    conv_lhs => rw [e]
    exact A.hid_le_lane r _ _ 37 (Fin.isLt _) le_rfl

/-- What the scratch buffers hold. -/
def codes : Vec Ideal S256x3584 .bf16 := mk2 fun r k => (((xcode A.X r k : ℤ) : ℝ) : EReal)
def mants : Vec Ideal S256x128 .i32 := mk2 fun r _ => BitVec.ofNat 32 (mant (xmax A.X r))
def expos : Vec Ideal S256x128 .i32 := mk2 fun r _ => expo (xmax A.X r)
def lanes (n : ℕ) : Vec Ideal S256x128 .f32 := mk2 fun r l => ((A.lane n r l : ℝ) : EReal)

/-- The first `n` blocks of gated values are in place. -/
def Placed (n : ℕ) (h : Vec Ideal S37x256x512 .f32) : Prop :=
  ∀ (j : Fin 37), j.1 < n → ∀ (r : Fin 256) (b : Fin 512), h (ix3 j r b) = ((A.hid r (col j b) : ℝ) : EReal)

end Inputs

theorem xcode_bounds (X : Fin 256 → Fin 3584 → BitVec 32) (r : Fin 256) (k : Fin 3584) : -127 ≤ xcode X r k ∧ xcode X r k ≤ 127 := code_bounds _ _

section

variable (A : Inputs) (n : Fin 37) (MS KS : Vec Ideal S256x128 .i32) (a1 a2 b1 b2 : Vec Ideal S256x1024 .bf16) (a3 a4 b3 b4 : Vec Ideal S256x768 .bf16)
  (w1 w2 u1 u2 : Vec Ideal S1024x512 .i8) (w3 w4 u3 u4 : Vec Ideal S768x512 .i8) (e e' : Vec Ideal S1x512 .i32) (z : FVec Ideal S256x512 .f32)
  (hz : z = constant S256x512 .f32 0#32)
  (hM : ∀ r, MS (ix2 r 0) = BitVec.ofNat 32 (mant (xmax A.X r))) (hK : ∀ r, KS (ix2 r 0) = expo (xmax A.X r))
  (ha1 : ∀ r (x : Fin 1024) (k : Fin 3584), 0 + x.1 = k.1 → a1 (ix2 r x) = ((xcode A.X r k : ℝ) : EReal))
  (ha2 : ∀ r (x : Fin 1024) (k : Fin 3584), 1024 + x.1 = k.1 → a2 (ix2 r x) = ((xcode A.X r k : ℝ) : EReal))
  (ha3 : ∀ r (x : Fin 768) (k : Fin 3584), 2048 + x.1 = k.1 → a3 (ix2 r x) = ((xcode A.X r k : ℝ) : EReal))
  (ha4 : ∀ r (x : Fin 768) (k : Fin 3584), 2816 + x.1 = k.1 → a4 (ix2 r x) = ((xcode A.X r k : ℝ) : EReal))
  (hb1 : ∀ r (x : Fin 1024) (k : Fin 3584), 0 + x.1 = k.1 → b1 (ix2 r x) = ((xcode A.X r k : ℝ) : EReal))
  (hb2 : ∀ r (x : Fin 1024) (k : Fin 3584), 1024 + x.1 = k.1 → b2 (ix2 r x) = ((xcode A.X r k : ℝ) : EReal))
  (hb3 : ∀ r (x : Fin 768) (k : Fin 3584), 2048 + x.1 = k.1 → b3 (ix2 r x) = ((xcode A.X r k : ℝ) : EReal))
  (hb4 : ∀ r (x : Fin 768) (k : Fin 3584), 2816 + x.1 = k.1 → b4 (ix2 r x) = ((xcode A.X r k : ℝ) : EReal))
  (hw1 : ∀ (x : Fin 1024) b (k : Fin 3584), 0 + x.1 = k.1 → w1 (ix2 x b) = A.Wg k (col n b))
  (hw2 : ∀ (x : Fin 1024) b (k : Fin 3584), 1024 + x.1 = k.1 → w2 (ix2 x b) = A.Wg k (col n b))
  (hw3 : ∀ (x : Fin 768) b (k : Fin 3584), 2048 + x.1 = k.1 → w3 (ix2 x b) = A.Wg k (col n b))
  (hw4 : ∀ (x : Fin 768) b (k : Fin 3584), 2816 + x.1 = k.1 → w4 (ix2 x b) = A.Wg k (col n b))
  (hu1 : ∀ (x : Fin 1024) b (k : Fin 3584), 0 + x.1 = k.1 → u1 (ix2 x b) = A.Wu k (col n b))
  (hu2 : ∀ (x : Fin 1024) b (k : Fin 3584), 1024 + x.1 = k.1 → u2 (ix2 x b) = A.Wu k (col n b))
  (hu3 : ∀ (x : Fin 768) b (k : Fin 3584), 2048 + x.1 = k.1 → u3 (ix2 x b) = A.Wu k (col n b))
  (hu4 : ∀ (x : Fin 768) b (k : Fin 3584), 2816 + x.1 = k.1 → u4 (ix2 x b) = A.Wu k (col n b))
  (he : ∀ b, e (ix2 0 b) = A.eg (col n b)) (he' : ∀ b, e' (ix2 0 b) = A.eu (col n b))

/-- The gate's projection of the block. -/
abbrev gate : FVec Ideal S256x512 .f32 := k0_pay157 (F := Ideal) (k0_pay153 MS) (k0_pay154 KS) (k0_pay155 a1 w1 a2 w2 a3 w3) (k0_pay156 a4 w4) e
/-- The up projection of the block. -/
abbrev up : FVec Ideal S256x512 .f32 := k0_pay160 (F := Ideal) (k0_pay153 MS) (k0_pay154 KS) (k0_pay158 b1 u1 b2 u2) b3 (k0_pay159 u3) z b4 u4 e'

include hM hK ha1 ha2 ha3 ha4 hw1 hw2 hw3 hw4 he in
theorem gate_value (r : Fin 256) (b : Fin 512) : gate MS KS a1 a2 a3 a4 w1 w2 w3 w4 e (ix2 r b) = ((proj A.X A.Wg A.eg r (col n b) : ℝ) : EReal) := by
  refine (projection_value MS KS a1 a2 a3 a4 w1 w2 w3 w4 e r b (xcode A.X r) (fun k => A.Wg k (col n b)) (xcode_bounds _ _)
    (ha1 r) (ha2 r) (ha3 r) (ha4 r) (fun x => hw1 x b) (fun x => hw2 x b) (fun x => hw3 x b) (fun x => hw4 x b)).trans ?_
  rw [hM, hK, he]; rfl

include hM hK hb1 hb2 hb3 hb4 hu1 hu2 hu3 hu4 he' hz in
theorem up_value (r : Fin 256) (b : Fin 512) : up MS KS b1 b2 b3 b4 u1 u2 u3 u4 e' z (ix2 r b) = ((proj A.X A.Wu A.eu r (col n b) : ℝ) : EReal) := by
  refine (projection_value' MS KS b1 b2 b3 b4 u1 u2 u3 u4 e' r b (xcode A.X r) (fun k => A.Wu k (col n b)) (xcode_bounds _ _)
    (hb1 r) (hb2 r) (hb3 r) (hb4 r) (fun x => hu1 x b) (fun x => hu2 x b) (fun x => hu3 x b) (fun x => hu4 x b) z hz).trans ?_
  rw [hM, hK, he']; rfl

include hM hK ha1 ha2 ha3 ha4 hw1 hw2 hw3 hw4 he hb1 hb2 hb3 hb4 hu1 hu2 hu3 hu4 he' hz

/-- The block stored. -/
theorem block_stored (r : Fin 256) (b : Fin 512) :
    k0_pay167 (F := Ideal) (gate MS KS a1 a2 a3 a4 w1 w2 w3 w4 e) (up MS KS b1 b2 b3 b4 u1 u2 u3 u4 e' z) (k0_pay161 (F := Ideal) (gate MS KS a1 a2 a3 a4 w1 w2 w3 w4 e))
      (k0_pay162 (F := Ideal) (gate MS KS a1 a2 a3 a4 w1 w2 w3 w4 e)) (k0_pay163 (F := Ideal) (gate MS KS a1 a2 a3 a4 w1 w2 w3 w4 e))
      (k0_pay164 (F := Ideal) (gate MS KS a1 a2 a3 a4 w1 w2 w3 w4 e)) k0_pay165 (ix3 0 r b) = ((A.hid r (col n b) : ℝ) : EReal) :=
  hidden_store _ _ r b (proj_natAbs _ _ _ _ _)
    (gate_value A n MS KS a1 a2 a3 a4 w1 w2 w3 w4 e hM hK ha1 ha2 ha3 ha4 hw1 hw2 hw3 hw4 he r b)
    (up_value A n MS KS b1 b2 b3 b4 u1 u2 u3 u4 e' z hz hM hK hb1 hb2 hb3 hb4 hu1 hu2 hu3 hu4 he' r b)

/-- The lane maxima stored. -/
theorem block_lanes (v : Vec Ideal S256x128 .f32) (hv : ∀ r l, v (ix2 r l) = ((A.lane n.1 r l : ℝ) : EReal)) (r : Fin 256) (l : Fin 128) :
    k0_pay1 (F := Ideal) (k0_pay168 (F := Ideal) (gate MS KS a1 a2 a3 a4 w1 w2 w3 w4 e) (up MS KS b1 b2 b3 b4 u1 u2 u3 u4 e' z) (k0_pay161 (F := Ideal) (gate MS KS a1 a2 a3 a4 w1 w2 w3 w4 e))
      (k0_pay162 (F := Ideal) (gate MS KS a1 a2 a3 a4 w1 w2 w3 w4 e)) (k0_pay163 (F := Ideal) (gate MS KS a1 a2 a3 a4 w1 w2 w3 w4 e))
      (k0_pay164 (F := Ideal) (gate MS KS a1 a2 a3 a4 w1 w2 w3 w4 e)) k0_pay165 v) (ix2 r l) = ((A.lane (n.1 + 1) r l : ℝ) : EReal) := by
  pointwise [k0_pay1]
  refine (lane_value _ _ r v l (fun b => A.hid r (col n b)) (hv r l) fun b => hidden_value _ _ r b (proj_natAbs _ _ _ _ _)
    (gate_value A n MS KS a1 a2 a3 a4 w1 w2 w3 w4 e hM hK ha1 ha2 ha3 ha4 hw1 hw2 hw3 hw4 he r b)
    (up_value A n MS KS b1 b2 b3 b4 u1 u2 u3 u4 e' z hz hM hK hb1 hb2 hb3 hb4 hu1 hu2 hu3 hu4 he' r b)).trans ?_
  rw [A.lane_succ n r l]

end

end Cert.KernelIdeal.Val

end
-- ==== Proof.Middle.lean ====
/- The body at a middle grid point, on the arrays it computes. -/
module

public import proofs.«01_k».proof.Proof.BlockStep

@[expose] public section

set_option maxRecDepth 16384

noncomputable section

namespace Cert.KernelIdeal.Val

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen Cert.Swiglu

local notation "𝕄" => MT nD τ sig Unit (Elt Ideal) ℕ (UR sig nD τ) ℕ

/-- The blocks of the weights and exponents at a grid point. -/
structure Blocks (A : Inputs) (n : Fin 37) (x1 x2 : Vec Ideal S3584x512 .i8) (x3 x4 : Vec Ideal S1x512 .i32) : Prop where
  gate : ∀ k b, x1 (ix2 k b) = A.Wg k (col n b)
  up : ∀ k b, x2 (ix2 k b) = A.Wu k (col n b)
  gexp : ∀ b, x3 (ix2 0 b) = A.eg (col n b)
  uexp : ∀ b, x4 (ix2 0 b) = A.eu (col n b)

/-- A block stored in place beside the blocks already there. -/
theorem placed_succ (A : Inputs) (n : Fin 37) (i : grid0.Coords) (hn : (i 0).val = n.1) {m : Memref sig .tc .vmem S37x256x512 .f32} (hm : m.IsWhole)
    (hs : Vec Ideal S37x256x512 .f32) (hp : A.Placed n.1 hs) (w : Vec Ideal S1x256x512 .f32)
    (hw : ∀ r b, w (ix3 0 r b) = ((A.hid r (col n b) : ℝ) : EReal)) :
    A.Placed (n.1 + 1) (m.view.read (Elt Ideal) (m.view.writes (Elt Ideal) (hm.unread hs)
      [(⟨Rect.unit (s := S37x256x512) (k0_off1 i) S1x256x512.size (k0_off1_inb i), w⟩ : View.Piece (Elt Ideal) S37x256x512 .f32)])) := by
  intro j hj r b
  have ho : k0_off1 i = ![n.1, 0, 0] := by rw [k0_off1_eq, hn]
  rcases Nat.lt_or_ge j.1 n.1 with h | h
  · refine (View.read_writes_cons_unit_of_not_mem m.view (hm.unread hs) _ w [] _ ho (0 : Fin 3) (.inl h)).trans ?_
    exact (congrFun (hm.read_unread hs) _).trans (hp j h r b)
  · obtain rfl : j = n := Fin.ext (by omega)
    refine (View.read_writes_cons_unit_of_mem m.view (hm.unread hs) _ w [] _ (ix3 0 r b) ho ?_).trans (hw r b)
    intro a
    match a with
    | ⟨0, _⟩ => rfl
    | ⟨1, _⟩ => exact (Nat.zero_add _).symm
    | ⟨2, _⟩ => exact (Nat.zero_add _).symm

section

variable (c : Dev nD) (i : grid0.Coords) (arg1 : Memref sig .tc .vmem S256x3584 .i32) (harg1 : arg1.IsWhole) (arg2 : Memref sig .tc .vmem S3584x512 .i8) (harg2 : arg2.IsWhole) (arg3 : Memref sig .tc .vmem S3584x512 .i8) (harg3 : arg3.IsWhole) (arg4 : Memref sig .tc .vmem S1x512 .i32) (harg4 : arg4.IsWhole) (arg5 : Memref sig .tc .vmem S1x512 .i32) (harg5 : arg5.IsWhole) (arg6 : Memref sig .tc .vmem S256x18944 .i8) (harg6 : arg6.IsWhole) (arg7 : Memref sig .tc .vmem S1x256 .i32) (harg7 : arg7.IsWhole) (arg8 : Memref sig .tc .vmem S1x256 .i32) (harg8 : arg8.IsWhole) (arg9 : Memref sig .tc .vmem S256x3584 .i8) (harg9 : arg9.IsWhole) (arg10 : Memref sig .tc .vmem S1x256 .i32) (harg10 : arg10.IsWhole) (arg11 : Memref sig .tc .vmem S1x256 .i32) (harg11 : arg11.IsWhole) (arg12 : Memref sig .tc .vmem S256x3584 .bf16) (harg12 : arg12.IsWhole) (arg13 : Memref sig .tc .vmem S37x256x512 .f32) (harg13 : arg13.IsWhole) (arg14 : Memref sig .tc .vmem S256x128 .i32) (harg14 : arg14.IsWhole) (arg15 : Memref sig .tc .vmem S256x128 .i32) (harg15 : arg15.IsWhole) (arg16 : Memref sig .tc .vmem S256x128 .f32) (harg16 : arg16.IsWhole)
  (hc0 : ¬ cond0_0 i) (hc1 : ¬ cond0_1 i)
  (x0 : Vec Ideal S256x3584 .i32) (x1 x2 : Vec Ideal S3584x512 .i8) (x3 x4 : Vec Ideal S1x512 .i32) (hs : Vec Ideal S37x256x512 .f32)
  (A : Inputs) (n : Fin 37) (hn : (i 0).val = n.1) (hb : Blocks A n x1 x2 x3 x4)

include hn hb in
theorem middle_placed (hp : A.Placed n.1 hs) :
    A.Placed (n.1 + 1) (arg13.view.read (Elt Ideal) (arg13.view.writes (Elt Ideal) (harg13.unread hs) (runB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 A.codes hs A.mants A.expos (A.lanes n.1)).1)) := by
  refine placed_succ A n i hn harg13 hs hp _ fun r b => ?_
  exact block_stored A n _ _ _ _ _ _ _ _ _ _ _ _ _ _ _ _ _ _ _ _ _ rfl
    (fun r => (read_held harg14 _ _ _ _ _ _ _ (0 : Fin 128) (Nat.zero_add _) rfl).trans rfl) (fun r => (read_held harg15 _ _ _ _ _ _ _ (0 : Fin 128) (Nat.zero_add _) rfl).trans rfl)
    (fun r x k h => (read_held harg12 _ _ _ _ _ _ _ _ (Nat.zero_add _) h).trans rfl) (fun r x k h => (read_held harg12 _ _ _ _ _ _ _ _ (Nat.zero_add _) h).trans rfl) (fun r x k h => (read_held harg12 _ _ _ _ _ _ _ _ (Nat.zero_add _) h).trans rfl) (fun r x k h => (read_held harg12 _ _ _ _ _ _ _ _ (Nat.zero_add _) h).trans rfl)
    (fun r x k h => (read_held harg12 _ _ _ _ _ _ _ _ (Nat.zero_add _) h).trans rfl) (fun r x k h => (read_held harg12 _ _ _ _ _ _ _ _ (Nat.zero_add _) h).trans rfl) (fun r x k h => (read_held harg12 _ _ _ _ _ _ _ _ (Nat.zero_add _) h).trans rfl) (fun r x k h => (read_held harg12 _ _ _ _ _ _ _ _ (Nat.zero_add _) h).trans rfl)
    (fun x b k h => (read_held harg2 _ _ _ _ _ _ _ _ h (Nat.zero_add _)).trans (hb.gate _ _)) (fun x b k h => (read_held harg2 _ _ _ _ _ _ _ _ h (Nat.zero_add _)).trans (hb.gate _ _)) (fun x b k h => (read_held harg2 _ _ _ _ _ _ _ _ h (Nat.zero_add _)).trans (hb.gate _ _)) (fun x b k h => (read_held harg2 _ _ _ _ _ _ _ _ h (Nat.zero_add _)).trans (hb.gate _ _))
    (fun x b k h => (read_held harg3 _ _ _ _ _ _ _ _ h (Nat.zero_add _)).trans (hb.up _ _)) (fun x b k h => (read_held harg3 _ _ _ _ _ _ _ _ h (Nat.zero_add _)).trans (hb.up _ _)) (fun x b k h => (read_held harg3 _ _ _ _ _ _ _ _ h (Nat.zero_add _)).trans (hb.up _ _)) (fun x b k h => (read_held harg3 _ _ _ _ _ _ _ _ h (Nat.zero_add _)).trans (hb.up _ _))
    (fun b => (read_held harg4 _ _ _ _ _ _ _ _ rfl (Nat.zero_add _)).trans (hb.gexp _)) (fun b => (read_held harg5 _ _ _ _ _ _ _ _ rfl (Nat.zero_add _)).trans (hb.uexp _)) r b

include hb in
theorem middle_lanes (f : arg16.view.ty.Contents (Elt Ideal)) :
    arg16.view.read (Elt Ideal) (arg16.view.writes (Elt Ideal) f (runB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 A.codes hs A.mants A.expos (A.lanes n.1)).2.1) = A.lanes (n.1 + 1) := by
  refine (read_whole arg16.view f _ _ []).trans (eq_mk2 fun r l => ?_)
  exact block_lanes A n _ _ _ _ _ _ _ _ _ _ _ _ _ _ _ _ _ _ _ _ _ rfl
    (fun r => (read_held harg14 _ _ _ _ _ _ _ (0 : Fin 128) (Nat.zero_add _) rfl).trans rfl) (fun r => (read_held harg15 _ _ _ _ _ _ _ (0 : Fin 128) (Nat.zero_add _) rfl).trans rfl)
    (fun r x k h => (read_held harg12 _ _ _ _ _ _ _ _ (Nat.zero_add _) h).trans rfl) (fun r x k h => (read_held harg12 _ _ _ _ _ _ _ _ (Nat.zero_add _) h).trans rfl) (fun r x k h => (read_held harg12 _ _ _ _ _ _ _ _ (Nat.zero_add _) h).trans rfl) (fun r x k h => (read_held harg12 _ _ _ _ _ _ _ _ (Nat.zero_add _) h).trans rfl)
    (fun r x k h => (read_held harg12 _ _ _ _ _ _ _ _ (Nat.zero_add _) h).trans rfl) (fun r x k h => (read_held harg12 _ _ _ _ _ _ _ _ (Nat.zero_add _) h).trans rfl) (fun r x k h => (read_held harg12 _ _ _ _ _ _ _ _ (Nat.zero_add _) h).trans rfl) (fun r x k h => (read_held harg12 _ _ _ _ _ _ _ _ (Nat.zero_add _) h).trans rfl)
    (fun x b k h => (read_held harg2 _ _ _ _ _ _ _ _ h (Nat.zero_add _)).trans (hb.gate _ _)) (fun x b k h => (read_held harg2 _ _ _ _ _ _ _ _ h (Nat.zero_add _)).trans (hb.gate _ _)) (fun x b k h => (read_held harg2 _ _ _ _ _ _ _ _ h (Nat.zero_add _)).trans (hb.gate _ _)) (fun x b k h => (read_held harg2 _ _ _ _ _ _ _ _ h (Nat.zero_add _)).trans (hb.gate _ _))
    (fun x b k h => (read_held harg3 _ _ _ _ _ _ _ _ h (Nat.zero_add _)).trans (hb.up _ _)) (fun x b k h => (read_held harg3 _ _ _ _ _ _ _ _ h (Nat.zero_add _)).trans (hb.up _ _)) (fun x b k h => (read_held harg3 _ _ _ _ _ _ _ _ h (Nat.zero_add _)).trans (hb.up _ _)) (fun x b k h => (read_held harg3 _ _ _ _ _ _ _ _ h (Nat.zero_add _)).trans (hb.up _ _))
    (fun b => (read_held harg4 _ _ _ _ _ _ _ _ rfl (Nat.zero_add _)).trans (hb.gexp _)) (fun b => (read_held harg5 _ _ _ _ _ _ _ _ rfl (Nat.zero_add _)).trans (hb.uexp _))
    _ (fun r l => (read_held harg16 _ _ _ _ _ _ _ _ (Nat.zero_add _) (Nat.zero_add _)).trans rfl) r l

include hc0 hc1 hn hb in
/-- A middle point stores its block and advances the lane maxima. -/
theorem middle (hp : A.Placed n.1 hs) (E : Set ℕ) (K : PUnit → sProp 𝕄) :
    iprop(owns (c : Thread nD τ) arg1 fullShare x0
      ∗ owns (c : Thread nD τ) arg2 fullShare x1
      ∗ owns (c : Thread nD τ) arg3 fullShare x2
      ∗ owns (c : Thread nD τ) arg4 fullShare x3
      ∗ owns (c : Thread nD τ) arg5 fullShare x4
      ∗ owns (c : Thread nD τ) arg12 fullShare A.codes
      ∗ owns (c : Thread nD τ) arg13 fullShare hs
      ∗ owns (c : Thread nD τ) arg14 fullShare A.mants
      ∗ owns (c : Thread nD τ) arg15 fullShare A.expos
      ∗ owns (c : Thread nD τ) arg16 fullShare (A.lanes n.1)
      ∗ (iprop(owns (c : Thread nD τ) arg1 fullShare x0
      ∗ owns (c : Thread nD τ) arg2 fullShare x1
      ∗ owns (c : Thread nD τ) arg3 fullShare x2
      ∗ owns (c : Thread nD τ) arg4 fullShare x3
      ∗ owns (c : Thread nD τ) arg5 fullShare x4
      ∗ owns (c : Thread nD τ) arg12 fullShare A.codes
      ∗ (∃ h, ⌜A.Placed (n.1 + 1) h⌝ ∗ owns (c : Thread nD τ) arg13 fullShare h)
      ∗ owns (c : Thread nD τ) arg14 fullShare A.mants
      ∗ owns (c : Thread nD τ) arg15 fullShare A.expos
      ∗ owns (c : Thread nD τ) arg16 fullShare (A.lanes (n.1 + 1))) -∗ K ⟨⟩))
      ⊢ wp frame (wpE (defs₀ (F := Ideal)) Variants.none c none) E (cc0_int_swiglu i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  iintro ⟨H0, H1, H2, H3, H4, HS0, HS1, HS2, HS3, HS4, Hk⟩
  iapply ((runB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 A.codes hs A.mants A.expos (A.lanes n.1)).2.2 E K)
  isplitl [H0]; · iexact H0
  isplitl [H1]; · iexact H1
  isplitl [H2]; · iexact H2
  isplitl [H3]; · iexact H3
  isplitl [H4]; · iexact H4
  isplitl [HS0]; · iexact HS0
  isplitl [HS1]; · iexact HS1
  isplitl [HS2]; · iexact HS2
  isplitl [HS3]; · iexact HS3
  isplitl [HS4]; · iexact HS4
  iintro ⟨H0, H1, H2, H3, H4, HS0, HS1, HS2, HS3, ⟨%f, HS4⟩⟩
  iapply Hk
  isplitl [H0]; · iexact H0
  isplitl [H1]; · iexact H1
  isplitl [H2]; · iexact H2
  isplitl [H3]; · iexact H3
  isplitl [H4]; · iexact H4
  isplitl [HS0]; · iexact HS0
  isplitl [HS1]
  · iexists (arg13.view.read (Elt Ideal) (arg13.view.writes (Elt Ideal) (harg13.unread hs) (runB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 A.codes hs A.mants A.expos (A.lanes n.1)).1))
    isplitr; · ipureintro; exact (middle_placed c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 hs A n hn hb hp)
    unfold owns; iexists _; isplitr; · ipureintro; rfl
    iexact HS1
  isplitl [HS2]; · iexact HS2
  isplitl [HS3]; · iexact HS3
  unfold owns; iexists _; isplitr; · ipureintro; exact middle_lanes c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 hs A n hb f
  iexact HS4

end

end Cert.KernelIdeal.Val

end
-- ==== Proof.Quantise.lean ====
/- The kernel's quantiser, at an element of each of the eight bands of 32 rows it works through. -/
module

public import proofs.«01_k».proof.Proof.RunC
public import proofs.«01_k».proof.Proof.RefWords
public import Idealize.ShloMosaic.Lib.Pointwise

@[expose] public section

set_option maxRecDepth 16384

noncomputable section

namespace Cert.KernelIdeal.Val

open Idealize.ShloMosaic Idealize.SL.Sem Cert.KernelIdeal.Gen Cert.Swiglu

/-- The kernel's code of an element of a row. -/
theorem row_code (f : Fin 3584 → BitVec 32) (hf : ∀ k, (f k).toInt.natAbs < 2 ^ 23) (k : Fin 3584) :
    kernelCode (f k) (IntOp.subi (IntOp.shrsi .vector (floatBits (BitVec.ofNat 32 (amax fun k => (f k).toInt))) 23#32) 126#32)
      (kernelMant (BitVec.ofNat 32 (amax fun k => (f k).toInt))) = ((code (amax fun k => (f k).toInt) (f k).toInt : ℝ) : EReal) := by
  have h1 := amax_pos fun k => (f k).toInt
  have h2 := amax_lt _ (by norm_num) hf
  rw [kernel_bits h1 h2, kernelMant_ofNat h1 h2, kernelCode_eq h1 h2 (natAbs_le_amax (fun k => (f k).toInt) k)]

/-- The same as an eight-bit word. -/
theorem row_code_word (f : Fin 3584 → BitVec 32) (hf : ∀ k, (f k).toInt.natAbs < 2 ^ 23) (k : Fin 3584) :
    FloatOps.fptosi (F := Ideal) (φ := .f32) 8
      (kernelCode (f k) (IntOp.subi (IntOp.shrsi .vector (floatBits (BitVec.ofNat 32 (amax fun k => (f k).toInt))) 23#32) 126#32)
        (kernelMant (BitVec.ofNat 32 (amax fun k => (f k).toInt)))) = BitVec.ofInt 8 (code (amax fun k => (f k).toInt) (f k).toInt) := by
  have := code_bounds (amax fun k => (f k).toInt) (f k).toInt
  rw [row_code f hf k, fptosi_eq]
  exact fptosi_int8 (by omega) (by omega)

end Cert.KernelIdeal.Val

end
-- ==== Proof.QuantiseLow.lean ====
/- The kernel's quantiser, at an element of the first four of the eight bands of 32 rows it works through. -/
module

public import proofs.«01_k».proof.Proof.Quantise
public import Idealize.ShloMosaic.Lib.Pointwise

@[expose] public section

set_option maxRecDepth 16384

noncomputable section

namespace Cert.KernelIdeal.Val

open Idealize.ShloMosaic Idealize.SL.Sem Cert.KernelIdeal.Gen Cert.Swiglu

variable (v : Vec Ideal S32x3584 .i32)

theorem mant_0 (a : Fin 32) (l : Fin 128) (hv : ∀ k, (v (ix2 a k)).toInt.natAbs < 2 ^ 23) :
    k0_pay6 ((k0_pay5 (F := Ideal) v)) (ix2 a l) = BitVec.ofNat 32 (mant (amax fun k => (v (ix2 a k)).toInt)) := by
  pointwise [k0_pay2, k0_pay3, k0_pay4, k0_pay5, k0_pay6, k0_pay7, k0_pay8, k0_pay9, k0_pay10, k0_pay11]
  rw [kernel_amax _ hv]
  exact kernelMant_ofNat (amax_pos _) (amax_lt _ (by norm_num) hv)

theorem expo_0 (a : Fin 32) (l : Fin 128) (hv : ∀ k, (v (ix2 a k)).toInt.natAbs < 2 ^ 23) :
    k0_pay7 ((k0_pay4 (F := Ideal) v)) (ix2 a l) = expo (amax fun k => (v (ix2 a k)).toInt) := by
  pointwise [k0_pay2, k0_pay3, k0_pay4, k0_pay5, k0_pay6, k0_pay7, k0_pay8, k0_pay9, k0_pay10, k0_pay11]
  rw [kernel_amax _ hv]
  exact (congrArg (IntOp.subi 25#32) (kernel_bits (amax_pos _) (amax_lt _ (by norm_num) hv))).trans (kernel_expo (amax_pos _) (amax_lt _ (by norm_num) hv))

theorem stored_0 (a : Fin 32) (k : Fin 3584) (hv : ∀ k, (v (ix2 a k)).toInt.natAbs < 2 ^ 23) :
    k0_pay10 (F := Ideal) ((k0_pay9 (F := Ideal) ((k0_pay2 (F := Ideal) v)) ((k0_pay4 (F := Ideal) v)) ((k0_pay5 (F := Ideal) v)))) (ix2 a k) = ((code (amax fun k => (v (ix2 a k)).toInt) (v (ix2 a k)).toInt : ℝ) : EReal) := by
  pointwise [k0_pay2, k0_pay3, k0_pay4, k0_pay5, k0_pay6, k0_pay7, k0_pay8, k0_pay9, k0_pay10, k0_pay11]
  rw [kernel_amax _ hv]
  exact row_code (fun k => v (ix2 a k)) hv k

theorem code_0 (a : Fin 32) (k : Fin 3584) (hv : ∀ k, (v (ix2 a k)).toInt.natAbs < 2 ^ 23) :
    k0_pay11 (F := Ideal) ((k0_pay8 (F := Ideal) ((k0_pay2 (F := Ideal) v)) ((k0_pay4 (F := Ideal) v)) ((k0_pay5 (F := Ideal) v)))) (ix2 a k) = BitVec.ofInt 8 (code (amax fun k => (v (ix2 a k)).toInt) (v (ix2 a k)).toInt) := by
  pointwise [k0_pay2, k0_pay3, k0_pay4, k0_pay5, k0_pay6, k0_pay7, k0_pay8, k0_pay9, k0_pay10, k0_pay11]
  rw [kernel_amax _ hv]
  exact row_code_word (fun k => v (ix2 a k)) hv k

theorem mant_32 (a : Fin 32) (l : Fin 128) (hv : ∀ k, (v (ix2 a k)).toInt.natAbs < 2 ^ 23) :
    k0_pay17 (F := Ideal) ((k0_pay15 (F := Ideal) v)) (ix2 a l) = BitVec.ofNat 32 (mant (amax fun k => (v (ix2 a k)).toInt)) := by
  pointwise [k0_pay12, k0_pay13, k0_pay14, k0_pay15, k0_pay16, k0_pay17, k0_pay18, k0_pay19, k0_pay20, k0_pay21, k0_pay22]
  rw [kernel_amax _ hv]
  exact kernelMant_ofNat (amax_pos _) (amax_lt _ (by norm_num) hv)

theorem expo_32 (a : Fin 32) (l : Fin 128) (hv : ∀ k, (v (ix2 a k)).toInt.natAbs < 2 ^ 23) :
    k0_pay18 ((k0_pay14 (F := Ideal) v)) (ix2 a l) = expo (amax fun k => (v (ix2 a k)).toInt) := by
  pointwise [k0_pay12, k0_pay13, k0_pay14, k0_pay15, k0_pay16, k0_pay17, k0_pay18, k0_pay19, k0_pay20, k0_pay21, k0_pay22]
  rw [kernel_amax _ hv]
  exact (congrArg (IntOp.subi 25#32) (kernel_bits (amax_pos _) (amax_lt _ (by norm_num) hv))).trans (kernel_expo (amax_pos _) (amax_lt _ (by norm_num) hv))

theorem stored_32 (a : Fin 32) (k : Fin 3584) (hv : ∀ k, (v (ix2 a k)).toInt.natAbs < 2 ^ 23) :
    k0_pay21 (F := Ideal) ((k0_pay19 (F := Ideal) ((k0_pay12 (F := Ideal) v)) ((k0_pay14 (F := Ideal) v)) ((k0_pay15 (F := Ideal) v)))) (FloatOps.ofBits FTy.f32 3271426048#32) (FloatOps.ofBits FTy.f32 1123942400#32) (ix2 a k) = ((code (amax fun k => (v (ix2 a k)).toInt) (v (ix2 a k)).toInt : ℝ) : EReal) := by
  pointwise [k0_pay12, k0_pay13, k0_pay14, k0_pay15, k0_pay16, k0_pay17, k0_pay18, k0_pay19, k0_pay20, k0_pay21, k0_pay22]
  rw [kernel_amax _ hv]
  exact row_code (fun k => v (ix2 a k)) hv k

theorem code_32 (a : Fin 32) (k : Fin 3584) (hv : ∀ k, (v (ix2 a k)).toInt.natAbs < 2 ^ 23) :
    k0_pay22 (F := Ideal) ((k0_pay19 (F := Ideal) ((k0_pay12 (F := Ideal) v)) ((k0_pay14 (F := Ideal) v)) ((k0_pay15 (F := Ideal) v)))) (FloatOps.ofBits FTy.f32 3271426048#32) (FloatOps.ofBits FTy.f32 1123942400#32) (ix2 a k) = BitVec.ofInt 8 (code (amax fun k => (v (ix2 a k)).toInt) (v (ix2 a k)).toInt) := by
  pointwise [k0_pay12, k0_pay13, k0_pay14, k0_pay15, k0_pay16, k0_pay17, k0_pay18, k0_pay19, k0_pay20, k0_pay21, k0_pay22]
  rw [kernel_amax _ hv]
  exact row_code_word (fun k => v (ix2 a k)) hv k

theorem mant_64 (a : Fin 32) (l : Fin 128) (hv : ∀ k, (v (ix2 a k)).toInt.natAbs < 2 ^ 23) :
    k0_pay29 (F := Ideal) ((k0_pay26 (F := Ideal) v)) k0_pay27 (ix2 a l) = BitVec.ofNat 32 (mant (amax fun k => (v (ix2 a k)).toInt)) := by
  pointwise [k0_pay23, k0_pay24, k0_pay25, k0_pay26, k0_pay27, k0_pay28, k0_pay29, k0_pay30, k0_pay31, k0_pay32, k0_pay33, k0_pay34]
  rw [kernel_amax _ hv]
  exact kernelMant_ofNat (amax_pos _) (amax_lt _ (by norm_num) hv)

theorem expo_64 (a : Fin 32) (l : Fin 128) (hv : ∀ k, (v (ix2 a k)).toInt.natAbs < 2 ^ 23) :
    k0_pay30 ((k0_pay25 (F := Ideal) v)) (ix2 a l) = expo (amax fun k => (v (ix2 a k)).toInt) := by
  pointwise [k0_pay23, k0_pay24, k0_pay25, k0_pay26, k0_pay27, k0_pay28, k0_pay29, k0_pay30, k0_pay31, k0_pay32, k0_pay33, k0_pay34]
  rw [kernel_amax _ hv]
  exact (congrArg (IntOp.subi 25#32) (kernel_bits (amax_pos _) (amax_lt _ (by norm_num) hv))).trans (kernel_expo (amax_pos _) (amax_lt _ (by norm_num) hv))

theorem stored_64 (a : Fin 32) (k : Fin 3584) (hv : ∀ k, (v (ix2 a k)).toInt.natAbs < 2 ^ 23) :
    k0_pay33 (F := Ideal) ((k0_pay23 (F := Ideal) v)) ((k0_pay31 (F := Ideal) ((k0_pay23 (F := Ideal) v)) ((k0_pay25 (F := Ideal) v)) ((k0_pay26 (F := Ideal) v)) k0_pay27)) 0#32 (ix2 a k) = ((code (amax fun k => (v (ix2 a k)).toInt) (v (ix2 a k)).toInt : ℝ) : EReal) := by
  pointwise [k0_pay23, k0_pay24, k0_pay25, k0_pay26, k0_pay27, k0_pay28, k0_pay29, k0_pay30, k0_pay31, k0_pay32, k0_pay33, k0_pay34]
  rw [kernel_amax _ hv]
  exact row_code (fun k => v (ix2 a k)) hv k

theorem code_64 (a : Fin 32) (k : Fin 3584) (hv : ∀ k, (v (ix2 a k)).toInt.natAbs < 2 ^ 23) :
    k0_pay34 (F := Ideal) ((k0_pay23 (F := Ideal) v)) ((k0_pay31 (F := Ideal) ((k0_pay23 (F := Ideal) v)) ((k0_pay25 (F := Ideal) v)) ((k0_pay26 (F := Ideal) v)) k0_pay27)) 0#32 (ix2 a k) = BitVec.ofInt 8 (code (amax fun k => (v (ix2 a k)).toInt) (v (ix2 a k)).toInt) := by
  pointwise [k0_pay23, k0_pay24, k0_pay25, k0_pay26, k0_pay27, k0_pay28, k0_pay29, k0_pay30, k0_pay31, k0_pay32, k0_pay33, k0_pay34]
  rw [kernel_amax _ hv]
  exact row_code_word (fun k => v (ix2 a k)) hv k

theorem mant_96 (a : Fin 32) (l : Fin 128) (hv : ∀ k, (v (ix2 a k)).toInt.natAbs < 2 ^ 23) :
    k0_pay39 (F := Ideal) ((k0_pay36 (F := Ideal) v)) (ix2 a l) = BitVec.ofNat 32 (mant (amax fun k => (v (ix2 a k)).toInt)) := by
  pointwise [k0_pay35, k0_pay36, k0_pay37, k0_pay38, k0_pay39, k0_pay40, k0_pay41, k0_pay42, k0_pay43, k0_pay44, k0_pay45]
  rw [kernel_amax _ hv]
  exact kernelMant_ofNat (amax_pos _) (amax_lt _ (by norm_num) hv)

theorem expo_96 (a : Fin 32) (l : Fin 128) (hv : ∀ k, (v (ix2 a k)).toInt.natAbs < 2 ^ 23) :
    k0_pay40 ((k0_pay37 (F := Ideal) v)) (ix2 a l) = expo (amax fun k => (v (ix2 a k)).toInt) := by
  pointwise [k0_pay35, k0_pay36, k0_pay37, k0_pay38, k0_pay39, k0_pay40, k0_pay41, k0_pay42, k0_pay43, k0_pay44, k0_pay45]
  rw [kernel_amax _ hv]
  exact (congrArg (IntOp.subi 25#32) (kernel_bits (amax_pos _) (amax_lt _ (by norm_num) hv))).trans (kernel_expo (amax_pos _) (amax_lt _ (by norm_num) hv))

theorem stored_96 (a : Fin 32) (k : Fin 3584) (hv : ∀ k, (v (ix2 a k)).toInt.natAbs < 2 ^ 23) :
    k0_pay44 (F := Ideal) ((k0_pay35 (F := Ideal) v)) ((k0_pay41 (F := Ideal) ((k0_pay36 (F := Ideal) v)))) ((k0_pay42 (F := Ideal) ((k0_pay35 (F := Ideal) v)) ((k0_pay36 (F := Ideal) v)) ((k0_pay37 (F := Ideal) v)))) (ix2 a k) = ((code (amax fun k => (v (ix2 a k)).toInt) (v (ix2 a k)).toInt : ℝ) : EReal) := by
  pointwise [k0_pay35, k0_pay36, k0_pay37, k0_pay38, k0_pay39, k0_pay40, k0_pay41, k0_pay42, k0_pay43, k0_pay44, k0_pay45]
  rw [kernel_amax _ hv]
  exact row_code (fun k => v (ix2 a k)) hv k

theorem code_96 (a : Fin 32) (k : Fin 3584) (hv : ∀ k, (v (ix2 a k)).toInt.natAbs < 2 ^ 23) :
    k0_pay45 (F := Ideal) ((k0_pay35 (F := Ideal) v)) ((k0_pay41 (F := Ideal) ((k0_pay36 (F := Ideal) v)))) ((k0_pay42 (F := Ideal) ((k0_pay35 (F := Ideal) v)) ((k0_pay36 (F := Ideal) v)) ((k0_pay37 (F := Ideal) v)))) (ix2 a k) = BitVec.ofInt 8 (code (amax fun k => (v (ix2 a k)).toInt) (v (ix2 a k)).toInt) := by
  pointwise [k0_pay35, k0_pay36, k0_pay37, k0_pay38, k0_pay39, k0_pay40, k0_pay41, k0_pay42, k0_pay43, k0_pay44, k0_pay45]
  rw [kernel_amax _ hv]
  exact row_code_word (fun k => v (ix2 a k)) hv k

end Cert.KernelIdeal.Val

end
-- ==== Proof.QuantiseHigh.lean ====
/- The kernel's quantiser, at an element of the last four of the eight bands of 32 rows it works through. -/
module

public import proofs.«01_k».proof.Proof.Quantise
public import Idealize.ShloMosaic.Lib.Pointwise

@[expose] public section

set_option maxRecDepth 16384

noncomputable section

namespace Cert.KernelIdeal.Val

open Idealize.ShloMosaic Idealize.SL.Sem Cert.KernelIdeal.Gen Cert.Swiglu

variable (v : Vec Ideal S32x3584 .i32)

theorem mant_128 (a : Fin 32) (l : Fin 128) (hv : ∀ k, (v (ix2 a k)).toInt.natAbs < 2 ^ 23) :
    k0_pay54 (F := Ideal) ((k0_pay47 (F := Ideal) v)) ((k0_pay49 (F := Ideal) v)) ((k0_pay50 (F := Ideal) v)) (ix2 a l) = BitVec.ofNat 32 (mant (amax fun k => (v (ix2 a k)).toInt)) := by
  pointwise [k0_pay46, k0_pay47, k0_pay48, k0_pay49, k0_pay50, k0_pay51, k0_pay52, k0_pay53, k0_pay54, k0_pay55, k0_pay56, k0_pay57, k0_pay58, k0_pay59, k0_pay60, k0_pay61]
  rw [kernel_amax _ hv]
  exact kernelMant_ofNat (amax_pos _) (amax_lt _ (by norm_num) hv)

theorem expo_128 (a : Fin 32) (l : Fin 128) (hv : ∀ k, (v (ix2 a k)).toInt.natAbs < 2 ^ 23) :
    k0_pay55 ((k0_pay47 (F := Ideal) v)) ((k0_pay49 (F := Ideal) v)) ((k0_pay50 (F := Ideal) v)) (ix2 a l) = expo (amax fun k => (v (ix2 a k)).toInt) := by
  pointwise [k0_pay46, k0_pay47, k0_pay48, k0_pay49, k0_pay50, k0_pay51, k0_pay52, k0_pay53, k0_pay54, k0_pay55, k0_pay56, k0_pay57, k0_pay58, k0_pay59, k0_pay60, k0_pay61]
  rw [kernel_amax _ hv]
  exact (congrArg (IntOp.subi 25#32) (kernel_bits (amax_pos _) (amax_lt _ (by norm_num) hv))).trans (kernel_expo (amax_pos _) (amax_lt _ (by norm_num) hv))

theorem stored_128 (a : Fin 32) (k : Fin 3584) (hv : ∀ k, (v (ix2 a k)).toInt.natAbs < 2 ^ 23) :
    k0_pay60 (F := Ideal) ((k0_pay46 (F := Ideal) v)) ((k0_pay56 (F := Ideal) ((k0_pay47 (F := Ideal) v)) ((k0_pay49 (F := Ideal) v)) ((k0_pay50 (F := Ideal) v)))) ((k0_pay57 (F := Ideal) ((k0_pay47 (F := Ideal) v)) ((k0_pay49 (F := Ideal) v)) ((k0_pay50 (F := Ideal) v)))) ((k0_pay58 ((k0_pay46 (F := Ideal) v)) ((k0_pay47 (F := Ideal) v)) ((k0_pay49 (F := Ideal) v)) ((k0_pay50 (F := Ideal) v)))) (ix2 a k) = ((code (amax fun k => (v (ix2 a k)).toInt) (v (ix2 a k)).toInt : ℝ) : EReal) := by
  pointwise [k0_pay46, k0_pay47, k0_pay48, k0_pay49, k0_pay50, k0_pay51, k0_pay52, k0_pay53, k0_pay54, k0_pay55, k0_pay56, k0_pay57, k0_pay58, k0_pay59, k0_pay60, k0_pay61]
  rw [kernel_amax _ hv]
  exact row_code (fun k => v (ix2 a k)) hv k

theorem code_128 (a : Fin 32) (k : Fin 3584) (hv : ∀ k, (v (ix2 a k)).toInt.natAbs < 2 ^ 23) :
    k0_pay61 (F := Ideal) ((k0_pay46 (F := Ideal) v)) ((k0_pay56 (F := Ideal) ((k0_pay47 (F := Ideal) v)) ((k0_pay49 (F := Ideal) v)) ((k0_pay50 (F := Ideal) v)))) ((k0_pay57 (F := Ideal) ((k0_pay47 (F := Ideal) v)) ((k0_pay49 (F := Ideal) v)) ((k0_pay50 (F := Ideal) v)))) ((k0_pay58 ((k0_pay46 (F := Ideal) v)) ((k0_pay47 (F := Ideal) v)) ((k0_pay49 (F := Ideal) v)) ((k0_pay50 (F := Ideal) v)))) (ix2 a k) = BitVec.ofInt 8 (code (amax fun k => (v (ix2 a k)).toInt) (v (ix2 a k)).toInt) := by
  pointwise [k0_pay46, k0_pay47, k0_pay48, k0_pay49, k0_pay50, k0_pay51, k0_pay52, k0_pay53, k0_pay54, k0_pay55, k0_pay56, k0_pay57, k0_pay58, k0_pay59, k0_pay60, k0_pay61]
  rw [kernel_amax _ hv]
  exact row_code_word (fun k => v (ix2 a k)) hv k

theorem mant_160 (a : Fin 32) (l : Fin 128) (hv : ∀ k, (v (ix2 a k)).toInt.natAbs < 2 ^ 23) :
    k0_pay68 (F := Ideal) ((k0_pay63 (F := Ideal) v)) ((k0_pay64 (F := Ideal) v)) 126#32 (ix2 a l) = BitVec.ofNat 32 (mant (amax fun k => (v (ix2 a k)).toInt)) := by
  pointwise [k0_pay62, k0_pay63, k0_pay64, k0_pay65, k0_pay66, k0_pay67, k0_pay68, k0_pay69, k0_pay70, k0_pay71, k0_pay72, k0_pay73, k0_pay74, k0_pay75]
  rw [kernel_amax _ hv]
  exact kernelMant_ofNat (amax_pos _) (amax_lt _ (by norm_num) hv)

theorem expo_160 (a : Fin 32) (l : Fin 128) (hv : ∀ k, (v (ix2 a k)).toInt.natAbs < 2 ^ 23) :
    k0_pay69 ((k0_pay63 (F := Ideal) v)) ((k0_pay64 (F := Ideal) v)) 126#32 (ix2 a l) = expo (amax fun k => (v (ix2 a k)).toInt) := by
  pointwise [k0_pay62, k0_pay63, k0_pay64, k0_pay65, k0_pay66, k0_pay67, k0_pay68, k0_pay69, k0_pay70, k0_pay71, k0_pay72, k0_pay73, k0_pay74, k0_pay75]
  rw [kernel_amax _ hv]
  exact (congrArg (IntOp.subi 25#32) (kernel_bits (amax_pos _) (amax_lt _ (by norm_num) hv))).trans (kernel_expo (amax_pos _) (amax_lt _ (by norm_num) hv))

theorem stored_160 (a : Fin 32) (k : Fin 3584) (hv : ∀ k, (v (ix2 a k)).toInt.natAbs < 2 ^ 23) :
    k0_pay74 (F := Ideal) ((k0_pay62 (F := Ideal) v)) ((k0_pay70 (F := Ideal) ((k0_pay63 (F := Ideal) v)) ((k0_pay64 (F := Ideal) v)) 126#32)) ((k0_pay71 (F := Ideal) ((k0_pay63 (F := Ideal) v)) ((k0_pay64 (F := Ideal) v)) 126#32)) ((k0_pay72 ((k0_pay63 (F := Ideal) v)) ((k0_pay64 (F := Ideal) v)) 126#32)) (ix2 a k) = ((code (amax fun k => (v (ix2 a k)).toInt) (v (ix2 a k)).toInt : ℝ) : EReal) := by
  pointwise [k0_pay62, k0_pay63, k0_pay64, k0_pay65, k0_pay66, k0_pay67, k0_pay68, k0_pay69, k0_pay70, k0_pay71, k0_pay72, k0_pay73, k0_pay74, k0_pay75]
  rw [kernel_amax _ hv]
  exact row_code (fun k => v (ix2 a k)) hv k

theorem code_160 (a : Fin 32) (k : Fin 3584) (hv : ∀ k, (v (ix2 a k)).toInt.natAbs < 2 ^ 23) :
    k0_pay75 (F := Ideal) ((k0_pay62 (F := Ideal) v)) ((k0_pay70 (F := Ideal) ((k0_pay63 (F := Ideal) v)) ((k0_pay64 (F := Ideal) v)) 126#32)) ((k0_pay71 (F := Ideal) ((k0_pay63 (F := Ideal) v)) ((k0_pay64 (F := Ideal) v)) 126#32)) ((k0_pay72 ((k0_pay63 (F := Ideal) v)) ((k0_pay64 (F := Ideal) v)) 126#32)) (ix2 a k) = BitVec.ofInt 8 (code (amax fun k => (v (ix2 a k)).toInt) (v (ix2 a k)).toInt) := by
  pointwise [k0_pay62, k0_pay63, k0_pay64, k0_pay65, k0_pay66, k0_pay67, k0_pay68, k0_pay69, k0_pay70, k0_pay71, k0_pay72, k0_pay73, k0_pay74, k0_pay75]
  rw [kernel_amax _ hv]
  exact row_code_word (fun k => v (ix2 a k)) hv k

theorem mant_192 (a : Fin 32) (l : Fin 128) (hv : ∀ k, (v (ix2 a k)).toInt.natAbs < 2 ^ 23) :
    k0_pay81 (F := Ideal) ((k0_pay77 (F := Ideal) v)) (FloatOps.ofBits FTy.f32 1065353216#32) (ix2 a l) = BitVec.ofNat 32 (mant (amax fun k => (v (ix2 a k)).toInt)) := by
  pointwise [k0_pay76, k0_pay77, k0_pay78, k0_pay79, k0_pay80, k0_pay81, k0_pay82, k0_pay83, k0_pay84, k0_pay85, k0_pay86]
  rw [kernel_amax _ hv]
  exact kernelMant_ofNat (amax_pos _) (amax_lt _ (by norm_num) hv)

theorem expo_192 (a : Fin 32) (l : Fin 128) (hv : ∀ k, (v (ix2 a k)).toInt.natAbs < 2 ^ 23) :
    k0_pay83 ((k0_pay82 (F := Ideal) ((k0_pay77 (F := Ideal) v)) (FloatOps.ofBits FTy.f32 1065353216#32))) (ix2 a l) = expo (amax fun k => (v (ix2 a k)).toInt) := by
  pointwise [k0_pay76, k0_pay77, k0_pay78, k0_pay79, k0_pay80, k0_pay81, k0_pay82, k0_pay83, k0_pay84, k0_pay85, k0_pay86]
  rw [kernel_amax _ hv]
  exact (congrArg (IntOp.subi 25#32) (kernel_bits (amax_pos _) (amax_lt _ (by norm_num) hv))).trans (kernel_expo (amax_pos _) (amax_lt _ (by norm_num) hv))

theorem stored_192 (a : Fin 32) (k : Fin 3584) (hv : ∀ k, (v (ix2 a k)).toInt.natAbs < 2 ^ 23) :
    k0_pay85 (F := Ideal) ((k0_pay76 (F := Ideal) v)) ((k0_pay79 (F := Ideal) ((k0_pay77 (F := Ideal) v)) (FloatOps.ofBits FTy.f32 1065353216#32))) ((k0_pay80 (F := Ideal) ((k0_pay77 (F := Ideal) v)) (FloatOps.ofBits FTy.f32 1065353216#32))) (ix2 a k) = ((code (amax fun k => (v (ix2 a k)).toInt) (v (ix2 a k)).toInt : ℝ) : EReal) := by
  pointwise [k0_pay76, k0_pay77, k0_pay78, k0_pay79, k0_pay80, k0_pay81, k0_pay82, k0_pay83, k0_pay84, k0_pay85, k0_pay86]
  rw [kernel_amax _ hv]
  exact row_code (fun k => v (ix2 a k)) hv k

theorem code_192 (a : Fin 32) (k : Fin 3584) (hv : ∀ k, (v (ix2 a k)).toInt.natAbs < 2 ^ 23) :
    k0_pay86 (F := Ideal) ((k0_pay76 (F := Ideal) v)) ((k0_pay79 (F := Ideal) ((k0_pay77 (F := Ideal) v)) (FloatOps.ofBits FTy.f32 1065353216#32))) ((k0_pay80 (F := Ideal) ((k0_pay77 (F := Ideal) v)) (FloatOps.ofBits FTy.f32 1065353216#32))) (ix2 a k) = BitVec.ofInt 8 (code (amax fun k => (v (ix2 a k)).toInt) (v (ix2 a k)).toInt) := by
  pointwise [k0_pay76, k0_pay77, k0_pay78, k0_pay79, k0_pay80, k0_pay81, k0_pay82, k0_pay83, k0_pay84, k0_pay85, k0_pay86]
  rw [kernel_amax _ hv]
  exact row_code_word (fun k => v (ix2 a k)) hv k

theorem mant_224 (a : Fin 32) (l : Fin 128) (hv : ∀ k, (v (ix2 a k)).toInt.natAbs < 2 ^ 23) :
    k0_pay91 ((k0_pay90 (F := Ideal) ((k0_pay87 (F := Ideal) v)))) (ix2 a l) = BitVec.ofNat 32 (mant (amax fun k => (v (ix2 a k)).toInt)) := by
  pointwise [k0_pay87, k0_pay88, k0_pay89, k0_pay90, k0_pay91, k0_pay92, k0_pay93, k0_pay94, k0_pay95]
  rw [kernel_amax _ hv]
  exact kernelMant_ofNat (amax_pos _) (amax_lt _ (by norm_num) hv)

theorem expo_224 (a : Fin 32) (l : Fin 128) (hv : ∀ k, (v (ix2 a k)).toInt.natAbs < 2 ^ 23) :
    k0_pay92 ((k0_pay89 (F := Ideal) ((k0_pay87 (F := Ideal) v)))) (ix2 a l) = expo (amax fun k => (v (ix2 a k)).toInt) := by
  pointwise [k0_pay87, k0_pay88, k0_pay89, k0_pay90, k0_pay91, k0_pay92, k0_pay93, k0_pay94, k0_pay95]
  rw [kernel_amax _ hv]
  exact (congrArg (IntOp.subi 25#32) (kernel_bits (amax_pos _) (amax_lt _ (by norm_num) hv))).trans (kernel_expo (amax_pos _) (amax_lt _ (by norm_num) hv))

theorem stored_224 (a : Fin 32) (k : Fin 3584) (hv : ∀ k, (v (ix2 a k)).toInt.natAbs < 2 ^ 23) :
    k0_pay94 (F := Ideal) ((k0_pay87 (F := Ideal) v)) ((k0_pay89 (F := Ideal) ((k0_pay87 (F := Ideal) v)))) ((k0_pay90 (F := Ideal) ((k0_pay87 (F := Ideal) v)))) (ix2 a k) = ((code (amax fun k => (v (ix2 a k)).toInt) (v (ix2 a k)).toInt : ℝ) : EReal) := by
  pointwise [k0_pay87, k0_pay88, k0_pay89, k0_pay90, k0_pay91, k0_pay92, k0_pay93, k0_pay94, k0_pay95]
  rw [kernel_amax _ hv]
  exact row_code (fun k => v (ix2 a k)) hv k

theorem code_224 (a : Fin 32) (k : Fin 3584) (hv : ∀ k, (v (ix2 a k)).toInt.natAbs < 2 ^ 23) :
    (k0_pay95 (F := Ideal) ((k0_pay87 (F := Ideal) v)) ((k0_pay89 (F := Ideal) ((k0_pay87 (F := Ideal) v)))) ((k0_pay90 (F := Ideal) ((k0_pay87 (F := Ideal) v))))) (ix2 a k) = BitVec.ofInt 8 (code (amax fun k => (v (ix2 a k)).toInt) (v (ix2 a k)).toInt) := by
  pointwise [k0_pay87, k0_pay88, k0_pay89, k0_pay90, k0_pay91, k0_pay92, k0_pay93, k0_pay94, k0_pay95]
  rw [kernel_amax _ hv]
  exact row_code_word (fun k => v (ix2 a k)) hv k

end Cert.KernelIdeal.Val

end
-- ==== Proof.Requant.lean ====
/- The kernel's requantisation of the gated values: one rounded product with the row's reciprocal scale gives the codes. -/
module

public import proofs.«01_k».proof.Proof.Codes

@[expose] public section

namespace Cert.Swiglu
open Idealize.ShloMosaic

theorem nudge_f32 : Ideal.ofBits .f32 1065353220#32 = ((1 + 1 / 2 ^ 21 : ℝ) : EReal) := by
  rw [ofBits_f32 (e := 127) (f := 4) rfl (by omega) (by omega) (by omega)]
  congr 1; norm_num

/-- The kernel's power of two from the row's bit length. -/
theorem pow2_word {n : ℕ} (hn : n ≤ 23) :
    Ideal.ofBits .f32 (IntOp.shli .vector (IntOp.addi (IntOp.subi 15#32 (BitVec.ofNat 32 n)) 127#32) 23#32) = (((2 : ℝ) ^ ((15 : ℤ) - n) : ℝ) : EReal) := by
  have h1 : IntOp.addi (IntOp.subi 15#32 (BitVec.ofNat 32 n)) 127#32 = BitVec.ofNat 32 (142 - n) := by
    rw [show (15#32 : BitVec 32) = BitVec.ofInt 32 15 from rfl, show BitVec.ofNat 32 n = BitVec.ofInt 32 (n : ℤ) from rfl, subi_ofInt,
      show (127#32 : BitVec 32) = BitVec.ofInt 32 127 from rfl, addi_ofInt, show (15 : ℤ) - n + 127 = ((142 - n : ℕ) : ℤ) by omega]
    rfl
  rw [h1, shli_ofNat (by omega), ofBits_f32 (e := 142 - n) (f := 0) (by rw [BitVec.toNat_ofNat]; omega) (by omega) (by omega) (by omega)]
  congr 1
  rw [show ((142 - n : ℕ) : ℤ) - 150 = ((15 : ℤ) - n) + (-23) by omega, zpow_add₀ (by norm_num)]
  norm_num
  ring

/-- The reciprocal scale of the requantisation. -/
noncomputable def kernelScale (n m : BitVec 32) : EReal :=
  Ideal.ofBits .f32 (IntOp.shli .vector (IntOp.addi (IntOp.subi 15#32 n) 127#32) 23#32)
    * (Ideal.div 1 (FloatOps.sitofp (F := Ideal) .f32 m) * Ideal.ofBits .f32 1065353220#32)

theorem kernelScale_eq {a : ℕ} (h1 : 1 ≤ a) (h : a < 2 ^ 18) :
    kernelScale (BitVec.ofNat 32 (a.log2 + 1)) (BitVec.ofNat 32 (mant a))
      = (((2 : ℝ) ^ (22 - a.log2) / (256 * mant a) * (1 + 1 / 2 ^ 21) : ℝ) : EReal) := by
  have hp := log2_lt h1 h
  obtain ⟨hm0, hm1⟩ := mant_bounds h1 (by omega)
  have hm : (mant a : ℝ) ≠ 0 := by exact_mod_cast (by omega : mant a ≠ 0)
  unfold kernelScale
  rw [pow2_word (by omega), nudge_f32, sitofp_eq, toInt_ofNat_small (by omega), show (1 : EReal) = ((1 : ℝ) : EReal) from rfl, Int.cast_natCast,
    div_real _ hm, ← EReal.coe_mul, ← EReal.coe_mul]
  congr 1
  have e : (2 : ℝ) ^ ((15 : ℤ) - (a.log2 + 1 : ℕ)) = 2 ^ (22 - a.log2) / 256 := by
    rw [show (15 : ℤ) - (a.log2 + 1 : ℕ) = ((22 - a.log2 : ℕ) : ℤ) + (-8) by omega, zpow_add₀ (by norm_num), zpow_natCast]
    norm_num; ring
  rw [e, div_mul_eq_mul_div, one_div_mul_eq_div, ← mul_div_assoc, div_div, mul_comm (mant a : ℝ), ← div_mul_eq_mul_div]

/-- The magnitude: before rounding it lies strictly within a half of the quotient. -/
theorem requant_near {a t : ℕ} (h1 : 1 ≤ a) (h : a < 2 ^ 18) (ht : t ≤ a) :
    (quot a t : ℝ) - 1 / 2 < t * ((2 : ℝ) ^ (22 - a.log2) / (256 * mant a) * (1 + 1 / 2 ^ 21))
    ∧ t * ((2 : ℝ) ^ (22 - a.log2) / (256 * mant a) * (1 + 1 / 2 ^ 21)) < (quot a t : ℝ) + 1 / 2 := by
  have hp := log2_lt h1 h
  obtain ⟨hm0, hm1⟩ := mant_bounds h1 (by omega)
  have hN := scaled_lt h1 (by omega) ht
  have h32 : 32 ∣ t * 2 ^ (22 - a.log2) := by
    refine Dvd.dvd.mul_left ?_ _
    rw [show (32 : ℕ) = 2 ^ 5 by norm_num]
    exact pow_dvd_pow 2 (by omega)
  have e : (t : ℝ) * ((2 : ℝ) ^ (22 - a.log2) / (256 * mant a) * (1 + 1 / 2 ^ 21))
      = ((t * 2 ^ (22 - a.log2) : ℕ) : ℝ) * (1 + 1 / 2 ^ 21) / (256 * mant a) := by
    push_cast; ring
  rw [e]
  unfold quot
  generalize t * 2 ^ (22 - a.log2) = N at *
  generalize mant a = m at *
  have hm : (0 : ℝ) < 256 * m := by have : (0 : ℝ) < m := by exact_mod_cast (by omega : 0 < m)
                                    linarith
  have hd : 256 * m * ((N + 128 * m) / (256 * m)) + (N + 128 * m) % (256 * m) = N + 128 * m := Nat.div_add_mod _ _
  have hlt : (N + 128 * m) % (256 * m) < 256 * m := Nat.mod_lt _ (by omega)
  have hr : (N + 128 * m) % (256 * m) + 32 ≤ 256 * m := by
    have : 32 ∣ (N + 128 * m) % (256 * m) := (Nat.dvd_mod_iff (Dvd.intro (8 * m) (by ring))).mpr (Dvd.dvd.add h32 (Dvd.intro (4 * m) (by ring)))
    omega
  have hz : N = 0 → (N + 128 * m) / (256 * m) = 0 := fun h0 => Nat.div_eq_of_lt (by omega)
  generalize (N + 128 * m) / (256 * m) = q at *
  generalize (N + 128 * m) % (256 * m) = r at *
  have hd' : 256 * (m : ℝ) * q + r = N + 128 * m := by exact_mod_cast hd
  have hr' : (r : ℝ) + 32 ≤ 256 * m := by exact_mod_cast hr
  have hr0 : (0 : ℝ) ≤ r := by positivity
  have hN' : (N : ℝ) < 8388608 := by exact_mod_cast (by omega : N < 8388608)
  constructor
  · rw [lt_div_iff₀ hm]
    rcases Nat.eq_zero_or_pos N with h0 | h0
    · rw [hz h0, h0]; norm_num; linarith
    · have : (0 : ℝ) < N := by exact_mod_cast h0
      nlinarith
  · rw [div_lt_iff₀ hm]
    norm_num
    nlinarith

theorem clip_near {z : ℤ} {x : ℝ} (h1 : (z : ℝ) - 1 / 2 < x) (h2 : x < z + 1 / 2) :
    Ideal.roundHalfEven (min 127 (max (-127) x)) = max (-127) (min 127 z) := by
  have e : ((max (-127) (min 127 z) : ℤ) : ℝ) = max (-127) (min 127 (z : ℝ)) := by push_cast; rfl
  apply roundHalfEven_eq <;> rw [e, clip_real] <;> simp only [min_def, max_def] <;> split_ifs <;> linarith

/-- The kernel's code of a gated value. -/
theorem kernelRequant_eq {a : ℕ} {h : ℤ} (h1 : 1 ≤ a) (ha : a < 2 ^ 18) (hh : h.natAbs ≤ a) :
    FloatOps.fptosi (F := Ideal) (φ := .f32) 8 (Ideal.liftRound Ideal.roundHalfEven (min (Ideal.ofBits .f32 1123942400#32)
      (max (Ideal.ofBits .f32 3271426048#32) (((h : ℝ) : EReal) * kernelScale (BitVec.ofNat 32 (a.log2 + 1)) (BitVec.ofNat 32 (mant a))))))
    = BitVec.ofInt 8 (code a h) := by
  obtain ⟨n1, n2⟩ := requant_near h1 ha hh
  rw [kernelScale_eq h1 ha, c127_f32, cm127_f32, ← EReal.coe_mul, max_real, min_real, round_real, fptosi_eq]
  have key : Ideal.roundHalfEven (min 127 (max (-127) ((h : ℝ) * ((2 : ℝ) ^ (22 - a.log2) / (256 * mant a) * (1 + 1 / 2 ^ 21))))) = code a h := by
    unfold code
    generalize (2 : ℝ) ^ (22 - a.log2) / (256 * mant a) * (1 + 1 / 2 ^ 21) = s at *
    rcases lt_trichotomy h 0 with hn | h0 | hp
    · have e : (h : ℝ) = -(h.natAbs : ℝ) := by
        have : h = -((h.natAbs : ℕ) : ℤ) := by omega
        exact_mod_cast this
      rw [Int.sign_eq_neg_one_of_neg hn, neg_one_mul]
      generalize h.natAbs = t at *
      apply clip_near <;> rw [e] <;> push_cast <;> linarith
    · subst h0
      simp only [Int.sign_zero, zero_mul]
      apply clip_near <;> norm_num
    · have e : (h : ℝ) = (h.natAbs : ℝ) := by
        rw [Nat.cast_natAbs, abs_of_pos hp]
      rw [Int.sign_eq_one_of_pos hp, one_mul]
      generalize h.natAbs = t at *
      apply clip_near <;> rw [e] <;> push_cast <;> linarith
  rw [key]
  obtain ⟨b1, b2⟩ := code_bounds a h
  exact fptosi_int8 (by omega) (by omega)

/-- A row maximum as a word, over lanes that hold naturals. -/
theorem lanes_amax {n : ℕ} (f : Fin n → ℕ) (g : Fin n → EReal) (hg : ∀ k, g k = ((f k : ℝ) : EReal)) (h : max 1 (Finset.univ.sup f) < 2 ^ 23) :
    FloatOps.fptosi (F := Ideal) (φ := .f32) 32 (max (Finset.fold max (Ideal.ofBits .f32 4286578688#32) g Finset.univ) 1)
    = BitVec.ofNat 32 (max 1 (Finset.univ.sup f)) := by
  have hb : Ideal.ofBits .f32 4286578688#32 = ⊥ := by
    show Ideal.ieee 8 23 (4286578688#32) = _
    simp [Ideal.ieee]
  have e : amax (fun k => (f k : ℤ)) = max 1 (Finset.univ.sup f) := by simp [amax]
  have hf := fold_max_real (fun k => (f k : ℤ)) g (fun k => by rw [hg, Int.natAbs_natCast]) (b := Ideal.ofBits .f32 4286578688#32) (by rw [hb]; exact bot_le)
  rw [e] at hf
  refine (congrArg (FloatOps.fptosi (F := Ideal) (φ := .f32) 32) hf).trans ?_
  rw [fptosi_eq]
  have := fptosi_int32 (z := (max 1 (Finset.univ.sup f) : ℕ)) (by omega) (by omega)
  rw [Int.cast_natCast] at this
  rw [this]; rfl

end Cert.Swiglu

end
-- ==== Proof.RowVal.lean ====
/- The words of a row the kernel derives from the row's largest gated magnitude, and its transposition of a column of words. -/
module

public import proofs.«01_k».proof.Proof.RunC
public import proofs.«01_k».proof.Proof.Requant
public import proofs.«01_k».proof.Proof.RefWords
public import Idealize.ShloMosaic.Lib.Pointwise

@[expose] public section

set_option maxRecDepth 16384

noncomputable section

namespace Cert.KernelIdeal.Val

open Idealize.ShloMosaic Idealize.SL.Sem Cert.KernelIdeal.Gen Cert.Swiglu

section

variable (v : Vec Ideal S256x128 .f32) (a : Fin 256) (f : Fin 128 → ℕ) (hf : ∀ l, v (ix2 a l) = ((f l : ℝ) : EReal))
  (h : max 1 (Finset.univ.sup f) < 2 ^ 23)
include hf h

theorem length_value (l : Fin 128) :
    k0_pay100 (F := Ideal) v (ix2 a l) = BitVec.ofNat 32 ((max 1 (Finset.univ.sup f)).log2 + 1) := by
  pointwise [k0_pay100, k0_pay99]
  rw [lanes_amax f _ hf h]
  exact kernel_bits (le_max_left _ _) h

theorem mantissa_value (l : Fin 128) :
    k0_pay101 (F := Ideal) v (ix2 a l) = BitVec.ofNat 32 (mant (max 1 (Finset.univ.sup f))) := by
  pointwise [k0_pay101, k0_pay99]
  rw [lanes_amax f _ hf h]
  exact kernelMant_ofNat (le_max_left _ _) h

theorem scale_value :
    k0_pay107 (F := Ideal) (k0_pay105 (F := Ideal) (k0_pay100 (F := Ideal) v)) (k0_pay106 (F := Ideal) (k0_pay101 (F := Ideal) v)) (ix2 a 0)
      = kernelScale (BitVec.ofNat 32 ((max 1 (Finset.univ.sup f)).log2 + 1)) (BitVec.ofNat 32 (mant (max 1 (Finset.univ.sup f)))) := by
  pointwise [k0_pay107, k0_pay106, k0_pay105]
  rw [length_value v a f hf h, mantissa_value v a f hf h]
  rfl

end

/-- A column of words, laid out along the lanes of one row by summing against the identity. -/
theorem column_value (w : IVec S256x128 32) (g : Fin 256 → BitVec 32) (hw : ∀ r l, w (ix2 r l) = g r) (b : Fin 256) :
    (if h : b.1 < 128 then
      Finset.fold IntOp.addi (0#32)
        (fun x : Fin 128 => Scalar.select (IntOp.cmpi .eq (BitVec.ofNat 32 x.1) (BitVec.ofNat 32 b.1))
            (w (ix2 ⟨x.1, by omega⟩ ⟨b.1, h⟩)) 0#32) Finset.univ
    else
      Finset.fold IntOp.addi (0#32)
        (fun x : Fin 128 => Scalar.select (IntOp.cmpi .eq (BitVec.ofNat 32 x.1) (BitVec.ofNat 32 (b.1 - 128)))
            (w (ix2 ⟨128 + x.1, by omega⟩ ⟨b.1 - 128, by omega⟩)) 0#32) Finset.univ) = g b := by
  simp only [hw]
  split
  · rename_i h
    exact diagonal_sum (by norm_num) (fun x : Fin 128 => g ⟨x.1, by omega⟩) ⟨b.1, h⟩
  · rename_i h
    refine (diagonal_sum (by norm_num) (fun x : Fin 128 => g ⟨128 + x.1, by omega⟩) ⟨b.1 - 128, by omega⟩).trans ?_
    exact congrArg g (Fin.ext (by show 128 + (b.1 - 128) = b.1; omega))

theorem mantissa_row (w : Vec Ideal S256x128 .i32) (g : Fin 256 → BitVec 32) (hw : ∀ r l, w (ix2 r l) = g r) (b : Fin 256) :
    k0_pay96 (F := Ideal) w (ix2 0 b) = g b := by
  pointwise [k0_pay96]
  exact column_value w g hw b

theorem exponent_row (w : Vec Ideal S256x128 .i32) (g : Fin 256 → BitVec 32) (hw : ∀ r l, w (ix2 r l) = g r) (b : Fin 256) :
    k0_pay97 (F := Ideal) w (ix2 0 b) = g b := by
  pointwise [k0_pay97]
  exact column_value w g hw b

theorem hidden_mantissa_row (w : IVec S256x128 32) (g : Fin 256 → BitVec 32) (hw : ∀ r l, w (ix2 r l) = g r) (b : Fin 256) :
    k0_pay103 w runC.sl.v204 runC.sl.v205 k0_pay102 (ix2 0 b) = g b := by
  pointwise [k0_pay103, runC.sl.v204, runC.sl.v205, k0_pay102]
  exact column_value w g hw b

theorem hidden_exponent_row (w : IVec S256x128 32) (g : Fin 256 → BitVec 32) (hw : ∀ r l, IntOp.subi 25#32 (w (ix2 r l)) = g r) (b : Fin 256) :
    k0_pay104 w (ix2 0 b) = g b := by
  pointwise [k0_pay104]
  exact column_value (fun i => IntOp.subi 25#32 (w i)) g hw b

end Cert.KernelIdeal.Val

end
-- ==== Proof.First.lean ====
/- The body at the first grid point, on the arrays it computes: the quantised activations and the first block. -/
module

public import proofs.«01_k».proof.Proof.Middle
public import proofs.«01_k».proof.Proof.QuantiseLow
public import proofs.«01_k».proof.Proof.QuantiseHigh
public import proofs.«01_k».proof.Proof.RowVal
public import Idealize.ShloMosaic.Lib.Ring

@[expose] public section

set_option maxRecDepth 16384

noncomputable section

namespace Cert.KernelIdeal.Val

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen Cert.Swiglu

local notation "𝕄" => MT nD τ sig Unit (Elt Ideal) ℕ (UR sig nD τ) ℕ

/-- A piece of rows that agrees with a matrix. -/
theorem band_eq {p q m o : ℕ} {α : Type} (g : Fin p → Fin q → α) (inb : ∀ a, (![o, 0] : Fin 2 → ℕ) a + (![m, q] : Fin 2 → ℕ) a ≤ (![p, q] : Fin 2 → ℕ) a)
    (w : (⟨2, ![m, q]⟩ : Shape).Idx → α) (h : ∀ (a : Fin m) (b : Fin q) (r : Fin p), o + a.1 = r.1 → w (ix2 a b) = g r b)
    (x : (⟨2, ![m, q]⟩ : Shape).Idx) :
    w x = mk2 g ((Rect.unit (s := ⟨2, ![p, q]⟩) ![o, 0] ![m, q] inb).emb x) := by
  obtain ⟨a, b, rfl⟩ : ∃ (a : Fin m) (b : Fin q), x = ix2 a b := ⟨x (0 : Fin 2), x (1 : Fin 2), (ix2_eta x).symm⟩
  refine (h a b ((Rect.unit (s := ⟨2, ![p, q]⟩) ![o, 0] ![m, q] inb).emb (ix2 a b) (0 : Fin 2)) ?_).trans ?_
  · show o + a.1 = o + 1 * a.1
    omega
  · show g _ b = g _ _
    congr 1
    exact Fin.ext (by show b.1 = 0 + 1 * b.1; omega)

/-- What the outputs of the activations hold. -/
def Inputs.xout (A : Inputs) : Vec Ideal S256x3584 .i8 := mk2 fun r k => BitVec.ofInt 8 (xcode A.X r k)
def Inputs.mrow (A : Inputs) : Vec Ideal S1x256 .i32 := mk2 fun _ r => BitVec.ofNat 32 (mant (xmax A.X r))
def Inputs.erow (A : Inputs) : Vec Ideal S1x256 .i32 := mk2 fun _ r => expo (xmax A.X r)

section

variable (c : Dev nD) (i : grid0.Coords) (arg1 : Memref sig .tc .vmem S256x3584 .i32) (harg1 : arg1.IsWhole) (arg2 : Memref sig .tc .vmem S3584x512 .i8) (harg2 : arg2.IsWhole) (arg3 : Memref sig .tc .vmem S3584x512 .i8) (harg3 : arg3.IsWhole) (arg4 : Memref sig .tc .vmem S1x512 .i32) (harg4 : arg4.IsWhole) (arg5 : Memref sig .tc .vmem S1x512 .i32) (harg5 : arg5.IsWhole) (arg6 : Memref sig .tc .vmem S256x18944 .i8) (harg6 : arg6.IsWhole) (arg7 : Memref sig .tc .vmem S1x256 .i32) (harg7 : arg7.IsWhole) (arg8 : Memref sig .tc .vmem S1x256 .i32) (harg8 : arg8.IsWhole) (arg9 : Memref sig .tc .vmem S256x3584 .i8) (harg9 : arg9.IsWhole) (arg10 : Memref sig .tc .vmem S1x256 .i32) (harg10 : arg10.IsWhole) (arg11 : Memref sig .tc .vmem S1x256 .i32) (harg11 : arg11.IsWhole) (arg12 : Memref sig .tc .vmem S256x3584 .bf16) (harg12 : arg12.IsWhole) (arg13 : Memref sig .tc .vmem S37x256x512 .f32) (harg13 : arg13.IsWhole) (arg14 : Memref sig .tc .vmem S256x128 .i32) (harg14 : arg14.IsWhole) (arg15 : Memref sig .tc .vmem S256x128 .i32) (harg15 : arg15.IsWhole) (arg16 : Memref sig .tc .vmem S256x128 .f32) (harg16 : arg16.IsWhole)
  (hc0 : cond0_0 i) (hc1 : ¬ cond0_1 i)
  (x0 : Vec Ideal S256x3584 .i32) (x1 x2 : Vec Ideal S3584x512 .i8) (x3 x4 : Vec Ideal S1x512 .i32) (hs : Vec Ideal S37x256x512 .f32)
  (A : Inputs) (hX : ∀ r k, (A.X r k).toInt.natAbs < 2 ^ 23) (h0 : ∀ r k, x0 (ix2 r k) = A.X r k)

/-- A row of activations as the body loads it. -/
theorem load_row {o : ℕ} (inb : ∀ a, (![o, 0] : Fin 2 → ℕ) a + (![32, 3584] : Fin 2 → ℕ) a ≤ (![256, 3584] : Fin 2 → ℕ) a)
    (a : Fin 32) (r : Fin 256) (h : o + a.1 = r.1) (k : Fin 3584) (h0 : ∀ r k, x0 (ix2 r k) = A.X r k) :
    View.readAt (Elt Ideal) arg1.view (Rect.unit (s := ⟨2, ![256, 3584]⟩) ![o, 0] ![32, 3584] inb).toLoadRect (harg1.unread x0) (ix2 a k) = A.X r k :=
  (read_held harg1 x0 o 0 inb a k r k h (Nat.zero_add _)).trans (h0 r k)

include hX h0

/-- The codes kept. -/
theorem first_codes (f : arg12.view.ty.Contents (Elt Ideal)) : arg12.view.read (Elt Ideal) (arg12.view.writes (Elt Ideal) f (runA.sl.HS0_8 c arg1 harg1 x0)) = A.codes := by
  refine read_bands arg12.view f _ _ ?_ (View.cover_of_tiledL _ S32x3584.size (by sl_kernel_rfl))
  refine List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_nil _⟩⟩⟩⟩⟩⟩⟩⟩
  · refine band_eq _ inb_S256x3584_S32x3584_224_0 _ fun a b r h => ?_
    have hl := fun k => load_row arg1 harg1 x0 A inb_S256x3584_S32x3584_224_0 a r h k h0
    refine (stored_224 _ a b fun k => by rw [hl k]; exact hX r k).trans ?_
    simp only [hl]; rfl
  · refine band_eq _ inb_S256x3584_S32x3584_192_0 _ fun a b r h => ?_
    have hl := fun k => load_row arg1 harg1 x0 A inb_S256x3584_S32x3584_192_0 a r h k h0
    refine (stored_192 _ a b fun k => by rw [hl k]; exact hX r k).trans ?_
    simp only [hl]; rfl
  · refine band_eq _ inb_S256x3584_S32x3584_160_0 _ fun a b r h => ?_
    have hl := fun k => load_row arg1 harg1 x0 A inb_S256x3584_S32x3584_160_0 a r h k h0
    refine (stored_160 _ a b fun k => by rw [hl k]; exact hX r k).trans ?_
    simp only [hl]; rfl
  · refine band_eq _ inb_S256x3584_S32x3584_128_0 _ fun a b r h => ?_
    have hl := fun k => load_row arg1 harg1 x0 A inb_S256x3584_S32x3584_128_0 a r h k h0
    refine (stored_128 _ a b fun k => by rw [hl k]; exact hX r k).trans ?_
    simp only [hl]; rfl
  · refine band_eq _ inb_S256x3584_S32x3584_96_0 _ fun a b r h => ?_
    have hl := fun k => load_row arg1 harg1 x0 A inb_S256x3584_S32x3584_96_0 a r h k h0
    refine (stored_96 _ a b fun k => by rw [hl k]; exact hX r k).trans ?_
    simp only [hl]; rfl
  · refine band_eq _ inb_S256x3584_S32x3584_64_0 _ fun a b r h => ?_
    have hl := fun k => load_row arg1 harg1 x0 A inb_S256x3584_S32x3584_64_0 a r h k h0
    refine (stored_64 _ a b fun k => by rw [hl k]; exact hX r k).trans ?_
    simp only [hl]; rfl
  · refine band_eq _ inb_S256x3584_S32x3584_32_0 _ fun a b r h => ?_
    have hl := fun k => load_row arg1 harg1 x0 A inb_S256x3584_S32x3584_32_0 a r h k h0
    refine (stored_32 _ a b fun k => by rw [hl k]; exact hX r k).trans ?_
    simp only [hl]; rfl
  · refine band_eq _ inb_S256x3584_S32x3584_0_0 _ fun a b r h => ?_
    have hl := fun k => load_row arg1 harg1 x0 A inb_S256x3584_S32x3584_0_0 a r h k h0
    refine (stored_0 _ a b fun k => by rw [hl k]; exact hX r k).trans ?_
    simp only [hl]; rfl

/-- The mantissas kept. -/
theorem first_mants (f : arg14.view.ty.Contents (Elt Ideal)) : arg14.view.read (Elt Ideal) (arg14.view.writes (Elt Ideal) f (runA.sl.HS2_8 c arg1 harg1 x0)) = A.mants := by
  refine read_bands arg14.view f _ _ ?_ (View.cover_of_tiledL _ S32x128.size (by sl_kernel_rfl))
  refine List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_nil _⟩⟩⟩⟩⟩⟩⟩⟩
  · refine band_eq _ inb_S256x128_S32x128_224_0 _ fun a b r h => ?_
    have hl := fun k => load_row arg1 harg1 x0 A inb_S256x3584_S32x3584_224_0 a r h k h0
    refine (mant_224 _ a b fun k => by rw [hl k]; exact hX r k).trans ?_
    simp only [hl]; rfl
  · refine band_eq _ inb_S256x128_S32x128_192_0 _ fun a b r h => ?_
    have hl := fun k => load_row arg1 harg1 x0 A inb_S256x3584_S32x3584_192_0 a r h k h0
    refine (mant_192 _ a b fun k => by rw [hl k]; exact hX r k).trans ?_
    simp only [hl]; rfl
  · refine band_eq _ inb_S256x128_S32x128_160_0 _ fun a b r h => ?_
    have hl := fun k => load_row arg1 harg1 x0 A inb_S256x3584_S32x3584_160_0 a r h k h0
    refine (mant_160 _ a b fun k => by rw [hl k]; exact hX r k).trans ?_
    simp only [hl]; rfl
  · refine band_eq _ inb_S256x128_S32x128_128_0 _ fun a b r h => ?_
    have hl := fun k => load_row arg1 harg1 x0 A inb_S256x3584_S32x3584_128_0 a r h k h0
    refine (mant_128 _ a b fun k => by rw [hl k]; exact hX r k).trans ?_
    simp only [hl]; rfl
  · refine band_eq _ inb_S256x128_S32x128_96_0 _ fun a b r h => ?_
    have hl := fun k => load_row arg1 harg1 x0 A inb_S256x3584_S32x3584_96_0 a r h k h0
    refine (mant_96 _ a b fun k => by rw [hl k]; exact hX r k).trans ?_
    simp only [hl]; rfl
  · refine band_eq _ inb_S256x128_S32x128_64_0 _ fun a b r h => ?_
    have hl := fun k => load_row arg1 harg1 x0 A inb_S256x3584_S32x3584_64_0 a r h k h0
    refine (mant_64 _ a b fun k => by rw [hl k]; exact hX r k).trans ?_
    simp only [hl]; rfl
  · refine band_eq _ inb_S256x128_S32x128_32_0 _ fun a b r h => ?_
    have hl := fun k => load_row arg1 harg1 x0 A inb_S256x3584_S32x3584_32_0 a r h k h0
    refine (mant_32 _ a b fun k => by rw [hl k]; exact hX r k).trans ?_
    simp only [hl]; rfl
  · refine band_eq _ inb_S256x128_S32x128_0_0 _ fun a b r h => ?_
    have hl := fun k => load_row arg1 harg1 x0 A inb_S256x3584_S32x3584_0_0 a r h k h0
    refine (mant_0 _ a b fun k => by rw [hl k]; exact hX r k).trans ?_
    simp only [hl]; rfl

/-- The exponents kept. -/
theorem first_expos (f : arg15.view.ty.Contents (Elt Ideal)) : arg15.view.read (Elt Ideal) (arg15.view.writes (Elt Ideal) f (runA.sl.HS3_8 c arg1 harg1 x0)) = A.expos := by
  refine read_bands arg15.view f _ _ ?_ (View.cover_of_tiledL _ S32x128.size (by sl_kernel_rfl))
  refine List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_nil _⟩⟩⟩⟩⟩⟩⟩⟩
  · refine band_eq _ inb_S256x128_S32x128_224_0 _ fun a b r h => ?_
    have hl := fun k => load_row arg1 harg1 x0 A inb_S256x3584_S32x3584_224_0 a r h k h0
    refine (expo_224 _ a b fun k => by rw [hl k]; exact hX r k).trans ?_
    simp only [hl]; rfl
  · refine band_eq _ inb_S256x128_S32x128_192_0 _ fun a b r h => ?_
    have hl := fun k => load_row arg1 harg1 x0 A inb_S256x3584_S32x3584_192_0 a r h k h0
    refine (expo_192 _ a b fun k => by rw [hl k]; exact hX r k).trans ?_
    simp only [hl]; rfl
  · refine band_eq _ inb_S256x128_S32x128_160_0 _ fun a b r h => ?_
    have hl := fun k => load_row arg1 harg1 x0 A inb_S256x3584_S32x3584_160_0 a r h k h0
    refine (expo_160 _ a b fun k => by rw [hl k]; exact hX r k).trans ?_
    simp only [hl]; rfl
  · refine band_eq _ inb_S256x128_S32x128_128_0 _ fun a b r h => ?_
    have hl := fun k => load_row arg1 harg1 x0 A inb_S256x3584_S32x3584_128_0 a r h k h0
    refine (expo_128 _ a b fun k => by rw [hl k]; exact hX r k).trans ?_
    simp only [hl]; rfl
  · refine band_eq _ inb_S256x128_S32x128_96_0 _ fun a b r h => ?_
    have hl := fun k => load_row arg1 harg1 x0 A inb_S256x3584_S32x3584_96_0 a r h k h0
    refine (expo_96 _ a b fun k => by rw [hl k]; exact hX r k).trans ?_
    simp only [hl]; rfl
  · refine band_eq _ inb_S256x128_S32x128_64_0 _ fun a b r h => ?_
    have hl := fun k => load_row arg1 harg1 x0 A inb_S256x3584_S32x3584_64_0 a r h k h0
    refine (expo_64 _ a b fun k => by rw [hl k]; exact hX r k).trans ?_
    simp only [hl]; rfl
  · refine band_eq _ inb_S256x128_S32x128_32_0 _ fun a b r h => ?_
    have hl := fun k => load_row arg1 harg1 x0 A inb_S256x3584_S32x3584_32_0 a r h k h0
    refine (expo_32 _ a b fun k => by rw [hl k]; exact hX r k).trans ?_
    simp only [hl]; rfl
  · refine band_eq _ inb_S256x128_S32x128_0_0 _ fun a b r h => ?_
    have hl := fun k => load_row arg1 harg1 x0 A inb_S256x3584_S32x3584_0_0 a r h k h0
    refine (expo_0 _ a b fun k => by rw [hl k]; exact hX r k).trans ?_
    simp only [hl]; rfl

/-- The codes returned. -/
theorem first_xout (f : arg9.view.ty.Contents (Elt Ideal)) : arg9.view.read (Elt Ideal) (arg9.view.writes (Elt Ideal) f ((runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 hs).1)) = A.xout := by
  refine read_bands arg9.view f _ _ ?_ (View.cover_of_tiledL _ S32x3584.size (by sl_kernel_rfl))
  refine List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_nil _⟩⟩⟩⟩⟩⟩⟩⟩
  · refine band_eq _ inb_S256x3584_S32x3584_224_0 _ fun a b r h => ?_
    have hl := fun k => load_row arg1 harg1 x0 A inb_S256x3584_S32x3584_224_0 a r h k h0
    refine (code_224 _ a b fun k => by rw [hl k]; exact hX r k).trans ?_
    simp only [hl]; rfl
  · refine band_eq _ inb_S256x3584_S32x3584_192_0 _ fun a b r h => ?_
    have hl := fun k => load_row arg1 harg1 x0 A inb_S256x3584_S32x3584_192_0 a r h k h0
    refine (code_192 _ a b fun k => by rw [hl k]; exact hX r k).trans ?_
    simp only [hl]; rfl
  · refine band_eq _ inb_S256x3584_S32x3584_160_0 _ fun a b r h => ?_
    have hl := fun k => load_row arg1 harg1 x0 A inb_S256x3584_S32x3584_160_0 a r h k h0
    refine (code_160 _ a b fun k => by rw [hl k]; exact hX r k).trans ?_
    simp only [hl]; rfl
  · refine band_eq _ inb_S256x3584_S32x3584_128_0 _ fun a b r h => ?_
    have hl := fun k => load_row arg1 harg1 x0 A inb_S256x3584_S32x3584_128_0 a r h k h0
    refine (code_128 _ a b fun k => by rw [hl k]; exact hX r k).trans ?_
    simp only [hl]; rfl
  · refine band_eq _ inb_S256x3584_S32x3584_96_0 _ fun a b r h => ?_
    have hl := fun k => load_row arg1 harg1 x0 A inb_S256x3584_S32x3584_96_0 a r h k h0
    refine (code_96 _ a b fun k => by rw [hl k]; exact hX r k).trans ?_
    simp only [hl]; rfl
  · refine band_eq _ inb_S256x3584_S32x3584_64_0 _ fun a b r h => ?_
    have hl := fun k => load_row arg1 harg1 x0 A inb_S256x3584_S32x3584_64_0 a r h k h0
    refine (code_64 _ a b fun k => by rw [hl k]; exact hX r k).trans ?_
    simp only [hl]; rfl
  · refine band_eq _ inb_S256x3584_S32x3584_32_0 _ fun a b r h => ?_
    have hl := fun k => load_row arg1 harg1 x0 A inb_S256x3584_S32x3584_32_0 a r h k h0
    refine (code_32 _ a b fun k => by rw [hl k]; exact hX r k).trans ?_
    simp only [hl]; rfl
  · refine band_eq _ inb_S256x3584_S32x3584_0_0 _ fun a b r h => ?_
    have hl := fun k => load_row arg1 harg1 x0 A inb_S256x3584_S32x3584_0_0 a r h k h0
    refine (code_0 _ a b fun k => by rw [hl k]; exact hX r k).trans ?_
    simp only [hl]; rfl

/-- The mantissas, read back. -/
theorem first_mants_read (r : Fin 256) (l : Fin 128) : runA.sl.v876 (F := Ideal) c arg1 harg1 arg14 x0 (ix2 r l) = BitVec.ofNat 32 (mant (xmax A.X r)) :=
  (read_written _ A.mants (first_mants c arg1 harg1 arg14 x0 A hX h0) 0 0 inb_S256x128_S256x128_0_0 r l r l (Nat.zero_add _) (Nat.zero_add _)).trans rfl

/-- The exponents, read back. -/
theorem first_expos_read (r : Fin 256) (l : Fin 128) : runA.sl.v893 (F := Ideal) c arg1 harg1 arg15 x0 (ix2 r l) = expo (xmax A.X r) :=
  (read_written _ A.expos (first_expos c arg1 harg1 arg15 x0 A hX h0) 0 0 inb_S256x128_S256x128_0_0 r l r l (Nat.zero_add _) (Nat.zero_add _)).trans rfl

/-- The mantissas returned. -/
theorem first_mrow (f : arg10.view.ty.Contents (Elt Ideal)) : arg10.view.read (Elt Ideal) (arg10.view.writes (Elt Ideal) f (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 hs).2.1) = A.mrow := by
  refine (read_whole arg10.view f _ _ []).trans (eq_mk2 fun z r => ?_)
  obtain rfl : z = 0 := Subsingleton.elim _ _
  exact mantissa_row _ (fun r => BitVec.ofNat 32 (mant (xmax A.X r))) (first_mants_read c arg1 harg1 arg14 x0 A hX h0) r

/-- The exponents returned. -/
theorem first_erow (f : arg11.view.ty.Contents (Elt Ideal)) : arg11.view.read (Elt Ideal) (arg11.view.writes (Elt Ideal) f (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 hs).2.2.1) = A.erow := by
  refine (read_whole arg11.view f _ _ []).trans (eq_mk2 fun z r => ?_)
  obtain rfl : z = 0 := Subsingleton.elim _ _
  exact exponent_row _ (fun r => expo (xmax A.X r)) (first_expos_read c arg1 harg1 arg15 x0 A hX h0) r

variable (n : Fin 37) (hz : n.1 = 0) (hn : (i 0).val = n.1) (hb : Blocks A n x1 x2 x3 x4)

include hn hb hz in
/-- The first block stored. -/
theorem first_placed :
    A.Placed (n.1 + 1) (arg13.view.read (Elt Ideal) (arg13.view.writes (Elt Ideal) (harg13.unread hs) (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 hs).2.2.2.2.1)) := by
  refine placed_succ A n i hn harg13 hs (fun j hj => absurd hj (by omega)) _ fun r b => ?_
  exact block_stored A n _ _ _ _ _ _ _ _ _ _ _ _ _ _ _ _ _ _ _ _ _ rfl
    (fun r => first_mants_read c arg1 harg1 arg14 x0 A hX h0 r 0) (fun r => first_expos_read c arg1 harg1 arg15 x0 A hX h0 r 0)
    (fun r x k h => (read_written _ A.codes (first_codes c arg1 harg1 arg12 x0 A hX h0) _ _ _ _ _ _ _ (Nat.zero_add _) h).trans rfl) (fun r x k h => (read_written _ A.codes (first_codes c arg1 harg1 arg12 x0 A hX h0) _ _ _ _ _ _ _ (Nat.zero_add _) h).trans rfl) (fun r x k h => (read_written _ A.codes (first_codes c arg1 harg1 arg12 x0 A hX h0) _ _ _ _ _ _ _ (Nat.zero_add _) h).trans rfl) (fun r x k h => (read_written _ A.codes (first_codes c arg1 harg1 arg12 x0 A hX h0) _ _ _ _ _ _ _ (Nat.zero_add _) h).trans rfl)
    (fun r x k h => (read_written _ A.codes (first_codes c arg1 harg1 arg12 x0 A hX h0) _ _ _ _ _ _ _ (Nat.zero_add _) h).trans rfl) (fun r x k h => (read_written _ A.codes (first_codes c arg1 harg1 arg12 x0 A hX h0) _ _ _ _ _ _ _ (Nat.zero_add _) h).trans rfl) (fun r x k h => (read_written _ A.codes (first_codes c arg1 harg1 arg12 x0 A hX h0) _ _ _ _ _ _ _ (Nat.zero_add _) h).trans rfl) (fun r x k h => (read_written _ A.codes (first_codes c arg1 harg1 arg12 x0 A hX h0) _ _ _ _ _ _ _ (Nat.zero_add _) h).trans rfl)
    (fun x b k h => (read_held harg2 _ _ _ _ _ _ _ _ h (Nat.zero_add _)).trans (hb.gate _ _)) (fun x b k h => (read_held harg2 _ _ _ _ _ _ _ _ h (Nat.zero_add _)).trans (hb.gate _ _)) (fun x b k h => (read_held harg2 _ _ _ _ _ _ _ _ h (Nat.zero_add _)).trans (hb.gate _ _)) (fun x b k h => (read_held harg2 _ _ _ _ _ _ _ _ h (Nat.zero_add _)).trans (hb.gate _ _))
    (fun x b k h => (read_held harg3 _ _ _ _ _ _ _ _ h (Nat.zero_add _)).trans (hb.up _ _)) (fun x b k h => (read_held harg3 _ _ _ _ _ _ _ _ h (Nat.zero_add _)).trans (hb.up _ _)) (fun x b k h => (read_held harg3 _ _ _ _ _ _ _ _ h (Nat.zero_add _)).trans (hb.up _ _)) (fun x b k h => (read_held harg3 _ _ _ _ _ _ _ _ h (Nat.zero_add _)).trans (hb.up _ _))
    (fun b => (read_held harg4 _ _ _ _ _ _ _ _ rfl (Nat.zero_add _)).trans (hb.gexp _)) (fun b => (read_held harg5 _ _ _ _ _ _ _ _ rfl (Nat.zero_add _)).trans (hb.uexp _)) r b

omit hX h0 in
/-- The lane maxima start at zero. -/
theorem zero_lanes (r : Fin 256) (l : Fin 128) : runA.sl.v145 (F := Ideal) c arg16 (ix2 r l) = ((A.lane 0 r l : ℝ) : EReal) := by
  refine (read_written (Val := Elt Ideal) (m := arg16) _ (k0_pay152 (F := Ideal) (k0_pay98 (F := Ideal))) (fun f => read_whole arg16.view f _ _ []) 0 0 inb_S256x128_S256x128_0_0 r l r l (Nat.zero_add _) (Nat.zero_add _)).trans ?_
  pointwise [k0_pay152, k0_pay98]
  simp [Inputs.lane, Ideal.ofBits, Ideal.ieee]

include hb hz in
/-- The lane maxima of the first block. -/
theorem first_lanes (f : arg16.view.ty.Contents (Elt Ideal)) :
    arg16.view.read (Elt Ideal) (arg16.view.writes (Elt Ideal) f (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 hs).2.2.2.2.2.2.2.1) = A.lanes (n.1 + 1) := by
  refine (read_whole arg16.view f _ _ _).trans (eq_mk2 fun r l => ?_)
  exact block_lanes A n _ _ _ _ _ _ _ _ _ _ _ _ _ _ _ _ _ _ _ _ _ rfl
    (fun r => first_mants_read c arg1 harg1 arg14 x0 A hX h0 r 0) (fun r => first_expos_read c arg1 harg1 arg15 x0 A hX h0 r 0)
    (fun r x k h => (read_written _ A.codes (first_codes c arg1 harg1 arg12 x0 A hX h0) _ _ _ _ _ _ _ (Nat.zero_add _) h).trans rfl) (fun r x k h => (read_written _ A.codes (first_codes c arg1 harg1 arg12 x0 A hX h0) _ _ _ _ _ _ _ (Nat.zero_add _) h).trans rfl) (fun r x k h => (read_written _ A.codes (first_codes c arg1 harg1 arg12 x0 A hX h0) _ _ _ _ _ _ _ (Nat.zero_add _) h).trans rfl) (fun r x k h => (read_written _ A.codes (first_codes c arg1 harg1 arg12 x0 A hX h0) _ _ _ _ _ _ _ (Nat.zero_add _) h).trans rfl)
    (fun r x k h => (read_written _ A.codes (first_codes c arg1 harg1 arg12 x0 A hX h0) _ _ _ _ _ _ _ (Nat.zero_add _) h).trans rfl) (fun r x k h => (read_written _ A.codes (first_codes c arg1 harg1 arg12 x0 A hX h0) _ _ _ _ _ _ _ (Nat.zero_add _) h).trans rfl) (fun r x k h => (read_written _ A.codes (first_codes c arg1 harg1 arg12 x0 A hX h0) _ _ _ _ _ _ _ (Nat.zero_add _) h).trans rfl) (fun r x k h => (read_written _ A.codes (first_codes c arg1 harg1 arg12 x0 A hX h0) _ _ _ _ _ _ _ (Nat.zero_add _) h).trans rfl)
    (fun x b k h => (read_held harg2 _ _ _ _ _ _ _ _ h (Nat.zero_add _)).trans (hb.gate _ _)) (fun x b k h => (read_held harg2 _ _ _ _ _ _ _ _ h (Nat.zero_add _)).trans (hb.gate _ _)) (fun x b k h => (read_held harg2 _ _ _ _ _ _ _ _ h (Nat.zero_add _)).trans (hb.gate _ _)) (fun x b k h => (read_held harg2 _ _ _ _ _ _ _ _ h (Nat.zero_add _)).trans (hb.gate _ _))
    (fun x b k h => (read_held harg3 _ _ _ _ _ _ _ _ h (Nat.zero_add _)).trans (hb.up _ _)) (fun x b k h => (read_held harg3 _ _ _ _ _ _ _ _ h (Nat.zero_add _)).trans (hb.up _ _)) (fun x b k h => (read_held harg3 _ _ _ _ _ _ _ _ h (Nat.zero_add _)).trans (hb.up _ _)) (fun x b k h => (read_held harg3 _ _ _ _ _ _ _ _ h (Nat.zero_add _)).trans (hb.up _ _))
    (fun b => (read_held harg4 _ _ _ _ _ _ _ _ rfl (Nat.zero_add _)).trans (hb.gexp _)) (fun b => (read_held harg5 _ _ _ _ _ _ _ _ rfl (Nat.zero_add _)).trans (hb.uexp _))
    _ (fun r l => by rw [hz]; exact zero_lanes c arg16 A r l) r l

include hc0 hc1 hn hb hz in
/-- The first point quantises the activations, stores its block and starts the lane maxima. -/
theorem first (E : Set ℕ) (K : PUnit → sProp 𝕄) :
    iprop(owns (c : Thread nD τ) arg1 fullShare x0
      ∗ owns (c : Thread nD τ) arg2 fullShare x1
      ∗ owns (c : Thread nD τ) arg3 fullShare x2
      ∗ owns (c : Thread nD τ) arg4 fullShare x3
      ∗ owns (c : Thread nD τ) arg5 fullShare x4
      ∗ (∃ d, owns (c : Thread nD τ) arg9 fullShare d)
      ∗ (∃ d, owns (c : Thread nD τ) arg10 fullShare d)
      ∗ (∃ d, owns (c : Thread nD τ) arg11 fullShare d)
      ∗ (∃ d, owns (c : Thread nD τ) arg12 fullShare d)
      ∗ owns (c : Thread nD τ) arg13 fullShare hs
      ∗ (∃ d, owns (c : Thread nD τ) arg14 fullShare d)
      ∗ (∃ d, owns (c : Thread nD τ) arg15 fullShare d)
      ∗ (∃ d, owns (c : Thread nD τ) arg16 fullShare d)
      ∗ (iprop(owns (c : Thread nD τ) arg1 fullShare x0
      ∗ owns (c : Thread nD τ) arg2 fullShare x1
      ∗ owns (c : Thread nD τ) arg3 fullShare x2
      ∗ owns (c : Thread nD τ) arg4 fullShare x3
      ∗ owns (c : Thread nD τ) arg5 fullShare x4
      ∗ owns (c : Thread nD τ) arg9 fullShare A.xout
      ∗ owns (c : Thread nD τ) arg10 fullShare A.mrow
      ∗ owns (c : Thread nD τ) arg11 fullShare A.erow
      ∗ owns (c : Thread nD τ) arg12 fullShare A.codes
      ∗ (∃ h, ⌜A.Placed (n.1 + 1) h⌝ ∗ owns (c : Thread nD τ) arg13 fullShare h)
      ∗ owns (c : Thread nD τ) arg14 fullShare A.mants
      ∗ owns (c : Thread nD τ) arg15 fullShare A.expos
      ∗ owns (c : Thread nD τ) arg16 fullShare (A.lanes (n.1 + 1))) -∗ K ⟨⟩))
      ⊢ wp frame (wpE (defs₀ (F := Ideal)) Variants.none c none) E (cc0_int_swiglu i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  iintro ⟨H0, H1, H2, H3, H4, H8, H9, H10, HS0, HS1, HS2, HS3, HS4, Hk⟩
  iapply ((runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 hs).2.2.2.2.2.2.2.2 E K)
  isplitl [H0]; · iexact H0
  isplitl [H1]; · iexact H1
  isplitl [H2]; · iexact H2
  isplitl [H3]; · iexact H3
  isplitl [H4]; · iexact H4
  isplitl [H8]; · iexact H8
  isplitl [H9]; · iexact H9
  isplitl [H10]; · iexact H10
  isplitl [HS0]; · iexact HS0
  isplitl [HS1]; · iexact HS1
  isplitl [HS2]; · iexact HS2
  isplitl [HS3]; · iexact HS3
  isplitl [HS4]; · iexact HS4
  iintro ⟨H0, H1, H2, H3, H4, ⟨%f8, H8⟩, ⟨%f9, H9⟩, ⟨%f10, H10⟩, ⟨%g0, HS0⟩, HS1, ⟨%g2, HS2⟩, ⟨%g3, HS3⟩, ⟨%f, HS4⟩⟩
  iapply Hk
  isplitl [H0]; · iexact H0
  isplitl [H1]; · iexact H1
  isplitl [H2]; · iexact H2
  isplitl [H3]; · iexact H3
  isplitl [H4]; · iexact H4
  isplitl [H8]
  · unfold owns; iexists _; isplitr; · ipureintro; exact first_xout c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 hs A hX h0 f8
    iexact H8
  isplitl [H9]
  · unfold owns; iexists _; isplitr; · ipureintro; exact first_mrow c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 hs A hX h0 f9
    iexact H9
  isplitl [H10]
  · unfold owns; iexists _; isplitr; · ipureintro; exact first_erow c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 hs A hX h0 f10
    iexact H10
  isplitl [HS0]
  · unfold owns; iexists _; isplitr; · ipureintro; exact first_codes c arg1 harg1 arg12 x0 A hX h0 g0
    iexact HS0
  isplitl [HS1]
  · iexists (arg13.view.read (Elt Ideal) (arg13.view.writes (Elt Ideal) (harg13.unread hs) (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 hs).2.2.2.2.1))
    isplitr; · ipureintro; exact first_placed c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 hs A hX h0 n hz hn hb
    unfold owns; iexists _; isplitr; · ipureintro; rfl
    iexact HS1
  isplitl [HS2]
  · unfold owns; iexists _; isplitr; · ipureintro; exact first_mants c arg1 harg1 arg14 x0 A hX h0 g2
    iexact HS2
  isplitl [HS3]
  · unfold owns; iexists _; isplitr; · ipureintro; exact first_expos c arg1 harg1 arg15 x0 A hX h0 g3
    iexact HS3
  unfold owns; iexists _; isplitr; · ipureintro; exact first_lanes c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 hs A hX h0 n hz hb f
  iexact HS4

end

end Cert.KernelIdeal.Val

end
-- ==== Proof.RequantBlocks.lean ====
/- The kernel's final requantisation, at an element of each of the 37 blocks of 512 columns it stores. -/
module

public import proofs.«01_k».proof.Proof.RunC
public import proofs.«01_k».proof.Proof.Requant
public import Idealize.ShloMosaic.Lib.Pointwise

@[expose] public section

set_option maxRecDepth 16384

noncomputable section

namespace Cert.KernelIdeal.Val

open Idealize.ShloMosaic Idealize.SL.Sem Cert.KernelIdeal.Gen Cert.Swiglu

section

variable (v : Vec Ideal S1x256x512 .f32) (a : Fin 256) (b : Fin 512) {A : ℕ} {h : ℤ} (h1 : 1 ≤ A) (hA : A < 2 ^ 18)
  (hh : h.natAbs ≤ A) (hv : v (ix3 0 a b) = ((h : ℝ) : EReal))
include h1 hA hh hv

theorem requant_0 (p q : FVec Ideal S256x128 .f32) (hs : k0_pay107 (F := Ideal) p q (ix2 a 0) = kernelScale (BitVec.ofNat 32 (A.log2 + 1)) (BitVec.ofNat 32 (mant A))) :
    k0_pay108 (F := Ideal) p q v (ix2 a b) = BitVec.ofInt 8 (code A h) := by
  revert hs
  pointwise [k0_pay108, k0_pay107]
  intro hs
  rw [hs, hv]
  exact kernelRequant_eq h1 hA hh

theorem requant_1 (p q : FVec Ideal S256x128 .f32) (hs : k0_pay107 (F := Ideal) p q (ix2 a 0) = kernelScale (BitVec.ofNat 32 (A.log2 + 1)) (BitVec.ofNat 32 (mant A))) :
    k0_pay109 (F := Ideal) p q v (ix2 a b) = BitVec.ofInt 8 (code A h) := by
  revert hs
  pointwise [k0_pay109, k0_pay107]
  intro hs
  rw [hs, hv]
  exact kernelRequant_eq h1 hA hh

theorem requant_2 (p q : FVec Ideal S256x128 .f32) (hs : k0_pay107 (F := Ideal) p q (ix2 a 0) = kernelScale (BitVec.ofNat 32 (A.log2 + 1)) (BitVec.ofNat 32 (mant A))) :
    (k0_pay110 (F := Ideal) p q v) (ix2 a b) = BitVec.ofInt 8 (code A h) := by
  revert hs
  pointwise [k0_pay110, k0_pay107]
  intro hs
  rw [hs, hv]
  exact kernelRequant_eq h1 hA hh

theorem requant_3 (s : FVec Ideal S256x1 .f32) (hs : s (ix2 a 0) = kernelScale (BitVec.ofNat 32 (A.log2 + 1)) (BitVec.ofNat 32 (mant A))) :
    k0_pay111 (F := Ideal) s v (ix2 a b) = BitVec.ofInt 8 (code A h) := by
  pointwise [k0_pay111]
  rw [hs, hv]
  exact kernelRequant_eq h1 hA hh

theorem requant_4 (s : FVec Ideal S256x1 .f32) (hs : s (ix2 a 0) = kernelScale (BitVec.ofNat 32 (A.log2 + 1)) (BitVec.ofNat 32 (mant A))) :
    k0_pay112 (F := Ideal) s v (ix2 a b) = BitVec.ofInt 8 (code A h) := by
  pointwise [k0_pay112]
  rw [hs, hv]
  exact kernelRequant_eq h1 hA hh

theorem requant_5 (s : FVec Ideal S256x1 .f32) (hs : s (ix2 a 0) = kernelScale (BitVec.ofNat 32 (A.log2 + 1)) (BitVec.ofNat 32 (mant A))) :
    k0_pay113 (F := Ideal) s v (ix2 a b) = BitVec.ofInt 8 (code A h) := by
  pointwise [k0_pay113]
  rw [hs, hv]
  exact kernelRequant_eq h1 hA hh

theorem requant_6 (s : FVec Ideal S256x1 .f32) (hs : s (ix2 a 0) = kernelScale (BitVec.ofNat 32 (A.log2 + 1)) (BitVec.ofNat 32 (mant A))) :
    k0_pay114 (F := Ideal) s v (ix2 a b) = BitVec.ofInt 8 (code A h) := by
  pointwise [k0_pay114]
  rw [hs, hv]
  exact kernelRequant_eq h1 hA hh

theorem requant_7 (s : FVec Ideal S256x1 .f32) (hs : s (ix2 a 0) = kernelScale (BitVec.ofNat 32 (A.log2 + 1)) (BitVec.ofNat 32 (mant A))) :
    k0_pay115 (F := Ideal) s v (ix2 a b) = BitVec.ofInt 8 (code A h) := by
  pointwise [k0_pay115]
  rw [hs, hv]
  exact kernelRequant_eq h1 hA hh

theorem requant_8 (s : FVec Ideal S256x1 .f32) (hs : s (ix2 a 0) = kernelScale (BitVec.ofNat 32 (A.log2 + 1)) (BitVec.ofNat 32 (mant A))) :
    k0_pay116 (F := Ideal) s v (ix2 a b) = BitVec.ofInt 8 (code A h) := by
  pointwise [k0_pay116]
  rw [hs, hv]
  exact kernelRequant_eq h1 hA hh

theorem requant_9 (s : FVec Ideal S256x1 .f32) (hs : s (ix2 a 0) = kernelScale (BitVec.ofNat 32 (A.log2 + 1)) (BitVec.ofNat 32 (mant A))) :
    k0_pay117 (F := Ideal) s v (ix2 a b) = BitVec.ofInt 8 (code A h) := by
  pointwise [k0_pay117]
  rw [hs, hv]
  exact kernelRequant_eq h1 hA hh

theorem requant_10 (s : FVec Ideal S256x1 .f32) (hs : s (ix2 a 0) = kernelScale (BitVec.ofNat 32 (A.log2 + 1)) (BitVec.ofNat 32 (mant A))) :
    k0_pay118 (F := Ideal) s v (ix2 a b) = BitVec.ofInt 8 (code A h) := by
  pointwise [k0_pay118]
  rw [hs, hv]
  exact kernelRequant_eq h1 hA hh

theorem requant_11 (s : FVec Ideal S256x1 .f32) (hs : s (ix2 a 0) = kernelScale (BitVec.ofNat 32 (A.log2 + 1)) (BitVec.ofNat 32 (mant A))) :
    k0_pay119 (F := Ideal) s v (ix2 a b) = BitVec.ofInt 8 (code A h) := by
  pointwise [k0_pay119]
  rw [hs, hv]
  exact kernelRequant_eq h1 hA hh

theorem requant_12 (s : FVec Ideal S256x1 .f32) (hs : s (ix2 a 0) = kernelScale (BitVec.ofNat 32 (A.log2 + 1)) (BitVec.ofNat 32 (mant A))) :
    k0_pay121 (F := Ideal) ((k0_pay120 (F := Ideal) s v)) (ix2 a b) = BitVec.ofInt 8 (code A h) := by
  pointwise [k0_pay121, k0_pay120]
  rw [hs, hv]
  exact kernelRequant_eq h1 hA hh

theorem requant_13 (s : FVec Ideal S256x1 .f32) (hs : s (ix2 a 0) = kernelScale (BitVec.ofNat 32 (A.log2 + 1)) (BitVec.ofNat 32 (mant A))) :
    k0_pay122 (F := Ideal) s v (ix2 a b) = BitVec.ofInt 8 (code A h) := by
  pointwise [k0_pay122]
  rw [hs, hv]
  exact kernelRequant_eq h1 hA hh

theorem requant_14 (s : FVec Ideal S256x1 .f32) (hs : s (ix2 a 0) = kernelScale (BitVec.ofNat 32 (A.log2 + 1)) (BitVec.ofNat 32 (mant A))) :
    k0_pay123 (F := Ideal) s v (ix2 a b) = BitVec.ofInt 8 (code A h) := by
  pointwise [k0_pay123]
  rw [hs, hv]
  exact kernelRequant_eq h1 hA hh

theorem requant_15 (s : FVec Ideal S256x1 .f32) (hs : s (ix2 a 0) = kernelScale (BitVec.ofNat 32 (A.log2 + 1)) (BitVec.ofNat 32 (mant A))) :
    k0_pay126 (F := Ideal) ((k0_pay124 (F := Ideal) s v)) (FloatOps.ofBits FTy.f32 1123942400#32) (k0_pay125 (F := Ideal)) (ix2 a b) = BitVec.ofInt 8 (code A h) := by
  pointwise [k0_pay126, k0_pay124, k0_pay125]
  rw [hs, hv]
  exact kernelRequant_eq h1 hA hh

theorem requant_16 (s : FVec Ideal S256x1 .f32) (hs : s (ix2 a 0) = kernelScale (BitVec.ofNat 32 (A.log2 + 1)) (BitVec.ofNat 32 (mant A))) :
    k0_pay127 (F := Ideal) s v (ix2 a b) = BitVec.ofInt 8 (code A h) := by
  pointwise [k0_pay127]
  rw [hs, hv]
  exact kernelRequant_eq h1 hA hh

theorem requant_17 (s : FVec Ideal S256x1 .f32) (hs : s (ix2 a 0) = kernelScale (BitVec.ofNat 32 (A.log2 + 1)) (BitVec.ofNat 32 (mant A))) :
    k0_pay128 (F := Ideal) s v (ix2 a b) = BitVec.ofInt 8 (code A h) := by
  pointwise [k0_pay128]
  rw [hs, hv]
  exact kernelRequant_eq h1 hA hh

theorem requant_18 (s : FVec Ideal S256x1 .f32) (hs : s (ix2 a 0) = kernelScale (BitVec.ofNat 32 (A.log2 + 1)) (BitVec.ofNat 32 (mant A))) :
    k0_pay130 (F := Ideal) ((k0_pay129 (F := Ideal) s v)) (ix2 a b) = BitVec.ofInt 8 (code A h) := by
  pointwise [k0_pay130, k0_pay129]
  rw [hs, hv]
  exact kernelRequant_eq h1 hA hh

theorem requant_19 (s : FVec Ideal S256x1 .f32) (hs : s (ix2 a 0) = kernelScale (BitVec.ofNat 32 (A.log2 + 1)) (BitVec.ofNat 32 (mant A))) :
    k0_pay131 (F := Ideal) s v (ix2 a b) = BitVec.ofInt 8 (code A h) := by
  pointwise [k0_pay131]
  rw [hs, hv]
  exact kernelRequant_eq h1 hA hh

theorem requant_20 (s : FVec Ideal S256x1 .f32) (hs : s (ix2 a 0) = kernelScale (BitVec.ofNat 32 (A.log2 + 1)) (BitVec.ofNat 32 (mant A))) :
    k0_pay132 (F := Ideal) s v (ix2 a b) = BitVec.ofInt 8 (code A h) := by
  pointwise [k0_pay132]
  rw [hs, hv]
  exact kernelRequant_eq h1 hA hh

theorem requant_21 (s : FVec Ideal S256x1 .f32) (hs : s (ix2 a 0) = kernelScale (BitVec.ofNat 32 (A.log2 + 1)) (BitVec.ofNat 32 (mant A))) :
    (k0_pay133 (F := Ideal) s v) (ix2 a b) = BitVec.ofInt 8 (code A h) := by
  pointwise [k0_pay133]
  rw [hs, hv]
  exact kernelRequant_eq h1 hA hh

theorem requant_22 (s : FVec Ideal S256x1 .f32) (hs : s (ix2 a 0) = kernelScale (BitVec.ofNat 32 (A.log2 + 1)) (BitVec.ofNat 32 (mant A))) :
    k0_pay134 (F := Ideal) s v (ix2 a b) = BitVec.ofInt 8 (code A h) := by
  pointwise [k0_pay134]
  rw [hs, hv]
  exact kernelRequant_eq h1 hA hh

theorem requant_23 (s : FVec Ideal S256x1 .f32) (hs : s (ix2 a 0) = kernelScale (BitVec.ofNat 32 (A.log2 + 1)) (BitVec.ofNat 32 (mant A))) :
    k0_pay135 (F := Ideal) s v (ix2 a b) = BitVec.ofInt 8 (code A h) := by
  pointwise [k0_pay135]
  rw [hs, hv]
  exact kernelRequant_eq h1 hA hh

theorem requant_24 (s : FVec Ideal S256x1 .f32) (hs : s (ix2 a 0) = kernelScale (BitVec.ofNat 32 (A.log2 + 1)) (BitVec.ofNat 32 (mant A))) :
    k0_pay136 (F := Ideal) s v (ix2 a b) = BitVec.ofInt 8 (code A h) := by
  pointwise [k0_pay136]
  rw [hs, hv]
  exact kernelRequant_eq h1 hA hh

theorem requant_25 (s : FVec Ideal S256x1 .f32) (hs : s (ix2 a 0) = kernelScale (BitVec.ofNat 32 (A.log2 + 1)) (BitVec.ofNat 32 (mant A))) :
    k0_pay137 (F := Ideal) s v (ix2 a b) = BitVec.ofInt 8 (code A h) := by
  pointwise [k0_pay137]
  rw [hs, hv]
  exact kernelRequant_eq h1 hA hh

theorem requant_26 (s : FVec Ideal S256x1 .f32) (hs : s (ix2 a 0) = kernelScale (BitVec.ofNat 32 (A.log2 + 1)) (BitVec.ofNat 32 (mant A))) :
    k0_pay138 (F := Ideal) s v (ix2 a b) = BitVec.ofInt 8 (code A h) := by
  pointwise [k0_pay138]
  rw [hs, hv]
  exact kernelRequant_eq h1 hA hh

theorem requant_27 (s : FVec Ideal S256x1 .f32) (hs : s (ix2 a 0) = kernelScale (BitVec.ofNat 32 (A.log2 + 1)) (BitVec.ofNat 32 (mant A))) :
    k0_pay139 (F := Ideal) s v (ix2 a b) = BitVec.ofInt 8 (code A h) := by
  pointwise [k0_pay139]
  rw [hs, hv]
  exact kernelRequant_eq h1 hA hh

theorem requant_28 (s : FVec Ideal S256x1 .f32) (hs : s (ix2 a 0) = kernelScale (BitVec.ofNat 32 (A.log2 + 1)) (BitVec.ofNat 32 (mant A))) :
    k0_pay140 (F := Ideal) s v (ix2 a b) = BitVec.ofInt 8 (code A h) := by
  pointwise [k0_pay140]
  rw [hs, hv]
  exact kernelRequant_eq h1 hA hh

theorem requant_29 (s : FVec Ideal S256x1 .f32) (hs : s (ix2 a 0) = kernelScale (BitVec.ofNat 32 (A.log2 + 1)) (BitVec.ofNat 32 (mant A))) :
    k0_pay141 (F := Ideal) s v (ix2 a b) = BitVec.ofInt 8 (code A h) := by
  pointwise [k0_pay141]
  rw [hs, hv]
  exact kernelRequant_eq h1 hA hh

theorem requant_30 (s : FVec Ideal S256x1 .f32) (hs : s (ix2 a 0) = kernelScale (BitVec.ofNat 32 (A.log2 + 1)) (BitVec.ofNat 32 (mant A))) :
    k0_pay142 (F := Ideal) s v (ix2 a b) = BitVec.ofInt 8 (code A h) := by
  pointwise [k0_pay142]
  rw [hs, hv]
  exact kernelRequant_eq h1 hA hh

theorem requant_31 (s : FVec Ideal S256x1 .f32) (hs : s (ix2 a 0) = kernelScale (BitVec.ofNat 32 (A.log2 + 1)) (BitVec.ofNat 32 (mant A))) :
    k0_pay145 (F := Ideal) ((k0_pay143 (F := Ideal) v)) ((k0_pay144 (F := Ideal) s)) (ix2 a b) = BitVec.ofInt 8 (code A h) := by
  pointwise [k0_pay145, k0_pay143, k0_pay144]
  rw [hs, hv]
  exact kernelRequant_eq h1 hA hh

theorem requant_32 (s : FVec Ideal S256x1 .f32) (hs : s (ix2 a 0) = kernelScale (BitVec.ofNat 32 (A.log2 + 1)) (BitVec.ofNat 32 (mant A))) :
    k0_pay146 (F := Ideal) s v (ix2 a b) = BitVec.ofInt 8 (code A h) := by
  pointwise [k0_pay146]
  rw [hs, hv]
  exact kernelRequant_eq h1 hA hh

theorem requant_33 (s : FVec Ideal S256x1 .f32) (hs : s (ix2 a 0) = kernelScale (BitVec.ofNat 32 (A.log2 + 1)) (BitVec.ofNat 32 (mant A))) :
    k0_pay147 (F := Ideal) s v (ix2 a b) = BitVec.ofInt 8 (code A h) := by
  pointwise [k0_pay147]
  rw [hs, hv]
  exact kernelRequant_eq h1 hA hh

theorem requant_34 (s : FVec Ideal S256x1 .f32) (hs : s (ix2 a 0) = kernelScale (BitVec.ofNat 32 (A.log2 + 1)) (BitVec.ofNat 32 (mant A))) :
    k0_pay149 (F := Ideal) ((k0_pay148 (F := Ideal) s v)) (FloatOps.ofBits FTy.f32 3271426048#32) (FloatOps.ofBits FTy.f32 1123942400#32) (ix2 a b) = BitVec.ofInt 8 (code A h) := by
  pointwise [k0_pay149, k0_pay148]
  rw [hs, hv]
  exact kernelRequant_eq h1 hA hh

theorem requant_35 (s : FVec Ideal S256x1 .f32) (hs : s (ix2 a 0) = kernelScale (BitVec.ofNat 32 (A.log2 + 1)) (BitVec.ofNat 32 (mant A))) :
    k0_pay150 (F := Ideal) s v (ix2 a b) = BitVec.ofInt 8 (code A h) := by
  pointwise [k0_pay150]
  rw [hs, hv]
  exact kernelRequant_eq h1 hA hh

theorem requant_36 (s : FVec Ideal S256x1 .f32) (hs : s (ix2 a 0) = kernelScale (BitVec.ofNat 32 (A.log2 + 1)) (BitVec.ofNat 32 (mant A))) :
    (k0_pay151 (F := Ideal) s v) (ix2 a b) = BitVec.ofInt 8 (code A h) := by
  pointwise [k0_pay151]
  rw [hs, hv]
  exact kernelRequant_eq h1 hA hh

end

end Cert.KernelIdeal.Val

end
-- ==== Proof.Last.lean ====
/- The body at the last grid point, on the arrays it computes: the last block, then the codes, mantissas and exponents of the gated values. -/
module

public import proofs.«01_k».proof.Proof.First
public import proofs.«01_k».proof.Proof.RequantBlocks

@[expose] public section

set_option maxRecDepth 16384

noncomputable section

namespace Cert.KernelIdeal.Val

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen Cert.Swiglu

local notation "𝕄" => MT nD τ sig Unit (Elt Ideal) ℕ (UR sig nD τ) ℕ

/-- A piece of columns that agrees with a matrix. -/
theorem slab_eq {α : Type} (g : Fin 256 → Fin 18944 → α) (j : Fin 37) {o : ℕ} (ho : o = 512 * j.1)
    (inb : ∀ a, (![0, o] : Fin 2 → ℕ) a + (![256, 512] : Fin 2 → ℕ) a ≤ (![256, 18944] : Fin 2 → ℕ) a)
    (w : (⟨2, ![256, 512]⟩ : Shape).Idx → α) (h : ∀ (a : Fin 256) (b : Fin 512), w (ix2 a b) = g a (col j b))
    (x : (⟨2, ![256, 512]⟩ : Shape).Idx) :
    w x = mk2 g ((Rect.unit (s := ⟨2, ![256, 18944]⟩) ![0, o] ![256, 512] inb).emb x) := by
  obtain ⟨a, b, rfl⟩ : ∃ (a : Fin 256) (b : Fin 512), x = ix2 a b := ⟨x (0 : Fin 2), x (1 : Fin 2), (ix2_eta x).symm⟩
  refine (h a b).trans ?_
  show g _ _ = g _ _
  congr 1
  · exact Fin.ext (by show a.1 = 0 + 1 * a.1; omega)
  · exact Fin.ext (by show 512 * j.1 + b.1 = o + 1 * b.1; omega)

/-- A block of gated values read back. -/
theorem slab_read (A : Inputs) {m : Memref sig .tc .vmem S37x256x512 .f32} (f : m.view.ty.Contents (Elt Ideal)) (hp : A.Placed 37 (m.view.read (Elt Ideal) f))
    (j : Fin 37) {o : ℕ} (ho : o = j.1) (inb : ∀ a, (![o, 0, 0] : Fin 3 → ℕ) a + S1x256x512.size a ≤ S37x256x512.size a) (a : Fin 256) (b : Fin 512) :
    View.readAt (Elt Ideal) m.view (Rect.unit (s := S37x256x512) ![o, 0, 0] S1x256x512.size inb).toLoadRect f (ix3 0 a b) = ((A.hid a (col j b) : ℝ) : EReal) := by
  refine Eq.trans ?_ (hp j j.2 a b)
  show m.view.read (Elt Ideal) f _ = _
  congr 1
  funext d
  match d with
  | ⟨0, _⟩ => exact Fin.ext (by show o + 1 * 0 = j.1; omega)
  | ⟨1, _⟩ => exact Fin.ext (by show 0 + 1 * a.1 = a.1; omega)
  | ⟨2, _⟩ => exact Fin.ext (by show 0 + 1 * b.1 = b.1; omega)

/-- What the outputs of the gated values hold. -/
def Inputs.hout (A : Inputs) : Vec Ideal S256x18944 .i8 := mk2 fun r j => BitVec.ofInt 8 (code (A.top r) (A.hid r j))
def Inputs.hmrow (A : Inputs) : Vec Ideal S1x256 .i32 := mk2 fun _ r => BitVec.ofNat 32 (mant (A.top r))
def Inputs.herow (A : Inputs) : Vec Ideal S1x256 .i32 := mk2 fun _ r => expo (A.top r)

theorem Inputs.top_pos (A : Inputs) (r : Fin 256) : 1 ≤ A.top r := amax_pos _
theorem Inputs.top_lt (A : Inputs) (r : Fin 256) : A.top r < 2 ^ 18 := gmax_lt _ _ _ _ _ r
theorem Inputs.hid_le_top (A : Inputs) (r : Fin 256) (j : Fin 18944) : (A.hid r j).natAbs ≤ A.top r := natAbs_le_amax _ j

section

variable (c : Dev nD) (i : grid0.Coords) (arg1 : Memref sig .tc .vmem S256x3584 .i32) (harg1 : arg1.IsWhole) (arg2 : Memref sig .tc .vmem S3584x512 .i8) (harg2 : arg2.IsWhole) (arg3 : Memref sig .tc .vmem S3584x512 .i8) (harg3 : arg3.IsWhole) (arg4 : Memref sig .tc .vmem S1x512 .i32) (harg4 : arg4.IsWhole) (arg5 : Memref sig .tc .vmem S1x512 .i32) (harg5 : arg5.IsWhole) (arg6 : Memref sig .tc .vmem S256x18944 .i8) (harg6 : arg6.IsWhole) (arg7 : Memref sig .tc .vmem S1x256 .i32) (harg7 : arg7.IsWhole) (arg8 : Memref sig .tc .vmem S1x256 .i32) (harg8 : arg8.IsWhole) (arg9 : Memref sig .tc .vmem S256x3584 .i8) (harg9 : arg9.IsWhole) (arg10 : Memref sig .tc .vmem S1x256 .i32) (harg10 : arg10.IsWhole) (arg11 : Memref sig .tc .vmem S1x256 .i32) (harg11 : arg11.IsWhole) (arg12 : Memref sig .tc .vmem S256x3584 .bf16) (harg12 : arg12.IsWhole) (arg13 : Memref sig .tc .vmem S37x256x512 .f32) (harg13 : arg13.IsWhole) (arg14 : Memref sig .tc .vmem S256x128 .i32) (harg14 : arg14.IsWhole) (arg15 : Memref sig .tc .vmem S256x128 .i32) (harg15 : arg15.IsWhole) (arg16 : Memref sig .tc .vmem S256x128 .f32) (harg16 : arg16.IsWhole)
  (hc0 : ¬ cond0_0 i) (hc1 : cond0_1 i)
  (x0 : Vec Ideal S256x3584 .i32) (x1 x2 : Vec Ideal S3584x512 .i8) (x3 x4 : Vec Ideal S1x512 .i32) (hs : Vec Ideal S37x256x512 .f32)
  (A : Inputs) (n : Fin 37) (h36 : n.1 = 36) (hn : (i 0).val = n.1) (hb : Blocks A n x1 x2 x3 x4) (hp : A.Placed n.1 hs)

include h36 hn hb hp in
/-- All the blocks are in place. -/
theorem last_placed :
    A.Placed 37 (arg13.view.read (Elt Ideal) (arg13.view.writes (Elt Ideal) (harg13.unread hs) (runC c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 A.codes hs A.mants A.expos (A.lanes n.1)).2.2.2.1)) := by
  have h : A.Placed (n.1 + 1) (arg13.view.read (Elt Ideal) (arg13.view.writes (Elt Ideal) (harg13.unread hs) (runC c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 A.codes hs A.mants A.expos (A.lanes n.1)).2.2.2.1)) := by
    refine placed_succ A n i hn harg13 hs hp _ fun r b => ?_
    exact block_stored A n _ _ _ _ _ _ _ _ _ _ _ _ _ _ _ _ _ _ _ _ _ rfl
      (fun r => (read_held harg14 _ _ _ _ _ _ _ (0 : Fin 128) (Nat.zero_add _) rfl).trans rfl) (fun r => (read_held harg15 _ _ _ _ _ _ _ (0 : Fin 128) (Nat.zero_add _) rfl).trans rfl)
      (fun r x k h => (read_held harg12 _ _ _ _ _ _ _ _ (Nat.zero_add _) h).trans rfl) (fun r x k h => (read_held harg12 _ _ _ _ _ _ _ _ (Nat.zero_add _) h).trans rfl) (fun r x k h => (read_held harg12 _ _ _ _ _ _ _ _ (Nat.zero_add _) h).trans rfl) (fun r x k h => (read_held harg12 _ _ _ _ _ _ _ _ (Nat.zero_add _) h).trans rfl)
      (fun r x k h => (read_held harg12 _ _ _ _ _ _ _ _ (Nat.zero_add _) h).trans rfl) (fun r x k h => (read_held harg12 _ _ _ _ _ _ _ _ (Nat.zero_add _) h).trans rfl) (fun r x k h => (read_held harg12 _ _ _ _ _ _ _ _ (Nat.zero_add _) h).trans rfl) (fun r x k h => (read_held harg12 _ _ _ _ _ _ _ _ (Nat.zero_add _) h).trans rfl)
      (fun x b k h => (read_held harg2 _ _ _ _ _ _ _ _ h (Nat.zero_add _)).trans (hb.gate _ _)) (fun x b k h => (read_held harg2 _ _ _ _ _ _ _ _ h (Nat.zero_add _)).trans (hb.gate _ _)) (fun x b k h => (read_held harg2 _ _ _ _ _ _ _ _ h (Nat.zero_add _)).trans (hb.gate _ _)) (fun x b k h => (read_held harg2 _ _ _ _ _ _ _ _ h (Nat.zero_add _)).trans (hb.gate _ _))
      (fun x b k h => (read_held harg3 _ _ _ _ _ _ _ _ h (Nat.zero_add _)).trans (hb.up _ _)) (fun x b k h => (read_held harg3 _ _ _ _ _ _ _ _ h (Nat.zero_add _)).trans (hb.up _ _)) (fun x b k h => (read_held harg3 _ _ _ _ _ _ _ _ h (Nat.zero_add _)).trans (hb.up _ _)) (fun x b k h => (read_held harg3 _ _ _ _ _ _ _ _ h (Nat.zero_add _)).trans (hb.up _ _))
      (fun b => (read_held harg4 _ _ _ _ _ _ _ _ rfl (Nat.zero_add _)).trans (hb.gexp _)) (fun b => (read_held harg5 _ _ _ _ _ _ _ _ rfl (Nat.zero_add _)).trans (hb.uexp _)) r b
  have e : n.1 + 1 = 37 := by omega
  rw [e] at h
  exact h

include h36 hb in
/-- The lane maxima of all the blocks. -/
theorem last_lanes (f : arg16.view.ty.Contents (Elt Ideal)) :
    arg16.view.read (Elt Ideal) (arg16.view.writes (Elt Ideal) f (runC c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 A.codes hs A.mants A.expos (A.lanes n.1)).2.2.2.2.1) = A.lanes 37 := by
  have e : A.lanes (n.1 + 1) = A.lanes 37 := by rw [h36]
  refine Eq.trans ?_ e
  refine (read_whole arg16.view f _ _ _).trans (eq_mk2 fun r l => ?_)
  exact block_lanes A n _ _ _ _ _ _ _ _ _ _ _ _ _ _ _ _ _ _ _ _ _ rfl
      (fun r => (read_held harg14 _ _ _ _ _ _ _ (0 : Fin 128) (Nat.zero_add _) rfl).trans rfl) (fun r => (read_held harg15 _ _ _ _ _ _ _ (0 : Fin 128) (Nat.zero_add _) rfl).trans rfl)
      (fun r x k h => (read_held harg12 _ _ _ _ _ _ _ _ (Nat.zero_add _) h).trans rfl) (fun r x k h => (read_held harg12 _ _ _ _ _ _ _ _ (Nat.zero_add _) h).trans rfl) (fun r x k h => (read_held harg12 _ _ _ _ _ _ _ _ (Nat.zero_add _) h).trans rfl) (fun r x k h => (read_held harg12 _ _ _ _ _ _ _ _ (Nat.zero_add _) h).trans rfl)
      (fun r x k h => (read_held harg12 _ _ _ _ _ _ _ _ (Nat.zero_add _) h).trans rfl) (fun r x k h => (read_held harg12 _ _ _ _ _ _ _ _ (Nat.zero_add _) h).trans rfl) (fun r x k h => (read_held harg12 _ _ _ _ _ _ _ _ (Nat.zero_add _) h).trans rfl) (fun r x k h => (read_held harg12 _ _ _ _ _ _ _ _ (Nat.zero_add _) h).trans rfl)
      (fun x b k h => (read_held harg2 _ _ _ _ _ _ _ _ h (Nat.zero_add _)).trans (hb.gate _ _)) (fun x b k h => (read_held harg2 _ _ _ _ _ _ _ _ h (Nat.zero_add _)).trans (hb.gate _ _)) (fun x b k h => (read_held harg2 _ _ _ _ _ _ _ _ h (Nat.zero_add _)).trans (hb.gate _ _)) (fun x b k h => (read_held harg2 _ _ _ _ _ _ _ _ h (Nat.zero_add _)).trans (hb.gate _ _))
      (fun x b k h => (read_held harg3 _ _ _ _ _ _ _ _ h (Nat.zero_add _)).trans (hb.up _ _)) (fun x b k h => (read_held harg3 _ _ _ _ _ _ _ _ h (Nat.zero_add _)).trans (hb.up _ _)) (fun x b k h => (read_held harg3 _ _ _ _ _ _ _ _ h (Nat.zero_add _)).trans (hb.up _ _)) (fun x b k h => (read_held harg3 _ _ _ _ _ _ _ _ h (Nat.zero_add _)).trans (hb.up _ _))
      (fun b => (read_held harg4 _ _ _ _ _ _ _ _ rfl (Nat.zero_add _)).trans (hb.gexp _)) (fun b => (read_held harg5 _ _ _ _ _ _ _ _ rfl (Nat.zero_add _)).trans (hb.uexp _))
    _ (fun r l => (read_held harg16 _ _ _ _ _ _ _ _ (Nat.zero_add _) (Nat.zero_add _)).trans rfl) r l

include i harg1 harg6 harg7 harg8 harg9 harg10 harg11 harg13 hc0 hc1 x0 hs h36 hb in
/-- The lane maxima, read back. -/
theorem last_lanes_read (r : Fin 256) (l : Fin 128) : runC.sl.v164 (F := Ideal) c arg2 harg2 arg3 harg3 arg4 harg4 arg5 harg5 arg12 harg12 arg14 harg14 arg15 harg15 arg16 harg16 x1 x2 x3 x4 A.codes A.mants A.expos (A.lanes n.1) (ix2 r l) = ((A.lane 37 r l : ℝ) : EReal) :=
  (read_written _ (A.lanes 37) (last_lanes c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 hs A n h36 hb) 0 0 inb_S256x128_S256x128_0_0 r l r l (Nat.zero_add _) (Nat.zero_add _)).trans rfl

theorem lane_bound (r : Fin 256) : max 1 (Finset.univ.sup (A.lane 37 r)) < 2 ^ 23 := by
  rw [A.lane_sup]; exact (A.top_lt r).trans (by norm_num)

include i harg1 harg6 harg7 harg8 harg9 harg10 harg11 harg13 hc0 hc1 x0 hs h36 hb in
/-- The scale of a row of gated values. -/
theorem last_scale (r : Fin 256) : runC.sl.r_19 (F := Ideal) c arg2 harg2 arg3 harg3 arg4 harg4 arg5 harg5 arg12 harg12 arg14 harg14 arg15 harg15 arg16 harg16 x1 x2 x3 x4 A.codes A.mants A.expos (A.lanes n.1) (ix2 r 0)
    = kernelScale (BitVec.ofNat 32 ((A.top r).log2 + 1)) (BitVec.ofNat 32 (mant (A.top r))) := by
  have h := scale_value _ r (A.lane 37 r) (last_lanes_read c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 hs A n h36 hb r) (lane_bound A r)
  rw [A.lane_sup] at h
  exact h

include h36 hb in
/-- The mantissas returned. -/
theorem last_mrow (f : arg7.view.ty.Contents (Elt Ideal)) : arg7.view.read (Elt Ideal) (arg7.view.writes (Elt Ideal) f (runC c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 A.codes hs A.mants A.expos (A.lanes n.1)).2.1) = A.hmrow := by
  refine (read_whole arg7.view f _ _ []).trans (eq_mk2 fun z r => ?_)
  obtain rfl : z = 0 := Subsingleton.elim _ _
  refine hidden_mantissa_row _ (fun r => BitVec.ofNat 32 (mant (A.top r))) (fun r l => ?_) r
  have h := mantissa_value _ r (A.lane 37 r) (last_lanes_read c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 hs A n h36 hb r) (lane_bound A r) l
  rw [A.lane_sup] at h
  exact h

include h36 hb in
/-- The exponents returned. -/
theorem last_erow (f : arg8.view.ty.Contents (Elt Ideal)) : arg8.view.read (Elt Ideal) (arg8.view.writes (Elt Ideal) f (runC c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 A.codes hs A.mants A.expos (A.lanes n.1)).2.2.1) = A.herow := by
  refine (read_whole arg8.view f _ _ []).trans (eq_mk2 fun z r => ?_)
  obtain rfl : z = 0 := Subsingleton.elim _ _
  refine hidden_exponent_row _ (fun r => expo (A.top r)) (fun r l => ?_) r
  have h := length_value _ r (A.lane 37 r) (last_lanes_read c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 hs A n h36 hb r) (lane_bound A r) l
  rw [A.lane_sup] at h
  exact (congrArg (IntOp.subi 25#32) h).trans (kernel_expo (A.top_pos r) ((A.top_lt r).trans (by norm_num)))

include h36 hb hn hp in
/-- The codes returned. -/
theorem last_hout (f : arg6.view.ty.Contents (Elt Ideal)) : arg6.view.read (Elt Ideal) (arg6.view.writes (Elt Ideal) f (runC c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 A.codes hs A.mants A.expos (A.lanes n.1)).1) = A.hout := by
  have hq := last_placed c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 hs A n h36 hn hb hp
  have hsc := last_scale c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 hs A n h36 hb
  refine read_bands arg6.view f _ _ ?_ (View.cover_of_tiledL _ S256x512.size (by sl_kernel_rfl))
  refine List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_nil _⟩⟩⟩⟩⟩⟩⟩⟩⟩⟩⟩⟩⟩⟩⟩⟩⟩⟩⟩⟩⟩⟩⟩⟩⟩⟩⟩⟩⟩⟩⟩⟩⟩⟩⟩⟩⟩
  · exact slab_eq _ 36 rfl inb_S256x18944_S256x512_0_18432 _ fun a b => requant_36 _ a b (A.top_pos a) (A.top_lt a) (A.hid_le_top a _) (slab_read A _ hq 36 rfl _ a b) _ (hsc a)
  · exact slab_eq _ 35 rfl inb_S256x18944_S256x512_0_17920 _ fun a b => requant_35 _ a b (A.top_pos a) (A.top_lt a) (A.hid_le_top a _) (slab_read A _ hq 35 rfl _ a b) _ (hsc a)
  · exact slab_eq _ 34 rfl inb_S256x18944_S256x512_0_17408 _ fun a b => requant_34 _ a b (A.top_pos a) (A.top_lt a) (A.hid_le_top a _) (slab_read A _ hq 34 rfl _ a b) _ (hsc a)
  · exact slab_eq _ 33 rfl inb_S256x18944_S256x512_0_16896 _ fun a b => requant_33 _ a b (A.top_pos a) (A.top_lt a) (A.hid_le_top a _) (slab_read A _ hq 33 rfl _ a b) _ (hsc a)
  · exact slab_eq _ 32 rfl inb_S256x18944_S256x512_0_16384 _ fun a b => requant_32 _ a b (A.top_pos a) (A.top_lt a) (A.hid_le_top a _) (slab_read A _ hq 32 rfl _ a b) _ (hsc a)
  · exact slab_eq _ 31 rfl inb_S256x18944_S256x512_0_15872 _ fun a b => requant_31 _ a b (A.top_pos a) (A.top_lt a) (A.hid_le_top a _) (slab_read A _ hq 31 rfl _ a b) _ (hsc a)
  · exact slab_eq _ 30 rfl inb_S256x18944_S256x512_0_15360 _ fun a b => requant_30 _ a b (A.top_pos a) (A.top_lt a) (A.hid_le_top a _) (slab_read A _ hq 30 rfl _ a b) _ (hsc a)
  · exact slab_eq _ 29 rfl inb_S256x18944_S256x512_0_14848 _ fun a b => requant_29 _ a b (A.top_pos a) (A.top_lt a) (A.hid_le_top a _) (slab_read A _ hq 29 rfl _ a b) _ (hsc a)
  · exact slab_eq _ 28 rfl inb_S256x18944_S256x512_0_14336 _ fun a b => requant_28 _ a b (A.top_pos a) (A.top_lt a) (A.hid_le_top a _) (slab_read A _ hq 28 rfl _ a b) _ (hsc a)
  · exact slab_eq _ 27 rfl inb_S256x18944_S256x512_0_13824 _ fun a b => requant_27 _ a b (A.top_pos a) (A.top_lt a) (A.hid_le_top a _) (slab_read A _ hq 27 rfl _ a b) _ (hsc a)
  · exact slab_eq _ 26 rfl inb_S256x18944_S256x512_0_13312 _ fun a b => requant_26 _ a b (A.top_pos a) (A.top_lt a) (A.hid_le_top a _) (slab_read A _ hq 26 rfl _ a b) _ (hsc a)
  · exact slab_eq _ 25 rfl inb_S256x18944_S256x512_0_12800 _ fun a b => requant_25 _ a b (A.top_pos a) (A.top_lt a) (A.hid_le_top a _) (slab_read A _ hq 25 rfl _ a b) _ (hsc a)
  · exact slab_eq _ 24 rfl inb_S256x18944_S256x512_0_12288 _ fun a b => requant_24 _ a b (A.top_pos a) (A.top_lt a) (A.hid_le_top a _) (slab_read A _ hq 24 rfl _ a b) _ (hsc a)
  · exact slab_eq _ 23 rfl inb_S256x18944_S256x512_0_11776 _ fun a b => requant_23 _ a b (A.top_pos a) (A.top_lt a) (A.hid_le_top a _) (slab_read A _ hq 23 rfl _ a b) _ (hsc a)
  · exact slab_eq _ 22 rfl inb_S256x18944_S256x512_0_11264 _ fun a b => requant_22 _ a b (A.top_pos a) (A.top_lt a) (A.hid_le_top a _) (slab_read A _ hq 22 rfl _ a b) _ (hsc a)
  · exact slab_eq _ 21 rfl inb_S256x18944_S256x512_0_10752 _ fun a b => requant_21 _ a b (A.top_pos a) (A.top_lt a) (A.hid_le_top a _) (slab_read A _ hq 21 rfl _ a b) _ (hsc a)
  · exact slab_eq _ 20 rfl inb_S256x18944_S256x512_0_10240 _ fun a b => requant_20 _ a b (A.top_pos a) (A.top_lt a) (A.hid_le_top a _) (slab_read A _ hq 20 rfl _ a b) _ (hsc a)
  · exact slab_eq _ 19 rfl inb_S256x18944_S256x512_0_9728 _ fun a b => requant_19 _ a b (A.top_pos a) (A.top_lt a) (A.hid_le_top a _) (slab_read A _ hq 19 rfl _ a b) _ (hsc a)
  · exact slab_eq _ 18 rfl inb_S256x18944_S256x512_0_9216 _ fun a b => requant_18 _ a b (A.top_pos a) (A.top_lt a) (A.hid_le_top a _) (slab_read A _ hq 18 rfl _ a b) _ (hsc a)
  · exact slab_eq _ 17 rfl inb_S256x18944_S256x512_0_8704 _ fun a b => requant_17 _ a b (A.top_pos a) (A.top_lt a) (A.hid_le_top a _) (slab_read A _ hq 17 rfl _ a b) _ (hsc a)
  · exact slab_eq _ 16 rfl inb_S256x18944_S256x512_0_8192 _ fun a b => requant_16 _ a b (A.top_pos a) (A.top_lt a) (A.hid_le_top a _) (slab_read A _ hq 16 rfl _ a b) _ (hsc a)
  · exact slab_eq _ 15 rfl inb_S256x18944_S256x512_0_7680 _ fun a b => requant_15 _ a b (A.top_pos a) (A.top_lt a) (A.hid_le_top a _) (slab_read A _ hq 15 rfl _ a b) _ (hsc a)
  · exact slab_eq _ 14 rfl inb_S256x18944_S256x512_0_7168 _ fun a b => requant_14 _ a b (A.top_pos a) (A.top_lt a) (A.hid_le_top a _) (slab_read A _ hq 14 rfl _ a b) _ (hsc a)
  · exact slab_eq _ 13 rfl inb_S256x18944_S256x512_0_6656 _ fun a b => requant_13 _ a b (A.top_pos a) (A.top_lt a) (A.hid_le_top a _) (slab_read A _ hq 13 rfl _ a b) _ (hsc a)
  · exact slab_eq _ 12 rfl inb_S256x18944_S256x512_0_6144 _ fun a b => requant_12 _ a b (A.top_pos a) (A.top_lt a) (A.hid_le_top a _) (slab_read A _ hq 12 rfl _ a b) _ (hsc a)
  · exact slab_eq _ 11 rfl inb_S256x18944_S256x512_0_5632 _ fun a b => requant_11 _ a b (A.top_pos a) (A.top_lt a) (A.hid_le_top a _) (slab_read A _ hq 11 rfl _ a b) _ (hsc a)
  · exact slab_eq _ 10 rfl inb_S256x18944_S256x512_0_5120 _ fun a b => requant_10 _ a b (A.top_pos a) (A.top_lt a) (A.hid_le_top a _) (slab_read A _ hq 10 rfl _ a b) _ (hsc a)
  · exact slab_eq _ 9 rfl inb_S256x18944_S256x512_0_4608 _ fun a b => requant_9 _ a b (A.top_pos a) (A.top_lt a) (A.hid_le_top a _) (slab_read A _ hq 9 rfl _ a b) _ (hsc a)
  · exact slab_eq _ 8 rfl inb_S256x18944_S256x512_0_4096 _ fun a b => requant_8 _ a b (A.top_pos a) (A.top_lt a) (A.hid_le_top a _) (slab_read A _ hq 8 rfl _ a b) _ (hsc a)
  · exact slab_eq _ 7 rfl inb_S256x18944_S256x512_0_3584 _ fun a b => requant_7 _ a b (A.top_pos a) (A.top_lt a) (A.hid_le_top a _) (slab_read A _ hq 7 rfl _ a b) _ (hsc a)
  · exact slab_eq _ 6 rfl inb_S256x18944_S256x512_0_3072 _ fun a b => requant_6 _ a b (A.top_pos a) (A.top_lt a) (A.hid_le_top a _) (slab_read A _ hq 6 rfl _ a b) _ (hsc a)
  · exact slab_eq _ 5 rfl inb_S256x18944_S256x512_0_2560 _ fun a b => requant_5 _ a b (A.top_pos a) (A.top_lt a) (A.hid_le_top a _) (slab_read A _ hq 5 rfl _ a b) _ (hsc a)
  · exact slab_eq _ 4 rfl inb_S256x18944_S256x512_0_2048 _ fun a b => requant_4 _ a b (A.top_pos a) (A.top_lt a) (A.hid_le_top a _) (slab_read A _ hq 4 rfl _ a b) _ (hsc a)
  · exact slab_eq _ 3 rfl inb_S256x18944_S256x512_0_1536 _ fun a b => requant_3 _ a b (A.top_pos a) (A.top_lt a) (A.hid_le_top a _) (slab_read A _ hq 3 rfl _ a b) _ (hsc a)
  · exact slab_eq _ 2 rfl inb_S256x18944_S256x512_0_1024 _ fun a b => requant_2 _ a b (A.top_pos a) (A.top_lt a) (A.hid_le_top a _) (slab_read A _ hq 2 rfl _ a b) _ _ (hsc a)
  · exact slab_eq _ 1 rfl inb_S256x18944_S256x512_0_512 _ fun a b => requant_1 _ a b (A.top_pos a) (A.top_lt a) (A.hid_le_top a _) (slab_read A _ hq 1 rfl _ a b) _ _ (hsc a)
  · exact slab_eq _ 0 rfl inb_S256x18944_S256x512_0_0 _ fun a b => requant_0 _ a b (A.top_pos a) (A.top_lt a) (A.hid_le_top a _) (slab_read A _ hq 0 rfl _ a b) _ _ (hsc a)

include hc0 hc1 hn hb h36 hp in
/-- The last point stores its block and requantises all of them. -/
theorem last (E : Set ℕ) (K : PUnit → sProp 𝕄) :
    iprop(owns (c : Thread nD τ) arg1 fullShare x0
      ∗ owns (c : Thread nD τ) arg2 fullShare x1
      ∗ owns (c : Thread nD τ) arg3 fullShare x2
      ∗ owns (c : Thread nD τ) arg4 fullShare x3
      ∗ owns (c : Thread nD τ) arg5 fullShare x4
      ∗ (∃ d, owns (c : Thread nD τ) arg6 fullShare d)
      ∗ (∃ d, owns (c : Thread nD τ) arg7 fullShare d)
      ∗ (∃ d, owns (c : Thread nD τ) arg8 fullShare d)
      ∗ owns (c : Thread nD τ) arg12 fullShare A.codes
      ∗ owns (c : Thread nD τ) arg13 fullShare hs
      ∗ owns (c : Thread nD τ) arg14 fullShare A.mants
      ∗ owns (c : Thread nD τ) arg15 fullShare A.expos
      ∗ owns (c : Thread nD τ) arg16 fullShare (A.lanes n.1)
      ∗ (iprop(owns (c : Thread nD τ) arg1 fullShare x0
      ∗ owns (c : Thread nD τ) arg2 fullShare x1
      ∗ owns (c : Thread nD τ) arg3 fullShare x2
      ∗ owns (c : Thread nD τ) arg4 fullShare x3
      ∗ owns (c : Thread nD τ) arg5 fullShare x4
      ∗ owns (c : Thread nD τ) arg6 fullShare A.hout
      ∗ owns (c : Thread nD τ) arg7 fullShare A.hmrow
      ∗ owns (c : Thread nD τ) arg8 fullShare A.herow
      ∗ owns (c : Thread nD τ) arg12 fullShare A.codes
      ∗ (∃ h, ⌜A.Placed 37 h⌝ ∗ owns (c : Thread nD τ) arg13 fullShare h)
      ∗ owns (c : Thread nD τ) arg14 fullShare A.mants
      ∗ owns (c : Thread nD τ) arg15 fullShare A.expos
      ∗ owns (c : Thread nD τ) arg16 fullShare (A.lanes 37)) -∗ K ⟨⟩))
      ⊢ wp frame (wpE (defs₀ (F := Ideal)) Variants.none c none) E (cc0_int_swiglu i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  iintro ⟨H0, H1, H2, H3, H4, H5, H6, H7, HS0, HS1, HS2, HS3, HS4, Hk⟩
  iapply ((runC c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 A.codes hs A.mants A.expos (A.lanes n.1)).2.2.2.2.2 E K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HS0]; · iexact HS0
  isplitl [HS1]; · iexact HS1
  isplitl [HS2]; · iexact HS2
  isplitl [HS3]; · iexact HS3
  isplitl [HS4]; · iexact HS4
  iintro ⟨H0, H1, H2, H3, H4, ⟨%f5, H5⟩, ⟨%f6, H6⟩, ⟨%f7, H7⟩, HS0, HS1, HS2, HS3, ⟨%f, HS4⟩⟩
  iapply Hk
  isplitl [H0]; · iexact H0
  isplitl [H1]; · iexact H1
  isplitl [H2]; · iexact H2
  isplitl [H3]; · iexact H3
  isplitl [H4]; · iexact H4
  isplitl [H5]
  · unfold owns; iexists _; isplitr; · ipureintro; exact last_hout c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 hs A n h36 hn hb hp f5
    iexact H5
  isplitl [H6]
  · unfold owns; iexists _; isplitr; · ipureintro; exact last_mrow c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 hs A n h36 hb f6
    iexact H6
  isplitl [H7]
  · unfold owns; iexists _; isplitr; · ipureintro; exact last_erow c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 hs A n h36 hb f7
    iexact H7
  isplitl [HS0]; · iexact HS0
  isplitl [HS1]
  · iexists (arg13.view.read (Elt Ideal) (arg13.view.writes (Elt Ideal) (harg13.unread hs) (runC c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 A.codes hs A.mants A.expos (A.lanes n.1)).2.2.2.1))
    isplitr; · ipureintro; exact last_placed c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 hs A n h36 hn hb hp
    unfold owns; iexists _; isplitr; · ipureintro; rfl
    iexact HS1
  isplitl [HS2]; · iexact HS2
  isplitl [HS3]; · iexact HS3
  unfold owns; iexists _; isplitr; · ipureintro; exact last_lanes c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 hs A n h36 hb f
  iexact HS4

end

end Cert.KernelIdeal.Val

end
-- ==== Proof.Grid.lean ====
/- The blocks of the arguments the body sees at a grid point. -/
module

public import proofs.«01_k».proof.Proof.Last

@[expose] public section

set_option maxRecDepth 16384

noncomputable section

namespace Cert.KernelIdeal.Val

open Idealize.ShloMosaic Idealize.ShloMosaic.TcCoe Idealize.ShloMosaic.Tactic Idealize.SL.Sem
open Cert.KernelIdeal.Gen Cert.Swiglu

variable (m : (ℓ : Loc nD τ sig) → Buf (Elt Ideal) ℓ) (c : Dev nD)

/-- The arguments as the region finds them. -/
def inputs : Inputs where
  X r k := V m c main_v0 (ix2 r k)
  Wg k j := V m c main_arg1 (ix2 k j)
  Wu k j := V m c main_arg2 (ix2 k j)
  eg j := V m c main_v1 (ix2 0 j)
  eu j := V m c main_v2 (ix2 0 j)

theorem pt_lt (t : Fin cfg0.N) : t.val < 37 := Nat.lt_of_lt_of_eq t.isLt N_0

theorem coord (t : Fin cfg0.N) : (grid0.coords t (0 : Fin 1)).val = t.val := by
  have h := pt_lt t
  have e : (grid0.coords t (0 : Fin 1)).val = t.val / 1 % 37 := Pipeline.Grid.coords_val t 0 (by decide) rfl
  omega

/-- The grid point as a number of blocks. -/
def pt (t : Fin cfg0.N) : Fin 37 := ⟨t.val, pt_lt t⟩

theorem index0 (t : Fin cfg0.N) : win0_0.index t = ![0, 0] := rfl

theorem index1 (t : Fin cfg0.N) : win0_1.index t = ![0, t.val] := by
  show ![0, (BitVec.ofNat 32 (grid0.coords t (0 : Fin 1)).val).toNat] = _
  rw [coord, BitVec.toNat_ofNat, Nat.mod_eq_of_lt (by have := pt_lt t; omega)]
theorem index2 (t : Fin cfg0.N) : win0_2.index t = ![0, t.val] := index1 t
theorem index3 (t : Fin cfg0.N) : win0_3.index t = ![0, t.val] := index1 t
theorem index4 (t : Fin cfg0.N) : win0_4.index t = ![0, t.val] := index1 t

/-- The block of the activations is all of them. -/
theorem iblk0_apply (t : Fin cfg0.N) (r : Fin 256) (k : Fin 3584) : iblk m c 0 t (ix2 r k) = (inputs m c).X r k := by
  show V m c main_v0 (((cfg0.win 0).blk t).view.emb (ix2 r k)) = V m c main_v0 (ix2 r k)
  congr 1
  refine funext (Fin.forall_fin_two.mpr ⟨Fin.ext ?_, Fin.ext ?_⟩)
  · show win0_0.index t (0 : Fin 2) * 256 + 1 * r.val = r.val
    rw [index0]; show 0 * 256 + 1 * r.val = r.val; omega
  · show win0_0.index t (1 : Fin 2) * 3584 + 1 * k.val = k.val
    rw [index0]; show 0 * 3584 + 1 * k.val = k.val; omega

theorem iblk1_apply (t : Fin cfg0.N) (k : Fin 3584) (b : Fin 512) : iblk m c 1 t (ix2 k b) = (inputs m c).Wg k (col (pt t) b) := by
  show V m c main_arg1 (((cfg0.win 1).blk t).view.emb (ix2 k b)) = V m c main_arg1 (ix2 k (col (pt t) b))
  congr 1
  refine funext (Fin.forall_fin_two.mpr ⟨Fin.ext ?_, Fin.ext ?_⟩)
  · show win0_1.index t (0 : Fin 2) * 3584 + 1 * k.val = k.val
    rw [index1]; show 0 * 3584 + 1 * k.val = k.val; omega
  · show win0_1.index t (1 : Fin 2) * 512 + 1 * b.val = 512 * t.val + b.val
    rw [index1]; show t.val * 512 + 1 * b.val = 512 * t.val + b.val; omega

theorem iblk2_apply (t : Fin cfg0.N) (k : Fin 3584) (b : Fin 512) : iblk m c 2 t (ix2 k b) = (inputs m c).Wu k (col (pt t) b) := by
  show V m c main_arg2 (((cfg0.win 2).blk t).view.emb (ix2 k b)) = V m c main_arg2 (ix2 k (col (pt t) b))
  congr 1
  refine funext (Fin.forall_fin_two.mpr ⟨Fin.ext ?_, Fin.ext ?_⟩)
  · show win0_2.index t (0 : Fin 2) * 3584 + 1 * k.val = k.val
    rw [index2]; show 0 * 3584 + 1 * k.val = k.val; omega
  · show win0_2.index t (1 : Fin 2) * 512 + 1 * b.val = 512 * t.val + b.val
    rw [index2]; show t.val * 512 + 1 * b.val = 512 * t.val + b.val; omega

theorem iblk3_apply (t : Fin cfg0.N) (b : Fin 512) : iblk m c 3 t (ix2 0 b) = (inputs m c).eg (col (pt t) b) := by
  show V m c main_v1 (((cfg0.win 3).blk t).view.emb (ix2 0 b)) = V m c main_v1 (ix2 0 (col (pt t) b))
  congr 1
  refine funext (Fin.forall_fin_two.mpr ⟨Fin.ext ?_, Fin.ext ?_⟩)
  · show win0_3.index t (0 : Fin 2) * 1 + 1 * 0 = 0
    rw [index3]; rfl
  · show win0_3.index t (1 : Fin 2) * 512 + 1 * b.val = 512 * t.val + b.val
    rw [index3]; show t.val * 512 + 1 * b.val = 512 * t.val + b.val; omega

theorem iblk4_apply (t : Fin cfg0.N) (b : Fin 512) : iblk m c 4 t (ix2 0 b) = (inputs m c).eu (col (pt t) b) := by
  show V m c main_v2 (((cfg0.win 4).blk t).view.emb (ix2 0 b)) = V m c main_v2 (ix2 0 (col (pt t) b))
  congr 1
  refine funext (Fin.forall_fin_two.mpr ⟨Fin.ext ?_, Fin.ext ?_⟩)
  · show win0_4.index t (0 : Fin 2) * 1 + 1 * 0 = 0
    rw [index4]; rfl
  · show win0_4.index t (1 : Fin 2) * 512 + 1 * b.val = 512 * t.val + b.val
    rw [index4]; show t.val * 512 + 1 * b.val = 512 * t.val + b.val; omega

/-- The blocks at a point are those of its number. -/
theorem blocks (t : Fin cfg0.N) : Blocks (inputs m c) (pt t) (iblk m c 1 t) (iblk m c 2 t) (iblk m c 3 t) (iblk m c 4 t) :=
  ⟨iblk1_apply m c t, iblk2_apply m c t, iblk3_apply m c t, iblk4_apply m c t⟩

end Cert.KernelIdeal.Val

end
-- ==== Proof.Held.lean ====
/- What the kernel holds between grid points: the codes, mantissas and exponents of the activations, the blocks of gated
   values so far and their lane maxima; and what it leaves in each output. -/
module

public import proofs.«01_k».proof.Proof.Grid
public import Idealize.ShloMosaic.Lib.Claim

@[expose] public section

set_option maxRecDepth 16384

noncomputable section

namespace Cert.KernelIdeal.Val

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen Cert.Swiglu

local notation "𝕄" => MT nD τ sig Unit (Elt Ideal) ℕ (UR sig nD τ) ℕ

variable (m : (ℓ : Loc nD τ sig) → Buf (Elt Ideal) ℓ)

/-- What the scratch buffers hold after `n` blocks. -/
def held (c : Dev nD) (n : ℕ) : sProp 𝕄 :=
  iprop((owns (c : Thread nD τ) scM0_0 fullShare (inputs m c).codes
    ∗ (∃ h, ⌜(inputs m c).Placed n h⌝ ∗ owns (c : Thread nD τ) scM0_1 fullShare h)
    ∗ owns (c : Thread nD τ) scM0_2 fullShare (inputs m c).mants
    ∗ owns (c : Thread nD τ) scM0_3 fullShare (inputs m c).expos
    ∗ owns (c : Thread nD τ) scM0_4 fullShare ((inputs m c).lanes n)) ∗ (∃ r, prngReg c r))

/-- What the kernel holds before point `n`: anything at the first. -/
def between (c : Dev nD) : ℕ → sProp 𝕄
  | 0 => Pipeline.ΦA spec0 c
  | n + 1 => held m c (n + 1)

theorem between_pos (c : Dev nD) (n : ℕ) (h : n ≠ 0) : between m c n = held m c n := by
  cases n with
  | zero => exact absurd rfl h
  | succ n => rfl

/-- The pipeline's proof data: each input's block left in place, each output at its final contents. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (inputs m c).hout
    | ⟨6, _⟩ => (inputs m c).hmrow
    | ⟨7, _⟩ => (inputs m c).herow
    | ⟨8, _⟩ => (inputs m c).xout
    | ⟨9, _⟩ => (inputs m c).mrow
    | ⟨10, _⟩ => (inputs m c).erow
  Φ t := between m c t.val
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = (inputs m c).hout := by dsimp only [dats]
theorem after0_6 (c : Dev nD) (t : Fin cfg0.N) : (dats m 0 c).after 6 t = (inputs m c).hmrow := by dsimp only [dats]
theorem after0_7 (c : Dev nD) (t : Fin cfg0.N) : (dats m 0 c).after 7 t = (inputs m c).herow := by dsimp only [dats]
theorem after0_8 (c : Dev nD) (t : Fin cfg0.N) : (dats m 0 c).after 8 t = (inputs m c).xout := by dsimp only [dats]
theorem after0_9 (c : Dev nD) (t : Fin cfg0.N) : (dats m 0 c).after 9 t = (inputs m c).mrow := by dsimp only [dats]
theorem after0_10 (c : Dev nD) (t : Fin cfg0.N) : (dats m 0 c).after 10 t = (inputs m c).erow := by dsimp only [dats]

/-! ## The inputs -/

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem leaves0_0 (c : Dev nD) (t : Fin cfg0.N) : (dats m 0 c).leavesExact 0 t = owns (c : Thread nD τ) (ms0_0 t) fullShare (iblk m c 0 t) := by
  unfold Dat.leavesExact; rw [liveAt0_0 t, after0_0]
theorem leaves0_1 (c : Dev nD) (t : Fin cfg0.N) : (dats m 0 c).leavesExact 1 t = owns (c : Thread nD τ) (ms0_1 t) fullShare (iblk m c 1 t) := by
  unfold Dat.leavesExact; rw [liveAt0_1 t, after0_1]
theorem leaves0_2 (c : Dev nD) (t : Fin cfg0.N) : (dats m 0 c).leavesExact 2 t = owns (c : Thread nD τ) (ms0_2 t) fullShare (iblk m c 2 t) := by
  unfold Dat.leavesExact; rw [liveAt0_2 t, after0_2]
theorem leaves0_3 (c : Dev nD) (t : Fin cfg0.N) : (dats m 0 c).leavesExact 3 t = owns (c : Thread nD τ) (ms0_3 t) fullShare (iblk m c 3 t) := by
  unfold Dat.leavesExact; rw [liveAt0_3 t, after0_3]
theorem leaves0_4 (c : Dev nD) (t : Fin cfg0.N) : (dats m 0 c).leavesExact 4 t = owns (c : Thread nD τ) (ms0_4 t) fullShare (iblk m c 4 t) := by
  unfold Dat.leavesExact; rw [liveAt0_4 t, after0_4]

/-! ## The outputs: the gated values' at the last point, the activations' at the first, kept to the last -/

theorem idle0_5 (t : Fin cfg0.N) : cfg0.idle 5 (grid0.coords t) = !decide (t.val % 37 = 36) := by
  show (!(k0_cond2 (grid0.coords t) == 1#1)) = _
  by_cases h : t.val % 37 = 36
  · rw [(hcond0_1 t).mpr h, decide_eq_true h]; rfl
  · rw [decide_eq_false h, beq_eq_false_iff_ne.mpr fun e => h ((hcond0_1 t).mp e)]
theorem idle0_6 (t : Fin cfg0.N) : cfg0.idle 6 (grid0.coords t) = !decide (t.val % 37 = 36) := by
  show (!(k0_cond2 (grid0.coords t) == 1#1)) = _
  by_cases h : t.val % 37 = 36
  · rw [(hcond0_1 t).mpr h, decide_eq_true h]; rfl
  · rw [decide_eq_false h, beq_eq_false_iff_ne.mpr fun e => h ((hcond0_1 t).mp e)]
theorem idle0_7 (t : Fin cfg0.N) : cfg0.idle 7 (grid0.coords t) = !decide (t.val % 37 = 36) := by
  show (!(k0_cond2 (grid0.coords t) == 1#1)) = _
  by_cases h : t.val % 37 = 36
  · rw [(hcond0_1 t).mpr h, decide_eq_true h]; rfl
  · rw [decide_eq_false h, beq_eq_false_iff_ne.mpr fun e => h ((hcond0_1 t).mp e)]
theorem idle0_8 (t : Fin cfg0.N) : cfg0.idle 8 (grid0.coords t) = !decide (t.val % 37 = 0) := by
  show (!(k0_cond1 (grid0.coords t) == 1#1)) = _
  by_cases h : t.val % 37 = 0
  · rw [(hcond0_0 t).mpr h, decide_eq_true h]; rfl
  · rw [decide_eq_false h, beq_eq_false_iff_ne.mpr fun e => h ((hcond0_0 t).mp e)]
theorem idle0_9 (t : Fin cfg0.N) : cfg0.idle 9 (grid0.coords t) = !decide (t.val % 37 = 0) := by
  show (!(k0_cond1 (grid0.coords t) == 1#1)) = _
  by_cases h : t.val % 37 = 0
  · rw [(hcond0_0 t).mpr h, decide_eq_true h]; rfl
  · rw [decide_eq_false h, beq_eq_false_iff_ne.mpr fun e => h ((hcond0_0 t).mp e)]
theorem idle0_10 (t : Fin cfg0.N) : cfg0.idle 10 (grid0.coords t) = !decide (t.val % 37 = 0) := by
  show (!(k0_cond1 (grid0.coords t) == 1#1)) = _
  by_cases h : t.val % 37 = 0
  · rw [(hcond0_0 t).mpr h, decide_eq_true h]; rfl
  · rw [decide_eq_false h, beq_eq_false_iff_ne.mpr fun e => h ((hcond0_0 t).mp e)]

/-- Window 5's buffer handed back at a point that does not store to it or write it back. -/
theorem leaves_idle0_5 (c : Dev nD) (t : Fin cfg0.N) (h : ¬ t.val % 37 = 36) (hf : ¬ t.val % 37 = 36) :
    (dats m 0 c).leavesExact 5 t = iprop(∃ d, owns (c : Thread nD τ) (ms0_5 t) fullShare ((dats m 0 c).before 5 t d)) :=
  (dats m 0 c).leavesExact_idle 5 t (by rw [idle0_5, decide_eq_false h]; rfl) (Bool.eq_false_iff.mpr fun e => hf ((flush0_5 t).mp e))
/-- … and at a point that does. -/
theorem leaves_live0_5 (c : Dev nD) (t : Fin cfg0.N) (h : t.val % 37 = 36 ∨ t.val % 37 = 36) :
    (dats m 0 c).leavesExact 5 t = owns (c : Thread nD τ) (ms0_5 t) fullShare (inputs m c).hout := by
  unfold Dat.leavesExact
  rcases h with h | h
  · rw [idle0_5, decide_eq_true h, after0_5]; rfl
  · rw [(flush0_5 t).mpr h, after0_5]
    cases cfg0.idle 5 (grid0.coords t) <;> rfl

/-- Window 6's buffer handed back at a point that does not store to it or write it back. -/
theorem leaves_idle0_6 (c : Dev nD) (t : Fin cfg0.N) (h : ¬ t.val % 37 = 36) (hf : ¬ t.val % 37 = 36) :
    (dats m 0 c).leavesExact 6 t = iprop(∃ d, owns (c : Thread nD τ) (ms0_6 t) fullShare ((dats m 0 c).before 6 t d)) :=
  (dats m 0 c).leavesExact_idle 6 t (by rw [idle0_6, decide_eq_false h]; rfl) (Bool.eq_false_iff.mpr fun e => hf ((flush0_6 t).mp e))
/-- … and at a point that does. -/
theorem leaves_live0_6 (c : Dev nD) (t : Fin cfg0.N) (h : t.val % 37 = 36 ∨ t.val % 37 = 36) :
    (dats m 0 c).leavesExact 6 t = owns (c : Thread nD τ) (ms0_6 t) fullShare (inputs m c).hmrow := by
  unfold Dat.leavesExact
  rcases h with h | h
  · rw [idle0_6, decide_eq_true h, after0_6]; rfl
  · rw [(flush0_6 t).mpr h, after0_6]
    cases cfg0.idle 6 (grid0.coords t) <;> rfl

/-- Window 7's buffer handed back at a point that does not store to it or write it back. -/
theorem leaves_idle0_7 (c : Dev nD) (t : Fin cfg0.N) (h : ¬ t.val % 37 = 36) (hf : ¬ t.val % 37 = 36) :
    (dats m 0 c).leavesExact 7 t = iprop(∃ d, owns (c : Thread nD τ) (ms0_7 t) fullShare ((dats m 0 c).before 7 t d)) :=
  (dats m 0 c).leavesExact_idle 7 t (by rw [idle0_7, decide_eq_false h]; rfl) (Bool.eq_false_iff.mpr fun e => hf ((flush0_7 t).mp e))
/-- … and at a point that does. -/
theorem leaves_live0_7 (c : Dev nD) (t : Fin cfg0.N) (h : t.val % 37 = 36 ∨ t.val % 37 = 36) :
    (dats m 0 c).leavesExact 7 t = owns (c : Thread nD τ) (ms0_7 t) fullShare (inputs m c).herow := by
  unfold Dat.leavesExact
  rcases h with h | h
  · rw [idle0_7, decide_eq_true h, after0_7]; rfl
  · rw [(flush0_7 t).mpr h, after0_7]
    cases cfg0.idle 7 (grid0.coords t) <;> rfl

/-- Window 8's buffer handed back at a point that does not store to it or write it back. -/
theorem leaves_idle0_8 (c : Dev nD) (t : Fin cfg0.N) (h : ¬ t.val % 37 = 0) (hf : ¬ t.val % 37 = 36) :
    (dats m 0 c).leavesExact 8 t = iprop(∃ d, owns (c : Thread nD τ) (ms0_8 t) fullShare ((dats m 0 c).before 8 t d)) :=
  (dats m 0 c).leavesExact_idle 8 t (by rw [idle0_8, decide_eq_false h]; rfl) (Bool.eq_false_iff.mpr fun e => hf ((flush0_8 t).mp e))
/-- … and at a point that does. -/
theorem leaves_live0_8 (c : Dev nD) (t : Fin cfg0.N) (h : t.val % 37 = 0 ∨ t.val % 37 = 36) :
    (dats m 0 c).leavesExact 8 t = owns (c : Thread nD τ) (ms0_8 t) fullShare (inputs m c).xout := by
  unfold Dat.leavesExact
  rcases h with h | h
  · rw [idle0_8, decide_eq_true h, after0_8]; rfl
  · rw [(flush0_8 t).mpr h, after0_8]
    cases cfg0.idle 8 (grid0.coords t) <;> rfl

/-- Window 9's buffer handed back at a point that does not store to it or write it back. -/
theorem leaves_idle0_9 (c : Dev nD) (t : Fin cfg0.N) (h : ¬ t.val % 37 = 0) (hf : ¬ t.val % 37 = 36) :
    (dats m 0 c).leavesExact 9 t = iprop(∃ d, owns (c : Thread nD τ) (ms0_9 t) fullShare ((dats m 0 c).before 9 t d)) :=
  (dats m 0 c).leavesExact_idle 9 t (by rw [idle0_9, decide_eq_false h]; rfl) (Bool.eq_false_iff.mpr fun e => hf ((flush0_9 t).mp e))
/-- … and at a point that does. -/
theorem leaves_live0_9 (c : Dev nD) (t : Fin cfg0.N) (h : t.val % 37 = 0 ∨ t.val % 37 = 36) :
    (dats m 0 c).leavesExact 9 t = owns (c : Thread nD τ) (ms0_9 t) fullShare (inputs m c).mrow := by
  unfold Dat.leavesExact
  rcases h with h | h
  · rw [idle0_9, decide_eq_true h, after0_9]; rfl
  · rw [(flush0_9 t).mpr h, after0_9]
    cases cfg0.idle 9 (grid0.coords t) <;> rfl

/-- Window 10's buffer handed back at a point that does not store to it or write it back. -/
theorem leaves_idle0_10 (c : Dev nD) (t : Fin cfg0.N) (h : ¬ t.val % 37 = 0) (hf : ¬ t.val % 37 = 36) :
    (dats m 0 c).leavesExact 10 t = iprop(∃ d, owns (c : Thread nD τ) (ms0_10 t) fullShare ((dats m 0 c).before 10 t d)) :=
  (dats m 0 c).leavesExact_idle 10 t (by rw [idle0_10, decide_eq_false h]; rfl) (Bool.eq_false_iff.mpr fun e => hf ((flush0_10 t).mp e))
/-- … and at a point that does. -/
theorem leaves_live0_10 (c : Dev nD) (t : Fin cfg0.N) (h : t.val % 37 = 0 ∨ t.val % 37 = 36) :
    (dats m 0 c).leavesExact 10 t = owns (c : Thread nD τ) (ms0_10 t) fullShare (inputs m c).erow := by
  unfold Dat.leavesExact
  rcases h with h | h
  · rw [idle0_10, decide_eq_true h, after0_10]; rfl
  · rw [(flush0_10 t).mpr h, after0_10]
    cases cfg0.idle 10 (grid0.coords t) <;> rfl

/-- Window 8's buffer after the first point: what that point left. -/
theorem before0_8 (c : Dev nD) : ∀ (n : ℕ) (hn : n + 1 < cfg0.N) (d), (dats m 0 c).before 8 ⟨n + 1, hn⟩ d = (inputs m c).xout := by
  intro n
  induction n with
  | zero =>
    intro hn d
    rw [(dats m 0 c).before_of_pos 8 ⟨0 + 1, hn⟩ (Nat.succ_ne_zero 0) ((cfg0.win 8).fetch_out rfl _),
      if_neg (fun e => absurd ((flush0_8 _).mp e) (by show ¬ 0 % 37 = 36; decide))]
    unfold Dat.left
    rw [idle0_8, decide_eq_true (show ((⟨0 + 1 - 1, _⟩ : Fin cfg0.N)).val % 37 = 0 from rfl)]
    exact after0_8 m c _
  | succ n ih =>
    intro hn d
    have h37 : n + 1 + 1 < 37 := Nat.lt_of_lt_of_eq hn N_0
    rw [(dats m 0 c).before_of_pos 8 ⟨n + 1 + 1, hn⟩ (Nat.succ_ne_zero _) ((cfg0.win 8).fetch_out rfl _),
      if_neg (fun e => absurd ((flush0_8 _).mp e) (by show ¬ (n + 1) % 37 = 36; omega))]
    unfold Dat.left
    rw [idle0_8, decide_eq_false (show ¬ ((⟨n + 1 + 1 - 1, _⟩ : Fin cfg0.N)).val % 37 = 0 from by show ¬ (n + 1) % 37 = 0; omega)]
    exact ih _ d
theorem before_pos0_8 (c : Dev nD) (t : Fin cfg0.N) (h : ¬ t.val % 37 = 0) (d) : (dats m 0 c).before 8 t d = (inputs m c).xout := by
  obtain ⟨n, hn⟩ := t
  cases n with
  | zero => exact absurd rfl h
  | succ n => exact before0_8 m c n hn d

/-- Window 9's buffer after the first point: what that point left. -/
theorem before0_9 (c : Dev nD) : ∀ (n : ℕ) (hn : n + 1 < cfg0.N) (d), (dats m 0 c).before 9 ⟨n + 1, hn⟩ d = (inputs m c).mrow := by
  intro n
  induction n with
  | zero =>
    intro hn d
    rw [(dats m 0 c).before_of_pos 9 ⟨0 + 1, hn⟩ (Nat.succ_ne_zero 0) ((cfg0.win 9).fetch_out rfl _),
      if_neg (fun e => absurd ((flush0_9 _).mp e) (by show ¬ 0 % 37 = 36; decide))]
    unfold Dat.left
    rw [idle0_9, decide_eq_true (show ((⟨0 + 1 - 1, _⟩ : Fin cfg0.N)).val % 37 = 0 from rfl)]
    exact after0_9 m c _
  | succ n ih =>
    intro hn d
    have h37 : n + 1 + 1 < 37 := Nat.lt_of_lt_of_eq hn N_0
    rw [(dats m 0 c).before_of_pos 9 ⟨n + 1 + 1, hn⟩ (Nat.succ_ne_zero _) ((cfg0.win 9).fetch_out rfl _),
      if_neg (fun e => absurd ((flush0_9 _).mp e) (by show ¬ (n + 1) % 37 = 36; omega))]
    unfold Dat.left
    rw [idle0_9, decide_eq_false (show ¬ ((⟨n + 1 + 1 - 1, _⟩ : Fin cfg0.N)).val % 37 = 0 from by show ¬ (n + 1) % 37 = 0; omega)]
    exact ih _ d
theorem before_pos0_9 (c : Dev nD) (t : Fin cfg0.N) (h : ¬ t.val % 37 = 0) (d) : (dats m 0 c).before 9 t d = (inputs m c).mrow := by
  obtain ⟨n, hn⟩ := t
  cases n with
  | zero => exact absurd rfl h
  | succ n => exact before0_9 m c n hn d

/-- Window 10's buffer after the first point: what that point left. -/
theorem before0_10 (c : Dev nD) : ∀ (n : ℕ) (hn : n + 1 < cfg0.N) (d), (dats m 0 c).before 10 ⟨n + 1, hn⟩ d = (inputs m c).erow := by
  intro n
  induction n with
  | zero =>
    intro hn d
    rw [(dats m 0 c).before_of_pos 10 ⟨0 + 1, hn⟩ (Nat.succ_ne_zero 0) ((cfg0.win 10).fetch_out rfl _),
      if_neg (fun e => absurd ((flush0_10 _).mp e) (by show ¬ 0 % 37 = 36; decide))]
    unfold Dat.left
    rw [idle0_10, decide_eq_true (show ((⟨0 + 1 - 1, _⟩ : Fin cfg0.N)).val % 37 = 0 from rfl)]
    exact after0_10 m c _
  | succ n ih =>
    intro hn d
    have h37 : n + 1 + 1 < 37 := Nat.lt_of_lt_of_eq hn N_0
    rw [(dats m 0 c).before_of_pos 10 ⟨n + 1 + 1, hn⟩ (Nat.succ_ne_zero _) ((cfg0.win 10).fetch_out rfl _),
      if_neg (fun e => absurd ((flush0_10 _).mp e) (by show ¬ (n + 1) % 37 = 36; omega))]
    unfold Dat.left
    rw [idle0_10, decide_eq_false (show ¬ ((⟨n + 1 + 1 - 1, _⟩ : Fin cfg0.N)).val % 37 = 0 from by show ¬ (n + 1) % 37 = 0; omega)]
    exact ih _ d
theorem before_pos0_10 (c : Dev nD) (t : Fin cfg0.N) (h : ¬ t.val % 37 = 0) (d) : (dats m 0 c).before 10 t d = (inputs m c).erow := by
  obtain ⟨n, hn⟩ := t
  cases n with
  | zero => exact absurd rfl h
  | succ n => exact before0_10 m c n hn d

end Cert.KernelIdeal.Val

end
-- ==== Proof.Carry.lean ====
/- The body at any grid point carries what the kernel holds on to the next. -/
module

public import proofs.«01_k».proof.Proof.Held

@[expose] public section

set_option maxRecDepth 16384

noncomputable section

namespace Cert.KernelIdeal.Val

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen Cert.Swiglu

local notation "𝕄" => MT nD τ sig Unit (Elt Ideal) ℕ (UR sig nD τ) ℕ

variable (m : (ℓ : Loc nD τ sig) → Buf (Elt Ideal) ℓ)

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t)

theorem phi_succ (c : Dev nD) (t : Fin cfg0.N) : (dats m 0 c).Φ t.succ = held m c (t.val + 1) := rfl
theorem phi_castSucc (c : Dev nD) (t : Fin cfg0.N) : (dats m 0 c).Φ t.castSucc = between m c t.val := rfl
theorem owes_succ (c : Dev nD) (t : Fin cfg0.N) : (dats m 0 c).owesAt () t.succ = (dats m 0 c).owesAt () t.castSucc := rfl

set_option maxHeartbeats 1600000 in
/-- The first point. -/
theorem body_first (hX : ∀ c r k, ((inputs m c).X r k).toInt.natAbs < 2 ^ 23) (c : Dev nD) (t : Fin cfg0.N) (h0 : t.val % 37 = 0) :
    bodyPre m c t ⊢ wp frame (wpE (defs₀ (F := Ideal)) Variants.none c none) Set.univ (bodyAt0 t) (fun _ => bodyPost m c t) := by
  have h1 : ¬ t.val % 37 = 36 := by omega
  have hz : t.val = 0 := by have := pt_lt t; omega
  have e : between m c t.val = Pipeline.ΦA spec0 c := by rw [hz]; rfl
  unfold bodyPre bodyPost bodyAt0
  simp only [before0_0, before0_1, before0_2, before0_3, before0_4, leaves0_0, leaves0_1, leaves0_2, leaves0_3, leaves0_4]
  rw [leaves_idle0_5 m c t h1 h1, leaves_idle0_6 m c t h1 h1, leaves_idle0_7 m c t h1 h1,
    leaves_live0_8 m c t (.inl h0), leaves_live0_9 m c t (.inl h0), leaves_live0_10 m c t (.inl h0),
    owes_succ, phi_succ, phi_castSucc, e, PhiA0_eq]
  unfold held
  iintro ⟨⟨⟨HS0, ⟨%s1, HS1⟩, HS2, HS3, HS4⟩, Hg⟩, Ho, ⟨%d0, H0⟩, ⟨%d1, H1⟩, ⟨%d2, H2⟩, ⟨%d3, H3⟩, ⟨%d4, H4⟩, H5, H6, H7, ⟨%d8, H8⟩, ⟨%d9, H9⟩, ⟨%d10, H10⟩⟩
  iapply (first c (grid0.coords t) _ _ _ _ _ _ _ _ _ _ _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) s1 (inputs m c) (hX c) (iblk0_apply m c t) (pt t) hz (coord t) (blocks m c t) Set.univ _)
  isplitl [H0]; · iexact H0
  isplitl [H1]; · iexact H1
  isplitl [H2]; · iexact H2
  isplitl [H3]; · iexact H3
  isplitl [H4]; · iexact H4
  isplitl [H8]; · iexists _; iexact H8
  isplitl [H9]; · iexists _; iexact H9
  isplitl [H10]; · iexists _; iexact H10
  isplitl [HS0]; · iexact HS0
  isplitl [HS1]; · iexact HS1
  isplitl [HS2]; · iexact HS2
  isplitl [HS3]; · iexact HS3
  isplitl [HS4]; · iexact HS4
  iintro ⟨H0, H1, H2, H3, H4, H8, H9, H10, HS0, HS1, HS2, HS3, HS4⟩
  isplitl [HS0 HS1 HS2 HS3 HS4 Hg]
  · isplitl [HS0 HS1 HS2 HS3 HS4]
    · isplitl [HS0]; · iexact HS0
      isplitl [HS1]; · iexact HS1
      isplitl [HS2]; · iexact HS2
      isplitl [HS3]; · iexact HS3
      iexact HS4
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

set_option maxHeartbeats 1600000 in
/-- A point that is neither the first nor the last. -/
theorem body_middle (c : Dev nD) (t : Fin cfg0.N) (h0 : ¬ t.val % 37 = 0) (h1 : ¬ t.val % 37 = 36) :
    bodyPre m c t ⊢ wp frame (wpE (defs₀ (F := Ideal)) Variants.none c none) Set.univ (bodyAt0 t) (fun _ => bodyPost m c t) := by
  have hz : t.val ≠ 0 := by omega
  unfold bodyPre bodyPost bodyAt0
  simp only [before0_0, before0_1, before0_2, before0_3, before0_4, leaves0_0, leaves0_1, leaves0_2, leaves0_3, leaves0_4]
  rw [leaves_idle0_5 m c t h1 h1, leaves_idle0_6 m c t h1 h1, leaves_idle0_7 m c t h1 h1,
    leaves_idle0_8 m c t h0 h1, leaves_idle0_9 m c t h0 h1, leaves_idle0_10 m c t h0 h1,
    owes_succ, phi_succ, phi_castSucc, between_pos m c _ hz]
  unfold held
  iintro ⟨⟨⟨HS0, ⟨%s1, %hp, HS1⟩, HS2, HS3, HS4⟩, Hg⟩, Ho, ⟨%d0, H0⟩, ⟨%d1, H1⟩, ⟨%d2, H2⟩, ⟨%d3, H3⟩, ⟨%d4, H4⟩, H5, H6, H7, H8, H9, H10⟩
  iapply (middle c (grid0.coords t) _ _ _ _ _ _ _ _ _ _ _ _ _ _ _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) s1 (inputs m c) (pt t) (coord t) (blocks m c t) hp Set.univ _)
  isplitl [H0]; · iexact H0
  isplitl [H1]; · iexact H1
  isplitl [H2]; · iexact H2
  isplitl [H3]; · iexact H3
  isplitl [H4]; · iexact H4
  isplitl [HS0]; · iexact HS0
  isplitl [HS1]; · iexact HS1
  isplitl [HS2]; · iexact HS2
  isplitl [HS3]; · iexact HS3
  isplitl [HS4]; · iexact HS4
  iintro ⟨H0, H1, H2, H3, H4, HS0, HS1, HS2, HS3, HS4⟩
  isplitl [HS0 HS1 HS2 HS3 HS4 Hg]
  · isplitl [HS0 HS1 HS2 HS3 HS4]
    · isplitl [HS0]; · iexact HS0
      isplitl [HS1]; · iexact HS1
      isplitl [HS2]; · iexact HS2
      isplitl [HS3]; · iexact HS3
      iexact HS4
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

set_option maxHeartbeats 1600000 in
/-- The last point. -/
theorem body_last (c : Dev nD) (t : Fin cfg0.N) (h0 : ¬ t.val % 37 = 0) (h1 : t.val % 37 = 36) :
    bodyPre m c t ⊢ wp frame (wpE (defs₀ (F := Ideal)) Variants.none c none) Set.univ (bodyAt0 t) (fun _ => bodyPost m c t) := by
  have hz : t.val ≠ 0 := by omega
  have h36 : t.val = 36 := by have := pt_lt t; omega
  unfold bodyPre bodyPost bodyAt0
  simp only [before0_0, before0_1, before0_2, before0_3, before0_4, leaves0_0, leaves0_1, leaves0_2, leaves0_3, leaves0_4]
  rw [leaves_live0_5 m c t (.inl h1), leaves_live0_6 m c t (.inl h1), leaves_live0_7 m c t (.inl h1),
    leaves_live0_8 m c t (.inr h1), leaves_live0_9 m c t (.inr h1), leaves_live0_10 m c t (.inr h1),
    owes_succ, phi_succ, phi_castSucc, between_pos m c _ hz, h36]
  simp only [before_pos0_8 m c t h0, before_pos0_9 m c t h0, before_pos0_10 m c t h0]
  unfold held
  iintro ⟨⟨⟨HS0, ⟨%s1, %hp, HS1⟩, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (last c (grid0.coords t) _ _ _ _ _ _ _ _ _ _ _ _ _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) s1 (inputs m c) (pt t) h36 (coord t) (blocks m c t) (by rw [show (pt t).1 = 36 from h36]; exact hp) Set.univ _)
  rw [show (pt t).1 = 36 from h36]
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  isplitl [HS0]; · iexact HS0
  isplitl [HS1]; · iexact HS1
  isplitl [HS2]; · iexact HS2
  isplitl [HS3]; · iexact HS3
  isplitl [HS4]; · iexact HS4
  iintro ⟨H0, H1, H2, H3, H4, H5, H6, H7, HS0, HS1, HS2, HS3, HS4⟩
  isplitl [HS0 HS1 HS2 HS3 HS4 Hg]
  · isplitl [HS0 HS1 HS2 HS3 HS4]
    · isplitl [HS0]; · iexact HS0
      isplitl [HS1]; · iexact HS1
      isplitl [HS2]; · iexact HS2
      isplitl [HS3]; · iexact HS3
      iexact HS4
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

theorem sound_body (hX : ∀ c r k, ((inputs m c).X r k).toInt.natAbs < 2 ^ 23) (c : Dev nD) (t : Fin cfg0.N) :
    bodyPre m c t ⊢ wp frame (wpE (defs₀ (F := Ideal)) Variants.none c none) Set.univ (bodyAt0 t) (fun _ => bodyPost m c t) := by
  by_cases h0 : t.val % 37 = 0
  · exact body_first m hX c t h0
  by_cases h1 : t.val % 37 = 36
  · exact body_last m c t h0 h1
  · exact body_middle m c t h0 h1

/-- The body table's row at a point's slots is the body. -/
theorem defs₀_row (t : Fin cfg0.N) :
    defs₀ (F := Ideal) .tc cfg0.body (cfg0.bodyArgs t (cfg0.slots t)) = bodyAt0 t := by
  unfold defs₀; rw [Defs.onTc_tc]

theorem body_obligation (hX : ∀ c r k, ((inputs m c).X r k).toInt.natAbs < 2 ^ 23) (c : Dev nD) :
    BodyObligation (dats m 0 c) (defs₀ (F := Ideal)) Variants.none () Set.univ := fun t => by
  rw [bigSep_W0, bigSep_W0, defs₀_row]
  exact triple_restated (sound_body m hX c t) rfl .rfl fun _ => .rfl

end Cert.KernelIdeal.Val

end
-- ==== Proof.Launched.lean ====
/- The kernel run to the end: each output holds its final contents, and the arguments are unchanged. -/
module

public import proofs.«01_k».proof.Proof.Carry
public import Idealize.ShloMosaic.Lib.Pipeline.ValueKit.Geometry

@[expose] public section

set_option maxRecDepth 16384

noncomputable section

namespace Cert.KernelIdeal.Val

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen Cert.Swiglu

local notation "𝕄" => MT nD τ sig Unit (Elt Ideal) ℕ (UR sig nD τ) ℕ

variable (m : (ℓ : Loc nD τ sig) → Buf (Elt Ideal) ℓ) (ρ : Dev nD → PrngReg)

/-- What the launch hands the region is what it holds before the first point. -/
theorem hin (c : Dev nD) : Pipeline.ΦA spec0 c ⊢ (dats m 0 c).Φ 0 := by
  rw [show (dats m 0 c).Φ 0 = Pipeline.ΦA spec0 c from rfl]

/-- After the last point the contents are forgotten. -/
theorem hout (c : Dev nD) : (dats m 0 c).Φ (Fin.last cfg0.N) ⊢ Pipeline.ΦA spec0 c := by
  rw [show (dats m 0 c).Φ (Fin.last cfg0.N) = between m c cfg0.N from rfl, show cfg0.N = 37 from N_0,
    between_pos m c 37 (by decide), PhiA0_eq]
  unfold held
  iintro ⟨⟨HS0, ⟨%h, %hp, HS1⟩, HS2, HS3, HS4⟩, Hg⟩
  isplitl [HS0 HS1 HS2 HS3 HS4]
  · isplitl [HS0]; · iexists _; iexact HS0
    isplitl [HS1]; · iexists _; iexact HS1
    isplitl [HS2]; · iexists _; iexact HS2
    isplitl [HS3]; · iexists _; iexact HS3
    iexists _; iexact HS4
  iexact Hg

set_option backward.isDefEq.respectTransparency.types false in
/-- The run, with every array the pipeline stages at its final contents. -/
theorem run_main (hX : ∀ c r k, ((inputs m c).X r k).toInt.natAbs < 2 ^ 23) :
    θ_run defs (onTc (τ := τ) (main (F := Ideal))) (s₀ m ρ) (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m hX c).loose) (hshare := fun c => (dats m 0 c).share_full fun _ => rfl)
    (howed := fun _ _ => rfl) (V := V m) (hmain := hmain m Variants.none) (hA := A_eq m) (hin := hin m) (hout := hout m)

/-- The last grid point. -/
def lastPt : Fin cfg0.N := ⟨36, Nat.lt_of_lt_of_eq (by decide) N_0.symm⟩

theorem final5 (c : Dev nD) : (dats m 0 c).arrAt 5 cfg0.N = (inputs m c).hout := by
  refine (dats m 0 c).arrAt_eq_of_after_last 5 lastPt (by decide +kernel) _ fun j => ?_
  rw [after0_5]
  rfl
theorem final6 (c : Dev nD) : (dats m 0 c).arrAt 6 cfg0.N = (inputs m c).hmrow := by
  refine (dats m 0 c).arrAt_eq_of_after_last 6 lastPt (by decide +kernel) _ fun j => ?_
  rw [after0_6]
  rfl
theorem final7 (c : Dev nD) : (dats m 0 c).arrAt 7 cfg0.N = (inputs m c).herow := by
  refine (dats m 0 c).arrAt_eq_of_after_last 7 lastPt (by decide +kernel) _ fun j => ?_
  rw [after0_7]
  rfl
theorem final8 (c : Dev nD) : (dats m 0 c).arrAt 8 cfg0.N = (inputs m c).xout := by
  refine (dats m 0 c).arrAt_eq_of_after_last 8 lastPt (by decide +kernel) _ fun j => ?_
  rw [after0_8]
  rfl
theorem final9 (c : Dev nD) : (dats m 0 c).arrAt 9 cfg0.N = (inputs m c).mrow := by
  refine (dats m 0 c).arrAt_eq_of_after_last 9 lastPt (by decide +kernel) _ fun j => ?_
  rw [after0_9]
  rfl
theorem final10 (c : Dev nD) : (dats m 0 c).arrAt 10 cfg0.N = (inputs m c).erow := by
  refine (dats m 0 c).arrAt_eq_of_after_last 10 lastPt (by decide +kernel) _ fun j => ?_
  rw [after0_10]
  rfl

end Cert.KernelIdeal.Val

end
-- ==== Proof.Results.lean ====
/- The kernel's results and arguments after the run, from the arguments at launch. -/
module

public import proofs.«01_k».proof.Proof.Launched

@[expose] public section

set_option maxRecDepth 16384

noncomputable section

namespace Cert.KernelIdeal.Val

open Idealize.ShloMosaic Idealize.ShloMosaic.TcCoe Idealize.ShloMosaic.Tactic Idealize.SL.Sem
open Cert.KernelIdeal.Gen Cert.Swiglu

variable (m : (ℓ : Loc nD τ sig) → Buf (Elt Ideal) ℓ) (ρ : Dev nD → PrngReg)

/-- The reshaped activations. -/
theorem V_main_v0 (c : Dev nD) : V m c main_v0 = shapeCast S256x3584 (m ((c : Thread nD τ).loc main_arg0)) shapeCasts_S1x256x3584_S256x3584 := by
  show StableHlo.after hostOps0 (fun b => m (c, b)) (Proc.devRef .tc main_v0) = _
  unfold hostOps0
  after_results
  rfl
/-- The reshaped gate exponents. -/
theorem V_main_v1 (c : Dev nD) : V m c main_v1 = shapeCast S1x18944 (m ((c : Thread nD τ).loc main_arg3)) shapeCasts_S18944_S1x18944 := by
  show StableHlo.after hostOps0 (fun b => m (c, b)) (Proc.devRef .tc main_v1) = _
  unfold hostOps0
  after_results
  rfl
/-- The reshaped up exponents. -/
theorem V_main_v2 (c : Dev nD) : V m c main_v2 = shapeCast S1x18944 (m ((c : Thread nD τ).loc main_arg4)) shapeCasts_S18944_S1x18944 := by
  show StableHlo.after hostOps0 (fun b => m (c, b)) (Proc.devRef .tc main_v2) = _
  unfold hostOps0
  after_results
  rfl

/-- The inputs of the arrays as launched. -/
def launched (a0 : Vec Ideal S1x256x3584 .i32) (a1 a2 : Vec Ideal S3584x18944 .i8) (a3 a4 : Vec Ideal S18944 .i32) : Inputs where
  X r k := shapeCast S256x3584 a0 shapeCasts_S1x256x3584_S256x3584 (ix2 r k)
  Wg k j := a1 (ix2 k j)
  Wu k j := a2 (ix2 k j)
  eg j := shapeCast S1x18944 a3 shapeCasts_S18944_S1x18944 (ix2 0 j)
  eu j := shapeCast S1x18944 a4 shapeCasts_S18944_S1x18944 (ix2 0 j)

theorem launched_X (a0 : Vec Ideal S1x256x3584 .i32) (a1 a2 : Vec Ideal S3584x18944 .i8) (a3 a4 : Vec Ideal S18944 .i32)
    (h : ∀ i, (a0 i).toInt.natAbs < 2 ^ 23) (r : Fin 256) (k : Fin 3584) : ((launched a0 a1 a2 a3 a4).X r k).toInt.natAbs < 2 ^ 23 := h _

theorem inputs_eq (c : Dev nD) : inputs m c = launched (m ((c : Thread nD τ).loc main_arg0)) (m ((c : Thread nD τ).loc main_arg1))
    (m ((c : Thread nD τ).loc main_arg2)) (m ((c : Thread nD τ).loc main_arg3)) (m ((c : Thread nD τ).loc main_arg4)) := by
  unfold inputs launched
  rw [V_main_v0, V_main_v1, V_main_v2, V_main_arg1, V_main_arg2]

/-- The results. -/
theorem results (h : ∀ (c : Dev nD) i, (m ((c : Thread nD τ).loc main_arg0) i).toInt.natAbs < 2 ^ 23) :
    θ_run defs (onTc (τ := τ) (main (F := Ideal))) ⟨m, fun _ => 0, ρ⟩ (fun r => ∀ c : Dev nD,
      (r.2.mem ((c.tc : Thread nD τ).loc main_v3_0) = (inputs m c).hout
        ∧ r.2.mem ((c.tc : Thread nD τ).loc main_v3_1) = (inputs m c).hmrow
        ∧ r.2.mem ((c.tc : Thread nD τ).loc main_v3_2) = (inputs m c).herow
        ∧ r.2.mem ((c.tc : Thread nD τ).loc main_v3_3) = (inputs m c).xout
        ∧ r.2.mem ((c.tc : Thread nD τ).loc main_v3_4) = (inputs m c).mrow
        ∧ r.2.mem ((c.tc : Thread nD τ).loc main_v3_5) = (inputs m c).erow)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨
      ⟨(h.1.out_eq c 5).trans (final5 m c), (h.1.out_eq c 6).trans (final6 m c), (h.1.out_eq c 7).trans (final7 m c),
        (h.1.out_eq c 8).trans (final8 m c), (h.1.out_eq c 9).trans (final9 m c), (h.1.out_eq c 10).trans (final10 m c)⟩,
      (h.1.rest_eq c main_arg0 (Pipeline.mem_restRefs_of main_arg0 (by decide) (by decide))).trans (V_main_arg0 m c),
      (h.1.in_eq c 1 rfl).trans ((A_eq m c 1).trans (V_main_arg1 m c)),
      (h.1.in_eq c 2 rfl).trans ((A_eq m c 2).trans (V_main_arg2 m c)),
      (h.1.rest_eq c main_arg3 (Pipeline.mem_restRefs_of main_arg3 (by decide) (by decide))).trans (V_main_arg3 m c),
      (h.1.rest_eq c main_arg4 (Pipeline.mem_restRefs_of main_arg4 (by decide) (by decide))).trans (V_main_arg4 m c)⟩)
    (run_main m ρ fun c r k => by rw [inputs_eq]; exact launched_X _ _ _ _ _ (h c) r k)

end Cert.KernelIdeal.Val

end
-- ==== Proof.RefVal.lean ====
/- What the reference's body leaves in its six output buffers. -/
module

public import proofs.«01_k».proof.Proof.Gen.ReferenceIdeal.Frame
public import proofs.«01_k».proof.Proof.RefWords
public import Idealize.ShloMosaic.Lib.Pipeline.ValueKit.Basic

@[expose] public section

set_option maxRecDepth 16384

noncomputable section

namespace Cert.ReferenceIdeal.Val

open Idealize.ShloMosaic Idealize.SL.Sem Cert.ReferenceIdeal.Gen Cert.Swiglu

/-- The rows of a two-dimensional array. -/
abbrev rows {n k : ℕ} {α : Type} (x : (⟨2, ![n, k]⟩ : Shape).Idx → α) (r : Fin n) (c : Fin k) : α := x (ix2 r c)

section Quantiser

variable (v : Vec Ideal S256x3584 .i32) (hv : ∀ r k, (v (ix2 r k)).toInt.natAbs < 2 ^ 23)
include hv

theorem amax_word (r : Fin 256) : k0_pay8 (F := Ideal) v (ix2 r 0) = BitVec.ofNat 32 (xmax (rows v) r) := by
  pointwise [k0_pay8, k0_pay7, k0_pay6]
  exact reference_amax (fun k => v (ix2 r k)) (hv r)

theorem shift_word (r : Fin 256) : k0_pay10 (F := Ideal) v (ix2 r 0) = BitVec.ofNat 32 (22 - (xmax (rows v) r).log2) := by
  pointwise [k0_pay10, k0_pay9]
  rw [amax_word v hv]
  exact ref_shift (amax_pos _) (xmax_lt hv r)

theorem mant_word (r : Fin 256) : k0_pay11 (F := Ideal) v (ix2 r 0) = BitVec.ofNat 32 (mant (xmax (rows v) r)) := by
  pointwise [k0_pay11]
  rw [amax_word v hv, shift_word v hv]
  exact ref_mant (amax_pos _) (xmax_lt hv r)

theorem expo_word (r : Fin 256) : k0_pay12 (F := Ideal) v (ix2 r 0) = expo (xmax (rows v) r) := by
  pointwise [k0_pay12, k0_pay9]
  rw [amax_word v hv]
  exact ref_expo (amax_pos _) (xmax_lt hv r)

theorem den_word (r : Fin 256) : k0_pay13 (F := Ideal) v (ix2 r 0) = IntOp.shli .vector (BitVec.ofNat 32 (mant (xmax (rows v) r))) 8#32 := by
  pointwise [k0_pay13]
  rw [mant_word v hv]

theorem code_word (r : Fin 256) (k : Fin 3584) :
    k0_pay17 (F := Ideal) (k0_pay6 (F := Ideal) v) (k0_pay13 v) (k0_pay14 v) (k0_pay15 v) (k0_pay16 v) (ix2 r k) = BitVec.ofInt 8 (xcode (rows v) r k) := by
  pointwise [k0_pay17, k0_pay16, k0_pay15, k0_pay14, k0_pay7, k0_pay6]
  rw [den_word v hv, shift_word v hv]
  exact reference_clip (amax_pos _) (xmax_lt hv r) (natAbs_le_amax (fun k => (v (ix2 r k)).toInt) k)
    (ref_quot (amax_pos _) (xmax_lt hv r) (natAbs_le_amax (fun k => (v (ix2 r k)).toInt) k))

end Quantiser

theorem clip_comm (z : ℤ) : min 4095 (max (-4095) z) = max (-4095) (min 4095 z) := by omega

section Body

variable (x0 : Vec Ideal S256x3584 .i32) (x1 x2 : Vec Ideal S3584x18944 .i8) (x3 x4 : Vec Ideal S1x18944 .i32)
variable (hx : ∀ r k, (x0 (ix2 r k)).toInt.natAbs < 2 ^ 23)

/-- A row of a one-row array. -/
abbrev lane {k : ℕ} {α : Type} (x : (⟨2, ![1, k]⟩ : Shape).Idx → α) (c : Fin k) : α := x (ix2 0 c)

theorem ld0 : View.ld x0 r0_0 = x0 := View.ld_unit_zero (by funext a; fin_cases a <;> rfl) _ _
theorem ld1 (x : Vec Ideal S3584x18944 .i8) : View.ld x r0_1 = x := View.ld_unit_zero (by funext a; fin_cases a <;> rfl) _ _
theorem ld2 (x : Vec Ideal S1x18944 .i32) : View.ld x r0_2 = x := View.ld_unit_zero (by funext a; fin_cases a <;> rfl) _ _

theorem toInt_code8 {z : ℤ} (h1 : -127 ≤ z) (h2 : z ≤ 127) : (BitVec.ofInt 8 z).toInt = z := by
  rw [BitVec.toInt_ofInt, Int.bmod_eq_of_le] <;> omega

include hx

theorem gate_word (r : Fin 256) (j : Fin 18944) :
    k0_pay46 x0 x1 x2 x3 x4 (ix2 r j) = BitVec.ofInt 32 (proj (rows x0) (rows x1) (lane x3) r j) := by
  unfold k0_pay46 k0_pay45 k0_pay44 k0_pay42 k0_pay41 k0_pay40 k0_pay39 k0_pay38 k0_pay37 k0_pay36
  simp only [ld0, ld1, ld2]
  pointwise [k0_pay20, k0_pay19, k0_pay18]
  simp only [code_word x0 hx, mant_word x0 hx, expo_word x0 hx]
  rw [reference_dot (fun k => BitVec.ofInt 8 (xcode (rows x0) r k)) (fun k => x1 (ix2 k j))
    (fun k => by rw [xcode, toInt_code8 (code_bounds _ _).1 (code_bounds _ _).2]; exact code_bounds _ _), minsi_toInt, maxsi_toInt']
  simp only [xcode, toInt_code8 (code_bounds _ _).1 (code_bounds _ _).2]
  exact congrArg (BitVec.ofInt 32) (clip_comm _)

theorem up_word (r : Fin 256) (j : Fin 18944) :
    k0_pay47 x0 x1 x2 x3 x4 (ix2 r j) = BitVec.ofInt 32 (proj (rows x0) (rows x2) (lane x4) r j) := by
  unfold k0_pay47 k0_pay43 k0_pay42 k0_pay41 k0_pay40 k0_pay39 k0_pay38 k0_pay37 k0_pay36
  simp only [ld0, ld1, ld2]
  pointwise [k0_pay21, k0_pay19, k0_pay18]
  simp only [code_word x0 hx, mant_word x0 hx, expo_word x0 hx]
  rw [reference_dot (fun k => BitVec.ofInt 8 (xcode (rows x0) r k)) (fun k => x2 (ix2 k j))
    (fun k => by rw [xcode, toInt_code8 (code_bounds _ _).1 (code_bounds _ _).2]; exact code_bounds _ _), minsi_toInt, maxsi_toInt']
  simp only [xcode, toInt_code8 (code_bounds _ _).1 (code_bounds _ _).2]
  exact congrArg (BitVec.ofInt 32) (clip_comm _)

theorem gated_word (r : Fin 256) (j : Fin 18944) :
    k0_pay25 (F := Ideal) (k0_pay46 x0 x1 x2 x3 x4) (k0_pay47 x0 x1 x2 x3 x4) (k0_pay48 x0 x1 x2 x3 x4) (k0_pay49 x0 x1 x2 x3 x4) 4096#32 (ix2 r j) = BitVec.ofInt 32 (gated (rows x0) (rows x1) (rows x2) (lane x3) (lane x4) r j) := by
  unfold k0_pay49 k0_pay48
  pointwise [k0_pay25, k0_pay24, k0_pay23, k0_pay22]
  have hg : k0_pay20 (k0_pay44 x0 x1 x2 x3 x4) (k0_pay45 x0 x1 x2 x3 x4) (ix2 r j) = _ := gate_word x0 x1 x2 x3 x4 hx r j
  rw [hg, gate_word x0 x1 x2 x3 x4 hx, up_word x0 x1 x2 x3 x4 hx, ref_exp (proj_natAbs _ _ _ _ _) rfl]
  refine Eq.trans ?_ (ref_hval (proj_natAbs (rows x0) (rows x1) (lane x3) r j) (proj_natAbs (rows x0) (rows x2) (lane x4) r j))
  rw [← ref_silu (proj_natAbs (rows x0) (rows x1) (lane x3) r j)]
  rfl

theorem gated_toInt (r : Fin 256) (j : Fin 18944) :
    (k0_pay25 (F := Ideal) (k0_pay46 x0 x1 x2 x3 x4) (k0_pay47 x0 x1 x2 x3 x4) (k0_pay48 x0 x1 x2 x3 x4) (k0_pay49 x0 x1 x2 x3 x4) 4096#32 (ix2 r j)).toInt = (gated (rows x0) (rows x1) (rows x2) (lane x3) (lane x4) r j) := by
  have := gated_natAbs (rows x0) (rows x1) (rows x2) (lane x3) (lane x4) r j
  rw [gated_word x0 x1 x2 x3 x4 hx, toInt_ofInt_small (by omega) (by omega)]

theorem gmax_word (r : Fin 256) :
    k0_pay27 (F := Ideal) (k0_pay46 x0 x1 x2 x3 x4) (k0_pay47 x0 x1 x2 x3 x4) (k0_pay48 x0 x1 x2 x3 x4) (k0_pay49 x0 x1 x2 x3 x4) 4096#32 (ix2 r 0) = BitVec.ofNat 32 (gmax (rows x0) (rows x1) (rows x2) (lane x3) (lane x4) r) := by
  have hb := fun j => gated_natAbs (rows x0) (rows x1) (rows x2) (lane x3) (lane x4) r j
  pointwise [k0_pay27, k0_pay26]
  rw [reference_amax (fun j => k0_pay25 (F := Ideal) (k0_pay46 x0 x1 x2 x3 x4) (k0_pay47 x0 x1 x2 x3 x4) (k0_pay48 x0 x1 x2 x3 x4) (k0_pay49 x0 x1 x2 x3 x4) 4096#32 (ix2 r j))
    (fun j => by rw [gated_toInt x0 x1 x2 x3 x4 hx]; have := hb j; omega)]
  simp only [gated_toInt x0 x1 x2 x3 x4 hx]
  rfl

theorem gshift_word (r : Fin 256) :
    k0_pay29 (F := Ideal) (k0_pay46 x0 x1 x2 x3 x4) (k0_pay47 x0 x1 x2 x3 x4) (k0_pay48 x0 x1 x2 x3 x4) (k0_pay49 x0 x1 x2 x3 x4) 4096#32 (ix2 r 0) = BitVec.ofNat 32 (22 - ((gmax (rows x0) (rows x1) (rows x2) (lane x3) (lane x4) r)).log2) := by
  pointwise [k0_pay29, k0_pay28]
  rw [gmax_word x0 x1 x2 x3 x4 hx]
  exact ref_shift (amax_pos _) (((gmax_lt _ _ _ _ _ _)).trans (by norm_num))

theorem gmant_word (r : Fin 256) :
    k0_pay32 (F := Ideal) (k0_pay51 x0 x1 x2 x3 x4) (k0_pay52 x0 x1 x2 x3 x4) (ix2 r 0) = BitVec.ofNat 32 (mant (gmax (rows x0) (rows x1) (rows x2) (lane x3) (lane x4) r)) := by
  unfold k0_pay51 k0_pay52
  pointwise [k0_pay32, k0_pay30, k0_pay31]
  rw [gmax_word x0 x1 x2 x3 x4 hx, gshift_word x0 x1 x2 x3 x4 hx]
  exact ref_mant (amax_pos _) (((gmax_lt _ _ _ _ _ _)).trans (by norm_num))

theorem gexpo_word (r : Fin 256) :
    k0_pay33 (k0_pay28 (F := Ideal) (k0_pay46 x0 x1 x2 x3 x4) (k0_pay47 x0 x1 x2 x3 x4) (k0_pay48 x0 x1 x2 x3 x4) (k0_pay49 x0 x1 x2 x3 x4) 4096#32) (ix2 r 0) = expo (gmax (rows x0) (rows x1) (rows x2) (lane x3) (lane x4) r) := by
  pointwise [k0_pay33, k0_pay28]
  rw [gmax_word x0 x1 x2 x3 x4 hx]
  exact ref_expo (amax_pos _) (((gmax_lt _ _ _ _ _ _)).trans (by norm_num))

/-- The hidden codes. -/
theorem out5 (r : Fin 256) (j : Fin 18944) :
    out0_5 x0 x1 x2 x3 x4 (ix2 r j) = BitVec.ofInt 8 (code (gmax (rows x0) (rows x1) (rows x2) (lane x3) (lane x4) r) (gated (rows x0) (rows x1) (rows x2) (lane x3) (lane x4) r j)) := by
  unfold out0_5
  rw [show k0_pay50 x0 x1 x2 x3 x4 = k0_pay25 (F := Ideal) (k0_pay46 x0 x1 x2 x3 x4) (k0_pay47 x0 x1 x2 x3 x4) (k0_pay48 x0 x1 x2 x3 x4) (k0_pay49 x0 x1 x2 x3 x4) 4096#32 from rfl]
  refine (congrFun (View.canon_unit_zero (by funext a; fin_cases a <;> rfl) _ _) _).trans ?_
  pointwise [k0_pay1, k0_pay34, k0_pay35, k0_pay26]
  rw [gmant_word x0 x1 x2 x3 x4 hx, gshift_word x0 x1 x2 x3 x4 hx]
  have hh := gated_toInt x0 x1 x2 x3 x4 hx r j
  have hl : (k0_pay25 (F := Ideal) (k0_pay46 x0 x1 x2 x3 x4) (k0_pay47 x0 x1 x2 x3 x4) (k0_pay48 x0 x1 x2 x3 x4) (k0_pay49 x0 x1 x2 x3 x4) 4096#32 (ix2 r j)).toInt.natAbs ≤ (gmax (rows x0) (rows x1) (rows x2) (lane x3) (lane x4) r) := by
    rw [hh]; exact natAbs_le_amax _ j
  refine (reference_clip (amax_pos _) (((gmax_lt _ _ _ _ _ _)).trans (by norm_num)) hl
    (ref_quot (amax_pos _) (((gmax_lt _ _ _ _ _ _)).trans (by norm_num)) hl)).trans ?_
  rw [hh]
  rfl

/-- The hidden mantissas. -/
theorem out6 (r : Fin 256) : out0_6 x0 x1 x2 x3 x4 (ix2 0 r) = BitVec.ofNat 32 (mant (gmax (rows x0) (rows x1) (rows x2) (lane x3) (lane x4) r)) := by
  unfold out0_6
  refine (congrFun (View.canon_unit_zero (by funext a; fin_cases a <;> rfl) _ _) _).trans ?_
  pointwise [k0_pay2]
  exact gmant_word x0 x1 x2 x3 x4 hx r

/-- The hidden exponents. -/
theorem out7 (r : Fin 256) : out0_7 x0 x1 x2 x3 x4 (ix2 0 r) = expo (gmax (rows x0) (rows x1) (rows x2) (lane x3) (lane x4) r) := by
  unfold out0_7
  refine (congrFun (View.canon_unit_zero (by funext a; fin_cases a <;> rfl) _ _) _).trans ?_
  pointwise [k0_pay3]
  exact gexpo_word x0 x1 x2 x3 x4 hx r

/-- The activation codes. -/
theorem out8 (r : Fin 256) (k : Fin 3584) : out0_8 x0 x1 x2 x3 x4 (ix2 r k) = BitVec.ofInt 8 (xcode (rows x0) r k) := by
  unfold out0_8 k0_pay43 k0_pay42 k0_pay41 k0_pay40 k0_pay39 k0_pay36
  simp only [ld0]
  refine (congrFun (View.canon_unit_zero (by funext a; fin_cases a <;> rfl) _ _) _).trans ?_
  exact code_word x0 hx r k

/-- The activation mantissas. -/
theorem out9 (r : Fin 256) : out0_9 x0 x1 x2 x3 x4 (ix2 0 r) = BitVec.ofNat 32 (mant (xmax (rows x0) r)) := by
  unfold out0_9 k0_pay37
  simp only [ld0]
  refine (congrFun (View.canon_unit_zero (by funext a; fin_cases a <;> rfl) _ _) _).trans ?_
  pointwise [k0_pay4]
  exact mant_word x0 hx r

/-- The activation exponents. -/
theorem out10 (r : Fin 256) : out0_10 x0 x1 x2 x3 x4 (ix2 0 r) = expo (xmax (rows x0) r) := by
  unfold out0_10 k0_pay38
  simp only [ld0]
  refine (congrFun (View.canon_unit_zero (by funext a; fin_cases a <;> rfl) _ _) _).trans ?_
  pointwise [k0_pay5]
  exact expo_word x0 hx r

end Body

end Cert.ReferenceIdeal.Val

end
-- ==== Proof.RefResults.lean ====
/- The reference's results and arguments after its run, from the arguments at launch. -/
module

public import proofs.«01_k».proof.Proof.RefVal
public import proofs.«01_k».proof.Proof.Results

@[expose] public section

set_option maxRecDepth 16384

noncomputable section

namespace Cert.ReferenceIdeal.Val

open Idealize.ShloMosaic Idealize.ShloMosaic.TcCoe Idealize.ShloMosaic.Tactic Idealize.SL.Sem
open Cert.ReferenceIdeal Cert.ReferenceIdeal.Gen Cert.Swiglu
open Cert.KernelIdeal.Val (Inputs launched launched_X eq_mk2 mk2)

variable (m : (ℓ : Loc nD τ sig) → Buf (Elt Ideal) ℓ) (ρ : Dev nD → PrngReg)

/-- The reshaped activations. -/
theorem V_main_v0 (c : Dev nD) : V m c main_v0 = shapeCast S256x3584 (m ((c : Thread nD τ).loc main_arg0)) shapeCasts_S1x256x3584_S256x3584 := by
  show StableHlo.after hostOps0 (fun b => m (c, b)) (Proc.devRef .tc main_v0) = _
  unfold hostOps0
  after_results
  rfl
/-- The reshaped gate exponents. -/
theorem V_main_v1 (c : Dev nD) : V m c main_v1 = shapeCast S1x18944 (m ((c : Thread nD τ).loc main_arg3)) shapeCasts_S18944_S1x18944 := by
  show StableHlo.after hostOps0 (fun b => m (c, b)) (Proc.devRef .tc main_v1) = _
  unfold hostOps0
  after_results
  rfl
/-- The reshaped up exponents. -/
theorem V_main_v2 (c : Dev nD) : V m c main_v2 = shapeCast S1x18944 (m ((c : Thread nD τ).loc main_arg4)) shapeCasts_S18944_S1x18944 := by
  show StableHlo.after hostOps0 (fun b => m (c, b)) (Proc.devRef .tc main_v2) = _
  unfold hostOps0
  after_results
  rfl

theorem index0 : ∀ t : Fin cfg0.N, win0_0.index t (0 : Fin 2) = 0 ∧ win0_0.index t (1 : Fin 2) = 0 := (by decide +kernel : ∀ t : Fin grid0.N, _)
theorem index1 : ∀ t : Fin cfg0.N, win0_1.index t (0 : Fin 2) = 0 ∧ win0_1.index t (1 : Fin 2) = 0 := (by decide +kernel : ∀ t : Fin grid0.N, _)
theorem index2 : ∀ t : Fin cfg0.N, win0_2.index t (0 : Fin 2) = 0 ∧ win0_2.index t (1 : Fin 2) = 0 := (by decide +kernel : ∀ t : Fin grid0.N, _)
theorem index3 : ∀ t : Fin cfg0.N, win0_3.index t (0 : Fin 2) = 0 ∧ win0_3.index t (1 : Fin 2) = 0 := (by decide +kernel : ∀ t : Fin grid0.N, _)
theorem index4 : ∀ t : Fin cfg0.N, win0_4.index t (0 : Fin 2) = 0 ∧ win0_4.index t (1 : Fin 2) = 0 := (by decide +kernel : ∀ t : Fin grid0.N, _)

/-! Every window is its whole array. -/

theorem iblk0_eq (c : Dev nD) (t : Fin cfg0.N) : iblk m c 0 t = V m c main_v0 := by
  funext j
  show V m c main_v0 (((cfg0.win 0).blk t).view.emb j) = V m c main_v0 j
  congr 1
  refine funext (Fin.forall_fin_two.mpr ⟨Fin.ext ?_, Fin.ext ?_⟩)
  · show win0_0.index t (0 : Fin 2) * 256 + 1 * (j (0 : Fin 2)).val = (j (0 : Fin 2)).val
    rw [(index0 t).1, Nat.zero_mul, Nat.one_mul, Nat.zero_add]
  · show win0_0.index t (1 : Fin 2) * 3584 + 1 * (j (1 : Fin 2)).val = (j (1 : Fin 2)).val
    rw [(index0 t).2, Nat.zero_mul, Nat.one_mul, Nat.zero_add]

theorem iblk1_eq (c : Dev nD) (t : Fin cfg0.N) : iblk m c 1 t = V m c main_arg1 := by
  funext j
  show V m c main_arg1 (((cfg0.win 1).blk t).view.emb j) = V m c main_arg1 j
  congr 1
  refine funext (Fin.forall_fin_two.mpr ⟨Fin.ext ?_, Fin.ext ?_⟩)
  · show win0_1.index t (0 : Fin 2) * 3584 + 1 * (j (0 : Fin 2)).val = (j (0 : Fin 2)).val
    rw [(index1 t).1, Nat.zero_mul, Nat.one_mul, Nat.zero_add]
  · show win0_1.index t (1 : Fin 2) * 18944 + 1 * (j (1 : Fin 2)).val = (j (1 : Fin 2)).val
    rw [(index1 t).2, Nat.zero_mul, Nat.one_mul, Nat.zero_add]

theorem iblk2_eq (c : Dev nD) (t : Fin cfg0.N) : iblk m c 2 t = V m c main_arg2 := by
  funext j
  show V m c main_arg2 (((cfg0.win 2).blk t).view.emb j) = V m c main_arg2 j
  congr 1
  refine funext (Fin.forall_fin_two.mpr ⟨Fin.ext ?_, Fin.ext ?_⟩)
  · show win0_2.index t (0 : Fin 2) * 3584 + 1 * (j (0 : Fin 2)).val = (j (0 : Fin 2)).val
    rw [(index2 t).1, Nat.zero_mul, Nat.one_mul, Nat.zero_add]
  · show win0_2.index t (1 : Fin 2) * 18944 + 1 * (j (1 : Fin 2)).val = (j (1 : Fin 2)).val
    rw [(index2 t).2, Nat.zero_mul, Nat.one_mul, Nat.zero_add]

theorem iblk3_eq (c : Dev nD) (t : Fin cfg0.N) : iblk m c 3 t = V m c main_v1 := by
  funext j
  show V m c main_v1 (((cfg0.win 3).blk t).view.emb j) = V m c main_v1 j
  congr 1
  refine funext (Fin.forall_fin_two.mpr ⟨Fin.ext ?_, Fin.ext ?_⟩)
  · show win0_3.index t (0 : Fin 2) * 1 + 1 * (j (0 : Fin 2)).val = (j (0 : Fin 2)).val
    rw [(index3 t).1, Nat.zero_mul, Nat.one_mul, Nat.zero_add]
  · show win0_3.index t (1 : Fin 2) * 18944 + 1 * (j (1 : Fin 2)).val = (j (1 : Fin 2)).val
    rw [(index3 t).2, Nat.zero_mul, Nat.one_mul, Nat.zero_add]

theorem iblk4_eq (c : Dev nD) (t : Fin cfg0.N) : iblk m c 4 t = V m c main_v2 := by
  funext j
  show V m c main_v2 (((cfg0.win 4).blk t).view.emb j) = V m c main_v2 j
  congr 1
  refine funext (Fin.forall_fin_two.mpr ⟨Fin.ext ?_, Fin.ext ?_⟩)
  · show win0_4.index t (0 : Fin 2) * 1 + 1 * (j (0 : Fin 2)).val = (j (0 : Fin 2)).val
    rw [(index4 t).1, Nat.zero_mul, Nat.one_mul, Nat.zero_add]
  · show win0_4.index t (1 : Fin 2) * 18944 + 1 * (j (1 : Fin 2)).val = (j (1 : Fin 2)).val
    rw [(index4 t).2, Nat.zero_mul, Nat.one_mul, Nat.zero_add]

/-- The reference's inputs. -/
def inputs (c : Dev nD) : Inputs := launched (m ((c : Thread nD τ).loc main_arg0)) (m ((c : Thread nD τ).loc main_arg1))
    (m ((c : Thread nD τ).loc main_arg2)) (m ((c : Thread nD τ).loc main_arg3)) (m ((c : Thread nD τ).loc main_arg4))

section

variable (c : Dev nD) (h : ∀ i, (m ((c : Thread nD τ).loc main_arg0) i).toInt.natAbs < 2 ^ 23)

theorem rows_eq : rows (V m c main_v0) = (inputs m c).X := by rw [V_main_v0]; rfl
theorem gates_eq : rows (V m c main_arg1) = (inputs m c).Wg := by rw [V_main_arg1]; rfl
theorem ups_eq : rows (V m c main_arg2) = (inputs m c).Wu := by rw [V_main_arg2]; rfl
theorem gexp_eq : lane (V m c main_v1) = (inputs m c).eg := by rw [V_main_v1]; rfl
theorem uexp_eq : lane (V m c main_v2) = (inputs m c).eu := by rw [V_main_v2]; rfl

theorem eq_row {α : Type} {q : ℕ} {x : (⟨2, ![1, q]⟩ : Shape).Idx → α} {f : Fin q → α} (h : ∀ b, x (ix2 0 b) = f b) : x = mk2 (fun _ b => f b) :=
  eq_mk2 fun a b => by obtain rfl : a = 0 := Subsingleton.elim _ _; exact h b

/-- The one grid point. -/
def onePt : Fin cfg0.N := ⟨0, by decide⟩

include h

theorem bound (r : Fin 256) (k : Fin 3584) : (V m c main_v0 (ix2 r k)).toInt.natAbs < 2 ^ 23 := by
  rw [V_main_v0]; exact launched_X _ (m ((c : Thread nD τ).loc main_arg1)) (m ((c : Thread nD τ).loc main_arg2)) (m ((c : Thread nD τ).loc main_arg3)) (m ((c : Thread nD τ).loc main_arg4)) h r k

theorem result5 : out0_5 (V m c main_v0) (V m c main_arg1) (V m c main_arg2) (V m c main_v1) (V m c main_v2) = (inputs m c).hout := by
  refine (eq_mk2 (out5 _ _ _ _ _ (bound m c h))).trans ?_
  rw [rows_eq, gates_eq, ups_eq, gexp_eq, uexp_eq]
  rfl
theorem final5 : (dats m 0 c).arrAt 5 cfg0.N = (inputs m c).hout := by
  refine (dats m 0 c).arrAt_eq_of_after_last 5 onePt (by decide +kernel) _ fun j => ?_
  rw [after0_5, iblk0_eq, iblk1_eq, iblk2_eq, iblk3_eq, iblk4_eq, result5 m c h]
  rfl
theorem result6 : out0_6 (V m c main_v0) (V m c main_arg1) (V m c main_arg2) (V m c main_v1) (V m c main_v2) = (inputs m c).hmrow := by
  refine (eq_row (out6 _ _ _ _ _ (bound m c h))).trans ?_
  rw [rows_eq, gates_eq, ups_eq, gexp_eq, uexp_eq]
  rfl
theorem final6 : (dats m 0 c).arrAt 6 cfg0.N = (inputs m c).hmrow := by
  refine (dats m 0 c).arrAt_eq_of_after_last 6 onePt (by decide +kernel) _ fun j => ?_
  rw [after0_6, iblk0_eq, iblk1_eq, iblk2_eq, iblk3_eq, iblk4_eq, result6 m c h]
  rfl
theorem result7 : out0_7 (V m c main_v0) (V m c main_arg1) (V m c main_arg2) (V m c main_v1) (V m c main_v2) = (inputs m c).herow := by
  refine (eq_row (out7 _ _ _ _ _ (bound m c h))).trans ?_
  rw [rows_eq, gates_eq, ups_eq, gexp_eq, uexp_eq]
  rfl
theorem final7 : (dats m 0 c).arrAt 7 cfg0.N = (inputs m c).herow := by
  refine (dats m 0 c).arrAt_eq_of_after_last 7 onePt (by decide +kernel) _ fun j => ?_
  rw [after0_7, iblk0_eq, iblk1_eq, iblk2_eq, iblk3_eq, iblk4_eq, result7 m c h]
  rfl
theorem result8 : out0_8 (V m c main_v0) (V m c main_arg1) (V m c main_arg2) (V m c main_v1) (V m c main_v2) = (inputs m c).xout := by
  refine (eq_mk2 (out8 _ _ _ _ _ (bound m c h))).trans ?_
  rw [rows_eq]
  rfl
theorem final8 : (dats m 0 c).arrAt 8 cfg0.N = (inputs m c).xout := by
  refine (dats m 0 c).arrAt_eq_of_after_last 8 onePt (by decide +kernel) _ fun j => ?_
  rw [after0_8, iblk0_eq, iblk1_eq, iblk2_eq, iblk3_eq, iblk4_eq, result8 m c h]
  rfl
theorem result9 : out0_9 (V m c main_v0) (V m c main_arg1) (V m c main_arg2) (V m c main_v1) (V m c main_v2) = (inputs m c).mrow := by
  refine (eq_row (out9 _ _ _ _ _ (bound m c h))).trans ?_
  rw [rows_eq]
  rfl
theorem final9 : (dats m 0 c).arrAt 9 cfg0.N = (inputs m c).mrow := by
  refine (dats m 0 c).arrAt_eq_of_after_last 9 onePt (by decide +kernel) _ fun j => ?_
  rw [after0_9, iblk0_eq, iblk1_eq, iblk2_eq, iblk3_eq, iblk4_eq, result9 m c h]
  rfl
theorem result10 : out0_10 (V m c main_v0) (V m c main_arg1) (V m c main_arg2) (V m c main_v1) (V m c main_v2) = (inputs m c).erow := by
  refine (eq_row (out10 _ _ _ _ _ (bound m c h))).trans ?_
  rw [rows_eq]
  rfl
theorem final10 : (dats m 0 c).arrAt 10 cfg0.N = (inputs m c).erow := by
  refine (dats m 0 c).arrAt_eq_of_after_last 10 onePt (by decide +kernel) _ fun j => ?_
  rw [after0_10, iblk0_eq, iblk1_eq, iblk2_eq, iblk3_eq, iblk4_eq, result10 m c h]
  rfl

end

/-- The results. -/
theorem results (h : ∀ (c : Dev nD) i, (m ((c : Thread nD τ).loc main_arg0) i).toInt.natAbs < 2 ^ 23) :
    θ_run defs (onTc (τ := τ) (main (F := Ideal))) ⟨m, fun _ => 0, ρ⟩ (fun r => ∀ c : Dev nD,
      (r.2.mem ((c.tc : Thread nD τ).loc main_v3_0) = (inputs m c).hout
        ∧ r.2.mem ((c.tc : Thread nD τ).loc main_v3_1) = (inputs m c).hmrow
        ∧ r.2.mem ((c.tc : Thread nD τ).loc main_v3_2) = (inputs m c).herow
        ∧ r.2.mem ((c.tc : Thread nD τ).loc main_v3_3) = (inputs m c).xout
        ∧ r.2.mem ((c.tc : Thread nD τ).loc main_v3_4) = (inputs m c).mrow
        ∧ r.2.mem ((c.tc : Thread nD τ).loc main_v3_5) = (inputs m c).erow)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ hr c => ⟨
      ⟨(hr.out_eq c 5).trans (final5 m c (h c)), (hr.out_eq c 6).trans (final6 m c (h c)), (hr.out_eq c 7).trans (final7 m c (h c)),
        (hr.out_eq c 8).trans (final8 m c (h c)), (hr.out_eq c 9).trans (final9 m c (h c)), (hr.out_eq c 10).trans (final10 m c (h c))⟩,
      (hr.rest_eq c main_arg0 (Pipeline.mem_restRefs_of main_arg0 (by decide) (by decide))).trans (V_main_arg0 m c),
      (hr.in_eq c 1 rfl).trans ((A_eq m c 1).trans (V_main_arg1 m c)),
      (hr.in_eq c 2 rfl).trans ((A_eq m c 2).trans (V_main_arg2 m c)),
      (hr.rest_eq c main_arg3 (Pipeline.mem_restRefs_of main_arg3 (by decide) (by decide))).trans (V_main_arg3 m c),
      (hr.rest_eq c main_arg4 (Pipeline.mem_restRefs_of main_arg4 (by decide) (by decide))).trans (V_main_arg4 m c)⟩)
    (run_main m ρ)

end Cert.ReferenceIdeal.Val

end
-- ==== Proof.lean ====
/- The certificate. Every frame is proved at any value of the floats; the idealization rewrote no operation;
   and from arguments within range the kernel and the reference leave the same six results. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame
public import proofs.«01_k».proof.Proof.Gen.Pre_in_range
public import proofs.«01_k».proof.Proof.Kernel.AnyValue
public import proofs.«01_k».proof.Proof.AnyValue
public import proofs.«01_k».proof.Proof.Results
public import proofs.«01_k».proof.Proof.RefResults
public import Idealize.ShloMosaic.Adequacy
public import Idealize.ShloMosaic.Init

@[expose] public section

noncomputable section

namespace Cert.Proof

open Idealize.ShloMosaic Idealize.ShloMosaic.TcCoe Idealize.SL.Sem

/-- A word strictly between the two bounds is below `2 ^ 23` in size. -/
theorem word_bound (x : BitVec 32) (h : IntOp.andi (IntOp.cmpi .sgt x 4286578688#32) (IntOp.cmpi .slt x 8388608#32) = 1#1) :
    x.toInt.natAbs < 2 ^ 23 := by
  have e : ((4286578688#32).slt x && x.slt 8388608#32) = true := by
    revert h
    show BitVec.ofBool ((4286578688#32).slt x) &&& BitVec.ofBool (x.slt 8388608#32) = 1#1 → _
    cases (4286578688#32).slt x <;> cases x.slt 8388608#32 <;> decide
  rw [Bool.and_eq_true, BitVec.slt_iff_toInt_lt, BitVec.slt_iff_toInt_lt] at e
  have a : (4286578688#32).toInt = -8388608 := by decide
  have b : (8388608#32).toInt = 8388608 := by decide
  omega

/-- The precondition bounds every activation word. -/
theorem in_range (x : IVec Cert.Pre_in_range.S1x256x3584 32) (a1 a2 : IVec Cert.Pre_in_range.S3584x18944 8) (a3 a4 : IVec Cert.Pre_in_range.S18944 32)
    (h : Cert.Pre_in_range.fn (F := Ideal) x a1 a2 a3 a4 = fun _ => 1#1) (i : Cert.Pre_in_range.S1x256x3584.Idx) : (x i).toInt.natAbs < 2 ^ 23 :=
  word_bound _ (congrFun h i)

/-- The two programs leave the same results. -/
theorem algebraic : Cert.algebraic_KernelIdeal_ReferenceIdeal_pre_in_range := by
  intro m g m' g' hp hm
  have hk : ∀ (c : Dev Cert.KernelIdeal.nD) i,
      (m ((c : Thread Cert.KernelIdeal.nD Cert.KernelIdeal.τ).loc Cert.KernelIdeal.main_arg0) i).toInt.natAbs < 2 ^ 23 :=
    fun c i => in_range _ _ _ _ _ (hp c) i
  have hr : ∀ (c : Dev Cert.ReferenceIdeal.nD) i,
      (m' ((c : Thread Cert.ReferenceIdeal.nD Cert.ReferenceIdeal.τ).loc Cert.ReferenceIdeal.main_arg0) i).toInt.natAbs < 2 ^ 23 :=
    fun c i => (congrArg (fun x : BitVec 32 => x.toInt.natAbs) (congrFun (hm c).1 i)).trans_lt (hk c i)
  have e : ∀ c : Dev Cert.KernelIdeal.nD, Cert.ReferenceIdeal.Val.inputs m' c = Cert.KernelIdeal.Val.inputs m c := fun c => by
    obtain ⟨h0, h1, h2, h3, h4⟩ := hm c
    rw [Cert.KernelIdeal.Val.inputs_eq, Cert.ReferenceIdeal.Val.inputs, h0, h1, h2, h3, h4]
  refine ⟨fun c => (Cert.KernelIdeal.Val.inputs m c).hout, fun c => (Cert.KernelIdeal.Val.inputs m c).hmrow,
    fun c => (Cert.KernelIdeal.Val.inputs m c).herow, fun c => (Cert.KernelIdeal.Val.inputs m c).xout,
    fun c => (Cert.KernelIdeal.Val.inputs m c).mrow, fun c => (Cert.KernelIdeal.Val.inputs m c).erow, ?_, ?_⟩
  · refine (θ_run _ _ _).mono (fun r h c => ?_) (Cert.KernelIdeal.Val.results m g hk)
    obtain ⟨⟨r0, r1, r2, r3, r4, r5⟩, ra⟩ := h c
    exact ⟨r0, r1, r2, r3, r4, r5, ra⟩
  · refine (θ_run _ _ _).mono (fun r h c => ?_) (Cert.ReferenceIdeal.Val.results m' g' hr)
    obtain ⟨⟨r0, r1, r2, r3, r4, r5⟩, ra⟩ := h c
    rw [e c] at r0 r1 r2 r3 r4 r5
    exact ⟨r0, r1, r2, r3, r4, r5, ra⟩

/-- Everything claimed. -/
theorem claim : Cert.Claim :=
  ⟨Cert.Kernel.Gen.facts, Cert.KernelIdeal.Gen.facts, Cert.ReferenceIdeal.Gen.facts, Cert.Pre_in_range.Gen.facts,
    fun m ρ _ => Cert.Kernel.AnyValue.frame m ρ, fun m ρ _ => Cert.KernelIdeal.AnyValue.frame m ρ,
    fun m ρ _ => Cert.KernelIdeal.AnyValue.frame m ρ, fun m ρ _ => Cert.ReferenceIdeal.Gen.frame m ρ,
    fun m ρ _ => Cert.ReferenceIdeal.Gen.frame m ρ, trivial, algebraic⟩

end Cert.Proof

end
